-- ==== Defs.lean ====
def Pre_Kernel [hPre_graphs_in_order : Cert.Pre_graphs_in_order.Facts] (m : (ℓ : Loc Cert.Kernel.nD Cert.Kernel.τ Cert.Kernel.sig) → Buf (Elt Bits) ℓ) : Prop :=
  ∀ c : Dev Cert.Kernel.nD,
    (Cert.Pre_graphs_in_order.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_graphs_in_order : Cert.Pre_graphs_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_graphs_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_graphs_in_order [hPre_graphs_in_order : Cert.Pre_graphs_in_order.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_graphs_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] [hPre_graphs_in_order : Cert.Pre_graphs_in_order.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] [hPre_graphs_in_order : Cert.Pre_graphs_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_graphs_in_order [hReferenceIdeal : Cert.ReferenceIdeal.Facts] [hPre_graphs_in_order : Cert.Pre_graphs_in_order.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_graphs_in_order m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_graphs_in_order : Cert.Pre_graphs_in_order.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v648) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_graphs_in_order : Cert.Pre_graphs_in_order.Facts),
    quiescent_Kernel (hKernel := hKernel) (hPre_graphs_in_order := hPre_graphs_in_order)
    ∧ quiescent_KernelIdeal (hKernelIdeal := hKernelIdeal) (hPre_graphs_in_order := hPre_graphs_in_order)
    ∧ quiescent_ReferenceIdeal (hReferenceIdeal := hReferenceIdeal)
    ∧ quiescent_ReferenceIdeal_pre_graphs_in_order (hReferenceIdeal := hReferenceIdeal) (hPre_graphs_in_order := hPre_graphs_in_order)
    ∧ preserves_Kernel_KernelIdeal
    ∧ algebraic_KernelIdeal_ReferenceIdeal (hKernelIdeal := hKernelIdeal) (hReferenceIdeal := hReferenceIdeal) (hPre_graphs_in_order := hPre_graphs_in_order)
-- ==== Pre_graphs_in_order.lean ====
abbrev S100000x128 : Shape := ⟨2, ![100000, 128]⟩
abbrev S1600000 : Shape := ⟨1, ![1600000]⟩
abbrev S100000 : Shape := ⟨1, ![100000]⟩
abbrev S12x128x1 : Shape := ⟨3, ![12, 128, 1]⟩
abbrev S12x1 : Shape := ⟨2, ![12, 1]⟩
abbrev S12x128x128 : Shape := ⟨3, ![12, 128, 128]⟩
abbrev S12x128 : Shape := ⟨2, ![12, 128]⟩
abbrev S1 : Shape := ⟨1, ![1]⟩
abbrev S99999 : Shape := ⟨1, ![99999]⟩
abbrev S_ : Shape := ⟨0, ![]⟩

class Facts : Prop where
  slices_S100000_S1_0 : S100000.Slices ![0] S1
  slices_S100000_S99999_0 : S100000.Slices ![0] S99999
  concatenates_S1_S99999_S100000_d0 : Shape.Concatenates [S1, S99999] S100000 0
  bcast_S_S100000 : S_.BroadcastsInDim S100000 (![] : Fin 0 → Fin S100000.rank)

variable [Facts]

def fn {F : FTy → Type} [FloatOps F] (main_arg0 : FVec F S100000x128 .f32) (main_arg1 : IVec S1600000 32) (main_arg2 : IVec S100000 32) (main_arg3 : FVec F S12x128x1 .f32) (main_arg4 : FVec F S12x1 .f32) (main_arg5 : FVec F S12x128x128 .f32) (main_arg6 : FVec F S12x128 .f32) (main_arg7 : FVec F S12x128x128 .f32) (main_arg8 : FVec F S12x128 .f32) (main_arg9 : FVec F S12x128x128 .f32) (main_arg10 : FVec F S12x128 .f32) (main_arg11 : FVec F S12x128x1 .f32) (main_arg12 : FVec F S12x1 .f32) : IVec S100000 1 :=
  let main_v0 : IVec S1 32 := (extractStridedSlice S1 ![0] · slices_S100000_S1_0) main_arg2
  let main_v1 : IVec S99999 32 := (extractStridedSlice S99999 ![0] · slices_S100000_S99999_0) main_arg2
  let main_v2 : IVec S100000 32 := (fun a b => concatenate S100000 0 [⟨S1, a⟩, ⟨S99999, b⟩] concatenates_S1_S99999_S100000_d0) main_v0 main_v1
  let main_c : IVec S_ 32 := constantI S_ 32 0#32
  let main_v3 : IVec S100000 32 := broadcastInDim S100000 ![] bcast_S_S100000 main_c
  let main_v4 : IVec S100000 1 := cmpi .sge main_arg2 main_v3
  let main_c_0 : IVec S_ 32 := constantI S_ 32 2000#32
  let main_v5 : IVec S100000 32 := broadcastInDim S100000 ![] bcast_S_S100000 main_c_0
  let main_v6 : IVec S100000 1 := cmpi .slt main_arg2 main_v5
  let main_v7 : IVec S100000 1 := andi main_v4 main_v6
  let main_v8 : IVec S100000 1 := cmpi .sle main_v2 main_arg2
  let main_v9 : IVec S100000 1 := andi main_v7 main_v8
  main_v9
-- ==== Kernel.lean ====
abbrev S100000x128 : Shape := ⟨2, ![100000, 128]⟩
abbrev S1600000 : Shape := ⟨1, ![1600000]⟩
abbrev S100000 : Shape := ⟨1, ![100000]⟩
abbrev S12x128x1 : Shape := ⟨3, ![12, 128, 1]⟩
abbrev S12x1 : Shape := ⟨2, ![12, 1]⟩
abbrev S12x128x128 : Shape := ⟨3, ![12, 128, 128]⟩
abbrev S12x128 : Shape := ⟨2, ![12, 128]⟩
abbrev S_ : Shape := ⟨0, ![]⟩
abbrev S1 : Shape := ⟨1, ![1]⟩
abbrev S99999 : Shape := ⟨1, ![99999]⟩
abbrev S96 : Shape := ⟨1, ![96]⟩
abbrev S100096 : Shape := ⟨1, ![100096]⟩
abbrev S391x256 : Shape := ⟨2, ![391, 256]⟩
abbrev S391x1 : Shape := ⟨2, ![391, 1]⟩
abbrev S391 : Shape := ⟨1, ![391]⟩
abbrev S392 : Shape := ⟨1, ![392]⟩
abbrev S1x100096 : Shape := ⟨2, ![1, 100096]⟩
abbrev S2560 : Shape := ⟨1, ![2560]⟩
abbrev S2560x1 : Shape := ⟨2, ![2560, 1]⟩
abbrev S2560x100096 : Shape := ⟨2, ![2560, 100096]⟩
abbrev S2559 : Shape := ⟨1, ![2559]⟩
abbrev S391x1x256 : Shape := ⟨3, ![391, 1, 256]⟩
abbrev S128x16 : Shape := ⟨2, ![128, 16]⟩
abbrev S128x12 : Shape := ⟨2, ![128, 12]⟩
abbrev S1x16 : Shape := ⟨2, ![1, 16]⟩
abbrev S12 : Shape := ⟨1, ![12]⟩
abbrev S2 : Shape := ⟨1, ![2]⟩
abbrev S1x12 : Shape := ⟨2, ![1, 12]⟩
abbrev S2000x12 : Shape := ⟨2, ![2000, 12]⟩
abbrev S256x128 : Shape := ⟨2, ![256, 128]⟩
abbrev S1x1x256 : Shape := ⟨3, ![1, 1, 256]⟩
abbrev S2024x1536 : Shape := ⟨2, ![2024, 1536]⟩
abbrev S256x1536 : Shape := ⟨2, ![256, 1536]⟩
abbrev S256x1 : Shape := ⟨2, ![256, 1]⟩
abbrev S256x16 : Shape := ⟨2, ![256, 16]⟩
abbrev S1x256 : Shape := ⟨2, ![1, 256]⟩
abbrev S256x256 : Shape := ⟨2, ![256, 256]⟩
abbrev S24x1536 : Shape := ⟨2, ![24, 1536]⟩
abbrev S1x1536 : Shape := ⟨2, ![1, 1536]⟩
abbrev S2000x128 : Shape := ⟨2, ![2000, 128]⟩
abbrev S1x128x128 : Shape := ⟨3, ![1, 128, 128]⟩
abbrev S128x128 : Shape := ⟨2, ![128, 128]⟩
abbrev S1x128 : Shape := ⟨2, ![1, 128]⟩
abbrev S128x1 : Shape := ⟨2, ![128, 1]⟩
abbrev S2000x1 : Shape := ⟨2, ![2000, 1]⟩
abbrev S1x1 : Shape := ⟨2, ![1, 1]⟩

abbrev nBuf : Space → Nat
  | .hbm => 199
  | .vmem => 17
  | .smem => 4
  | _ => 0

abbrev hbmTy0_0 (i : Nat) : BufTy := match i % 128 with
  | 0 => ⟨S100000x128, .f32⟩
  | 1 => ⟨S1600000, .i32⟩
  | 2 => ⟨S100000, .i32⟩
  | 3 => ⟨S12x128x1, .f32⟩
  | 4 => ⟨S12x1, .f32⟩
  | 5 => ⟨S12x128x128, .f32⟩
  | 6 => ⟨S12x128, .f32⟩
  | 7 => ⟨S12x128x128, .f32⟩
  | 8 => ⟨S12x128, .f32⟩
  | 9 => ⟨S12x128x128, .f32⟩
  | 10 => ⟨S12x128, .f32⟩
  | 11 => ⟨S12x128x1, .f32⟩
  | 12 => ⟨S12x1, .f32⟩
  | 13 => ⟨S_, .i1⟩
  | 14 => ⟨S1, .i1⟩
  | 15 => ⟨S99999, .i32⟩
  | 16 => ⟨S99999, .i32⟩
  | 17 => ⟨S99999, .i1⟩
  | 18 => ⟨S100000, .i1⟩
  | 19 => ⟨S_, .i1⟩
  | 20 => ⟨S96, .i1⟩
  | 21 => ⟨S100096, .i1⟩
  | 22 => ⟨S391x256, .i1⟩
  | 23 => ⟨S391x256, .i32⟩
  | 24 => ⟨S_, .i32⟩
  | 25 => ⟨S391x256, .i32⟩
  | 26 => ⟨S391x256, .i1⟩
  | 27 => ⟨S391x256, .i1⟩
  | 28 => ⟨S391x256, .i32⟩
  | 29 => ⟨S_, .i32⟩
  | 30 => ⟨S_, .i32⟩
  | 31 => ⟨S391x256, .i32⟩
  | 32 => ⟨S_, .i32⟩
  | 33 => ⟨S391x256, .i32⟩
  | 34 => ⟨S391x256, .i32⟩
  | 35 => ⟨S391x1, .i32⟩
  | 36 => ⟨S391, .i32⟩
  | 37 => ⟨S_, .i32⟩
  | 38 => ⟨S1, .i32⟩
  | 39 => ⟨S_, .i32⟩
  | 40 => ⟨S_, .i32⟩
  | 41 => ⟨S391, .i32⟩
  | 42 => ⟨S391, .i32⟩
  | 43 => ⟨S391x1, .i32⟩
  | 44 => ⟨S391x256, .i32⟩
  | 45 => ⟨S391x256, .i32⟩
  | 46 => ⟨S100096, .i32⟩
  | 47 => ⟨S1x100096, .i32⟩
  | 48 => ⟨S2560, .i32⟩
  | 49 => ⟨S2560x1, .i32⟩
  | 50 => ⟨S2560x100096, .i32⟩
  | 51 => ⟨S2560x100096, .i32⟩
  | 52 => ⟨S2560x100096, .i1⟩
  | 53 => ⟨S2560x100096, .i32⟩
  | 54 => ⟨S_, .i32⟩
  | 55 => ⟨S2560, .i32⟩
  | 56 => ⟨S_, .i32⟩
  | 57 => ⟨S_, .i32⟩
  | 58 => ⟨S_, .i32⟩
  | 59 => ⟨S2560, .i32⟩
  | 60 => ⟨S2560, .i32⟩
  | 61 => ⟨S_, .i32⟩
  | 62 => ⟨S2560, .i32⟩
  | 63 => ⟨S2560, .i32⟩
  | 64 => ⟨S_, .i32⟩
  | 65 => ⟨S2560, .i32⟩
  | 66 => ⟨S2560, .i1⟩
  | 67 => ⟨S_, .i32⟩
  | 68 => ⟨S2560, .i32⟩
  | 69 => ⟨S2560, .i32⟩
  | 70 => ⟨S2560, .i32⟩
  | 71 => ⟨S2560x1, .i32⟩
  | 72 => ⟨S2559, .i32⟩
  | 73 => ⟨S2559, .i32⟩
  | 74 => ⟨S2559, .i32⟩
  | 75 => ⟨S_, .i32⟩
  | 76 => ⟨S2559, .i32⟩
  | 77 => ⟨S2559, .i1⟩
  | 78 => ⟨S_, .i32⟩
  | 79 => ⟨S1, .i32⟩
  | 80 => ⟨S2559, .i32⟩
  | 81 => ⟨S_, .i32⟩
  | 82 => ⟨S_, .i32⟩
  | 83 => ⟨S2559, .i32⟩
  | 84 => ⟨S2560, .i32⟩
  | 85 => ⟨S391, .i32⟩
  | 86 => ⟨S_, .i32⟩
  | 87 => ⟨S391, .i32⟩
  | 88 => ⟨S391, .i32⟩
  | 89 => ⟨S391, .i32⟩
  | 90 => ⟨S391, .i32⟩
  | 91 => ⟨S_, .i32⟩
  | 92 => ⟨S391, .i32⟩
  | 93 => ⟨S391, .i1⟩
  | 94 => ⟨S_, .i32⟩
  | 95 => ⟨S391, .i32⟩
  | 96 => ⟨S391, .i32⟩
  | 97 => ⟨S391, .i32⟩
  | 98 => ⟨S391x1, .i32⟩
  | 99 => ⟨S391, .i32⟩
  | 100 => ⟨S391, .i32⟩
  | 101 => ⟨S_, .i32⟩
  | 102 => ⟨S391, .i32⟩
  | 103 => ⟨S391, .i1⟩
  | 104 => ⟨S_, .i32⟩
  | 105 => ⟨S391, .i32⟩
  | 106 => ⟨S391, .i32⟩
  | 107 => ⟨S391, .i32⟩
  | 108 => ⟨S391x1, .i32⟩
  | 109 => ⟨S391, .i32⟩
  | 110 => ⟨S391, .i32⟩
  | 111 => ⟨S_, .i32⟩
  | 112 => ⟨S391, .i32⟩
  | 113 => ⟨S391, .i1⟩
  | 114 => ⟨S_, .i32⟩
  | 115 => ⟨S391, .i32⟩
  | 116 => ⟨S391, .i1⟩
  | 117 => ⟨S391, .i1⟩
  | 118 => ⟨S391, .i32⟩
  | 119 => ⟨S_, .i32⟩
  | 120 => ⟨S391, .i32⟩
  | 121 => ⟨S391, .i1⟩
  | 122 => ⟨S_, .i32⟩
  | 123 => ⟨S391, .i32⟩
  | 124 => ⟨S391, .i32⟩
  | 125 => ⟨S391, .i32⟩
  | 126 => ⟨S391x1, .i32⟩
  | 127 => ⟨S391, .i32⟩
  | _ => ⟨S100000x128, .f32⟩

abbrev hbmTy0_1 (i : Nat) : BufTy := match i % 128 with
  | 0 => ⟨S_, .i32⟩
  | 1 => ⟨S_, .i32⟩
  | 2 => ⟨S391, .i32⟩
  | 3 => ⟨S391, .i32⟩
  | 4 => ⟨S391, .i32⟩
  | 5 => ⟨S_, .i32⟩
  | 6 => ⟨S391, .i32⟩
  | 7 => ⟨S391, .i1⟩
  | 8 => ⟨S391, .i32⟩
  | 9 => ⟨S391, .i32⟩
  | 10 => ⟨S_, .i32⟩
  | 11 => ⟨S391, .i32⟩
  | 12 => ⟨S391, .i1⟩
  | 13 => ⟨S391, .i1⟩
  | 14 => ⟨S_, .i32⟩
  | 15 => ⟨S391, .i32⟩
  | 16 => ⟨S391, .i32⟩
  | 17 => ⟨S391, .i32⟩
  | 18 => ⟨S_, .i32⟩
  | 19 => ⟨S391, .i32⟩
  | 20 => ⟨S391, .i32⟩
  | 21 => ⟨S_, .i32⟩
  | 22 => ⟨S391, .i32⟩
  | 23 => ⟨S391, .i1⟩
  | 24 => ⟨S391, .i32⟩
  | 25 => ⟨S_, .i32⟩
  | 26 => ⟨S_, .i32⟩
  | 27 => ⟨S391, .i32⟩
  | 28 => ⟨S391, .i32⟩
  | 29 => ⟨S_, .i32⟩
  | 30 => ⟨S_, .i32⟩
  | 31 => ⟨S391, .i32⟩
  | 32 => ⟨S391, .i32⟩
  | 33 => ⟨S391, .i32⟩
  | 34 => ⟨S_, .i32⟩
  | 35 => ⟨S391, .i32⟩
  | 36 => ⟨S391, .i1⟩
  | 37 => ⟨S391, .i32⟩
  | 38 => ⟨S391, .i32⟩
  | 39 => ⟨S_, .i32⟩
  | 40 => ⟨S391, .i32⟩
  | 41 => ⟨S391, .i1⟩
  | 42 => ⟨S391, .i1⟩
  | 43 => ⟨S_, .i32⟩
  | 44 => ⟨S391, .i32⟩
  | 45 => ⟨S391, .i32⟩
  | 46 => ⟨S391x1, .i32⟩
  | 47 => ⟨S391x256, .i32⟩
  | 48 => ⟨S391x256, .i32⟩
  | 49 => ⟨S391x1x256, .i32⟩
  | 50 => ⟨S_, .f32⟩
  | 51 => ⟨S128x16, .f32⟩
  | 52 => ⟨S12x128, .f32⟩
  | 53 => ⟨S128x12, .f32⟩
  | 54 => ⟨S_, .i32⟩
  | 55 => ⟨S1, .i32⟩
  | 56 => ⟨S128x16, .f32⟩
  | 57 => ⟨S_, .f32⟩
  | 58 => ⟨S1x16, .f32⟩
  | 59 => ⟨S12, .f32⟩
  | 60 => ⟨S_, .i32⟩
  | 61 => ⟨S1, .i32⟩
  | 62 => ⟨S_, .i32⟩
  | 63 => ⟨S1, .i32⟩
  | 64 => ⟨S2, .i32⟩
  | 65 => ⟨S1x16, .f32⟩
  | 66 => ⟨S12x128, .f32⟩
  | 67 => ⟨S128x12, .f32⟩
  | 68 => ⟨S12, .f32⟩
  | 69 => ⟨S1x12, .f32⟩
  | 70 => ⟨S2000x12, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S256x128, .f32⟩
  | .local _ .vmem, ⟨1, _⟩ => ⟨S256x128, .f32⟩
  | .local _ .vmem, ⟨2, _⟩ => ⟨S1x1x256, .i32⟩
  | .local _ .vmem, ⟨3, _⟩ => ⟨S1x1x256, .i32⟩
  | .local _ .vmem, ⟨4, _⟩ => ⟨S128x16, .f32⟩
  | .local _ .vmem, ⟨5, _⟩ => ⟨S1x16, .f32⟩
  | .local _ .vmem, ⟨6, _⟩ => ⟨S12x128x128, .f32⟩
  | .local _ .vmem, ⟨7, _⟩ => ⟨S12x128, .f32⟩
  | .local _ .vmem, ⟨8, _⟩ => ⟨S12x128x128, .f32⟩
  | .local _ .vmem, ⟨9, _⟩ => ⟨S12x128, .f32⟩
  | .local _ .vmem, ⟨10, _⟩ => ⟨S12x128x128, .f32⟩
  | .local _ .vmem, ⟨11, _⟩ => ⟨S12x128, .f32⟩
  | .local _ .vmem, ⟨12, _⟩ => ⟨S128x12, .f32⟩
  | .local _ .vmem, ⟨13, _⟩ => ⟨S1x12, .f32⟩
  | .local _ .vmem, ⟨14, _⟩ => ⟨S2000x12, .f32⟩
  | .local _ .vmem, ⟨15, _⟩ => ⟨S2024x1536, .f32⟩
  | .local _ .vmem, ⟨16, _⟩ => ⟨S256x1536, .f32⟩
  | .local _ .smem, ⟨0, _⟩ => ⟨S392, .i32⟩
  | .local _ .smem, ⟨1, _⟩ => ⟨S2560, .i32⟩
  | .local _ .smem, ⟨2, _⟩ => ⟨S391, .i32⟩
  | .local _ .smem, ⟨3, _⟩ => ⟨S391, .i32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_call0_call0_c : Ref sig .tc := ⟨.hbm, 29, rfl⟩
abbrev main_call0_call0_v0 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_call1_call0_c : Ref sig .tc := ⟨.hbm, 39, rfl⟩
abbrev main_call1_call0_v0 : Ref sig .tc := ⟨.hbm, 40, rfl⟩
abbrev main_v19 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_4 : Ref sig .tc := ⟨.hbm, 54, rfl⟩
abbrev main_v33 : Ref sig .tc := ⟨.hbm, 55, rfl⟩
abbrev main_c_5 : Ref sig .tc := ⟨.hbm, 56, rfl⟩
abbrev main_c_6 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_v34 : Ref sig .tc := ⟨.hbm, 63, rfl⟩
abbrev main_c_7 : Ref sig .tc := ⟨.hbm, 64, rfl⟩
abbrev main_v35 : Ref sig .tc := ⟨.hbm, 65, rfl⟩
abbrev main_v36 : Ref sig .tc := ⟨.hbm, 66, rfl⟩
abbrev main_c_8 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_c_9 : Ref sig .tc := ⟨.hbm, 75, rfl⟩
abbrev main_v45 : Ref sig .tc := ⟨.hbm, 76, rfl⟩
abbrev main_v46 : Ref sig .tc := ⟨.hbm, 77, rfl⟩
abbrev main_c_10 : Ref sig .tc := ⟨.hbm, 78, rfl⟩
abbrev main_v47 : Ref sig .tc := ⟨.hbm, 79, rfl⟩
abbrev main_v48 : Ref sig .tc := ⟨.hbm, 80, rfl⟩
abbrev main_call3_call0_c : Ref sig .tc := ⟨.hbm, 81, rfl⟩
abbrev main_call3_call0_v0 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_c_11 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_c_12 : Ref sig .tc := ⟨.hbm, 91, rfl⟩
abbrev main_v56 : Ref sig .tc := ⟨.hbm, 92, rfl⟩
abbrev main_v57 : Ref sig .tc := ⟨.hbm, 93, rfl⟩
abbrev main_c_13 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_c_14 : Ref sig .tc := ⟨.hbm, 101, rfl⟩
abbrev main_v64 : Ref sig .tc := ⟨.hbm, 102, rfl⟩
abbrev main_v65 : Ref sig .tc := ⟨.hbm, 103, rfl⟩
abbrev main_c_15 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_c_16 : Ref sig .tc := ⟨.hbm, 111, rfl⟩
abbrev main_v72 : Ref sig .tc := ⟨.hbm, 112, rfl⟩
abbrev main_v73 : Ref sig .tc := ⟨.hbm, 113, rfl⟩
abbrev main_c_17 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v78 : Ref sig .tc := ⟨.hbm, 118, rfl⟩
abbrev main_c_18 : Ref sig .tc := ⟨.hbm, 119, rfl⟩
abbrev main_v79 : Ref sig .tc := ⟨.hbm, 120, rfl⟩
abbrev main_v80 : Ref sig .tc := ⟨.hbm, 121, rfl⟩
abbrev main_c_19 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_c_20 : Ref sig .tc := ⟨.hbm, 128, rfl⟩
abbrev main_call4_v0 : Ref sig .tc := ⟨.hbm, 129, rfl⟩
abbrev main_call4_v1 : Ref sig .tc := ⟨.hbm, 130, rfl⟩
abbrev main_call4_v2 : Ref sig .tc := ⟨.hbm, 131, rfl⟩
abbrev main_call4_v3 : Ref sig .tc := ⟨.hbm, 132, rfl⟩
abbrev main_call4_v4 : Ref sig .tc := ⟨.hbm, 133, rfl⟩
abbrev main_call4_v5 : Ref sig .tc := ⟨.hbm, 134, rfl⟩
abbrev main_call4_v6 : Ref sig .tc := ⟨.hbm, 135, rfl⟩
abbrev main_call4_v7 : Ref sig .tc := ⟨.hbm, 136, rfl⟩
abbrev main_call4_v8 : Ref sig .tc := ⟨.hbm, 137, rfl⟩
abbrev main_call4_c : Ref sig .tc := ⟨.hbm, 138, rfl⟩
abbrev main_call4_v9 : Ref sig .tc := ⟨.hbm, 139, rfl⟩
abbrev main_call4_v10 : Ref sig .tc := ⟨.hbm, 140, rfl⟩
abbrev main_call4_v11 : Ref sig .tc := ⟨.hbm, 141, rfl⟩
abbrev main_call4_c_0 : Ref sig .tc := ⟨.hbm, 142, rfl⟩
abbrev main_call4_v12 : Ref sig .tc := ⟨.hbm, 143, rfl⟩
abbrev main_call4_v13 : Ref sig .tc := ⟨.hbm, 144, rfl⟩
abbrev main_v86 : Ref sig .tc := ⟨.hbm, 145, rfl⟩
abbrev main_c_21 : Ref sig .tc := ⟨.hbm, 146, rfl⟩
abbrev main_v87 : Ref sig .tc := ⟨.hbm, 147, rfl⟩
abbrev main_v88 : Ref sig .tc := ⟨.hbm, 148, rfl⟩
abbrev main_c_22 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_c_23 : Ref sig .tc := ⟨.hbm, 153, rfl⟩
abbrev main_call5_v0 : Ref sig .tc := ⟨.hbm, 154, rfl⟩
abbrev main_call5_v1 : Ref sig .tc := ⟨.hbm, 155, rfl⟩
abbrev main_v92 : Ref sig .tc := ⟨.hbm, 156, rfl⟩
abbrev main_c_24 : Ref sig .tc := ⟨.hbm, 157, rfl⟩
abbrev main_call6_v0 : Ref sig .tc := ⟨.hbm, 158, rfl⟩
abbrev main_call6_v1 : Ref sig .tc := ⟨.hbm, 159, rfl⟩
abbrev main_call6_v2 : Ref sig .tc := ⟨.hbm, 160, rfl⟩
abbrev main_call6_v3 : Ref sig .tc := ⟨.hbm, 161, rfl⟩
abbrev main_call6_v4 : Ref sig .tc := ⟨.hbm, 162, rfl⟩
abbrev main_call6_v5 : Ref sig .tc := ⟨.hbm, 163, rfl⟩
abbrev main_call6_v6 : Ref sig .tc := ⟨.hbm, 164, rfl⟩
abbrev main_call6_v7 : Ref sig .tc := ⟨.hbm, 165, rfl⟩
abbrev main_call6_v8 : Ref sig .tc := ⟨.hbm, 166, rfl⟩
abbrev main_call6_c : Ref sig .tc := ⟨.hbm, 167, rfl⟩
abbrev main_call6_v9 : Ref sig .tc := ⟨.hbm, 168, rfl⟩
abbrev main_call6_v10 : Ref sig .tc := ⟨.hbm, 169, rfl⟩
abbrev main_call6_v11 : Ref sig .tc := ⟨.hbm, 170, rfl⟩
abbrev main_call6_c_0 : Ref sig .tc := ⟨.hbm, 171, rfl⟩
abbrev main_call6_v12 : Ref sig .tc := ⟨.hbm, 172, rfl⟩
abbrev main_call6_v13 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_cst : Ref sig .tc := ⟨.hbm, 178, rfl⟩
abbrev main_v98 : Ref sig .tc := ⟨.hbm, 179, rfl⟩
abbrev main_v99 : Ref sig .tc := ⟨.hbm, 180, rfl⟩
abbrev main_v100 : Ref sig .tc := ⟨.hbm, 181, rfl⟩
abbrev main_c_25 : Ref sig .tc := ⟨.hbm, 182, rfl⟩
abbrev main_v101 : Ref sig .tc := ⟨.hbm, 183, rfl⟩
abbrev main_v102 : Ref sig .tc := ⟨.hbm, 184, rfl⟩
abbrev main_cst_26 : Ref sig .tc := ⟨.hbm, 185, rfl⟩
abbrev main_v103 : Ref sig .tc := ⟨.hbm, 186, rfl⟩
abbrev main_v104 : Ref sig .tc := ⟨.hbm, 187, rfl⟩
abbrev main_c_27 : Ref sig .tc := ⟨.hbm, 188, rfl⟩
abbrev main_v105 : Ref sig .tc := ⟨.hbm, 189, rfl⟩
abbrev main_c_28 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_v113 : Ref sig .tc := ⟨.hbm, 198, rfl⟩
abbrev main_v20 : Ref sig .tc := ⟨.smem, 0, rfl⟩
abbrev main_v41 : Ref sig .tc := ⟨.smem, 1, rfl⟩
abbrev main_v77 : Ref sig .tc := ⟨.smem, 2, rfl⟩
abbrev main_v93 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14

abbrev nD : Nat := 1
abbrev τ : Topo := Topo.v7x

variable {F : FTy → Type} [FloatOps F]

abbrev grid0 : Pipeline.Grid := ⟨1, ![391], ![false]⟩

abbrev pre0 : Pipeline.Prefetch sig := ⟨4, ![main_v20.idx, main_v41.idx, main_v77.idx, main_v93.idx], fun | 0 => main_v20.names | 1 => main_v41.names | 2 => main_v77.names | 3 => main_v93.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v79 : Index := Scalar.indexCast arg0
  ![v79.toNat]
def k0_off2 (i : grid0.Coords) : Fin 1 → Nat :=
  let arg0 : BitVec 32 := BitVec.ofNat 32 (i 0).val
  let c1_i32 : BitVec 32 := 1#32
  let v81 : BitVec 32 := Scalar.addi arg0 c1_i32
  let v82 : Index := Scalar.indexCast v81
  ![v82.toNat]
def k0_off3 (i : grid0.Coords) : Fin 1 → Nat :=
  let arg0 : BitVec 32 := BitVec.ofNat 32 (i 0).val
  let v85 : Index := Scalar.indexCast arg0
  ![v85.toNat]
def k0_off4 (i : grid0.Coords) : Fin 1 → Nat :=
  let arg0 : BitVec 32 := BitVec.ofNat 32 (i 0).val
  let v98 : Index := Scalar.indexCast arg0
  ![v98.toNat]
def k0_mult1 (v99 : BitVec 32) : BitVec 32 :=
  let c8_i32 : BitVec 32 := 8#32
  let v100 : BitVec 32 := Scalar.muli v99 c8_i32
  v100
def k0_cond2 (v86 : BitVec 32) : BitVec 1 :=
  let c1_i32_15 : BitVec 32 := 1#32
  let v87 : BitVec 1 := Scalar.cmpi .eq v86 c1_i32_15
  let v88 : BitVec 32 := Scalar.extui v87
  let c0_i32_16 : BitVec 32 := 0#32
  let v89 : BitVec 1 := Scalar.cmpi .ne v88 c0_i32_16
  v89

def k0_off5 (v99 : BitVec 32) : Fin 2 → Nat :=
  let c8_i32 : BitVec 32 := 8#32
  let v100 : BitVec 32 := Scalar.muli v99 c8_i32
  let v101 : BitVec 32 := v100
  let v102 : Index := Scalar.indexCast v101
  let c0_20 : Index := 0#32
  ![v102.toNat, 0]

def k0_chk1 (v86 : BitVec 32) (v99 : BitVec 32) : Prop :=
  (∀ (k0_h2 : k0_cond2 v86 = 1#1), 8 ∣ (k0_mult1 v99).toNat) ∧
  (∀ (k0_h2 : k0_cond2 v86 = 1#1), ∀ a, (k0_off5 v99) a + S24x1536.size a ≤ S2024x1536.size a)
theorem k0_mult1_dvd : ∀ (v86 : BitVec 32) (v99 : BitVec 32) (k0_hw1 : k0_chk1 v86 v99), ∀ (k0_h2 : k0_cond2 v86 = 1#1), 8 ∣ (k0_mult1 v99).toNat := fun v86 v99 k0_hw1 k0_h2 => k0_hw1.1 k0_h2
theorem k0_off5_inb : ∀ (v86 : BitVec 32) (v99 : BitVec 32) (k0_hw1 : k0_chk1 v86 v99), ∀ (k0_h2 : k0_cond2 v86 = 1#1), ∀ a, (k0_off5 v99) a + S24x1536.size a ≤ S2024x1536.size a := fun v86 v99 k0_hw1 k0_h2 => k0_hw1.2 k0_h2

def k0_off6 (i : grid0.Coords) : Fin 1 → Nat :=
  let arg0 : BitVec 32 := BitVec.ofNat 32 (i 0).val
  let v90 : Index := Scalar.indexCast arg0
  ![v90.toNat]
@[reducible] def k0_t1_loop (v80 : BitVec 32) (v83 : BitVec 32) : Scf.Loop 32 :=
  let c0_i32_20 : BitVec 32 := 0#32
  let v84 : BitVec 32 := Scalar.subi v83 v80
  let v98 : BitVec 32 := Scalar.subi v84 c0_i32_20
  let c1_i32_22 : BitVec 32 := 1#32
  let v100 : BitVec 32 := Scalar.divsi v98 c1_i32_22
  let v101 : BitVec 32 := Scalar.muli v100 c1_i32_22
  let v102 : BitVec 32 := Scalar.addi c0_i32_20 v101
  let c1_i32_23 : BitVec 32 := 1#32
  ⟨c0_i32_20, v102, c1_i32_23⟩
def k0_cond3 (v91 : BitVec 32) : BitVec 1 :=
  let c0_i32_17 : BitVec 32 := 0#32
  let v92 : BitVec 1 := Scalar.cmpi .eq v91 c0_i32_17
  let v93 : BitVec 32 := Scalar.extui v92
  let c0_i32_18 : BitVec 32 := 0#32
  let v94 : BitVec 1 := Scalar.cmpi .ne v93 c0_i32_18
  v94

def k0_off7 (v80 : BitVec 32) (v83 : BitVec 32) (k0_t1 : Fin (k0_t1_loop v80 v83).trips) : Fin 1 → Nat :=
  let c0_i32_20 : BitVec 32 := 0#32
  let c1_i32_23 : BitVec 32 := 1#32
  let arg20 : BitVec 32 := Scf.iv c0_i32_20 c1_i32_23 k0_t1
  let v105 : BitVec 32 := Scalar.addi v80 arg20
  let v106 : Index := Scalar.indexCast v105
  ![v106.toNat]
def k0_off8 (v107 : BitVec 32) : Fin 2 → Nat :=
  let v108 : Index := Scalar.indexCast v107
  let c0_25 : Index := 0#32
  ![v108.toNat, 0]

def k0_chk3 (v91 : BitVec 32) (v107 : BitVec 32) : Prop :=
  (∀ (k0_h3 : k0_cond3 v91 = 1#1), ∀ a, (k0_off8 v107) a + S1x1536.size a ≤ S2024x1536.size a)
theorem k0_off8_inb : ∀ (v91 : BitVec 32) (v107 : BitVec 32) (k0_hw3 : k0_chk3 v91 v107), ∀ (k0_h3 : k0_cond3 v91 = 1#1), ∀ a, (k0_off8 v107) a + S1x1536.size a ≤ S2024x1536.size a := fun v91 v107 k0_hw3 k0_h3 => k0_hw3 k0_h3

def k0_off9 (v80 : BitVec 32) (v83 : BitVec 32) (k0_t1 : Fin (k0_t1_loop v80 v83).trips) : Fin 2 → Nat :=
  let c0_i32_20 : BitVec 32 := 0#32
  let c1_i32_23 : BitVec 32 := 1#32
  let arg20 : BitVec 32 := Scf.iv c0_i32_20 c1_i32_23 k0_t1
  let v110 : Index := Scalar.indexCast arg20
  let c0_26 : Index := 0#32
  ![v110.toNat, 0]
@[reducible] def k0_t2_loop (v80 : BitVec 32) (v83 : BitVec 32) : Scf.Loop 32 :=
  let c0_i32_20 : BitVec 32 := 0#32
  let v84 : BitVec 32 := Scalar.subi v83 v80
  let v98 : BitVec 32 := Scalar.subi v84 c0_i32_20
  let c1_i32_22 : BitVec 32 := 1#32
  let v100 : BitVec 32 := Scalar.divsi v98 c1_i32_22
  let v101 : BitVec 32 := Scalar.muli v100 c1_i32_22
  let v102 : BitVec 32 := Scalar.addi c0_i32_20 v101
  let v99 : BitVec 32 := Scalar.addi c0_i32_20 v98
  let c1_i32_24 : BitVec 32 := 1#32
  ⟨v102, v99, c1_i32_24⟩
def k0_off10 (v80 : BitVec 32) (v83 : BitVec 32) (k0_t2 : Fin (k0_t2_loop v80 v83).trips) : Fin 1 → Nat :=
  let c0_i32_20 : BitVec 32 := 0#32
  let v84 : BitVec 32 := Scalar.subi v83 v80
  let v98 : BitVec 32 := Scalar.subi v84 c0_i32_20
  let c1_i32_22 : BitVec 32 := 1#32
  let v100 : BitVec 32 := Scalar.divsi v98 c1_i32_22
  let v101 : BitVec 32 := Scalar.muli v100 c1_i32_22
  let v102 : BitVec 32 := Scalar.addi c0_i32_20 v101
  let c1_i32_24 : BitVec 32 := 1#32
  let arg20 : BitVec 32 := Scf.iv v102 c1_i32_24 k0_t2
  let v105 : BitVec 32 := Scalar.addi v80 arg20
  let v106 : Index := Scalar.indexCast v105
  ![v106.toNat]
def k0_off11 (v107 : BitVec 32) : Fin 2 → Nat :=
  let v108 : Index := Scalar.indexCast v107
  let c0_25 : Index := 0#32
  ![v108.toNat, 0]

def k0_chk4 (v91 : BitVec 32) (v107 : BitVec 32) : Prop :=
  (∀ (k0_h3 : k0_cond3 v91 = 1#1), ∀ a, (k0_off11 v107) a + S1x1536.size a ≤ S2024x1536.size a)
theorem k0_off11_inb : ∀ (v91 : BitVec 32) (v107 : BitVec 32) (k0_hw4 : k0_chk4 v91 v107), ∀ (k0_h3 : k0_cond3 v91 = 1#1), ∀ a, (k0_off11 v107) a + S1x1536.size a ≤ S2024x1536.size a := fun v91 v107 k0_hw4 k0_h3 => k0_hw4 k0_h3

def k0_off12 (v80 : BitVec 32) (v83 : BitVec 32) (k0_t2 : Fin (k0_t2_loop v80 v83).trips) : Fin 2 → Nat :=
  let c0_i32_20 : BitVec 32 := 0#32
  let v84 : BitVec 32 := Scalar.subi v83 v80
  let v98 : BitVec 32 := Scalar.subi v84 c0_i32_20
  let c1_i32_22 : BitVec 32 := 1#32
  let v100 : BitVec 32 := Scalar.divsi v98 c1_i32_22
  let v101 : BitVec 32 := Scalar.muli v100 c1_i32_22
  let v102 : BitVec 32 := Scalar.addi c0_i32_20 v101
  let c1_i32_24 : BitVec 32 := 1#32
  let arg20 : BitVec 32 := Scf.iv v102 c1_i32_24 k0_t2
  let v110 : Index := Scalar.indexCast arg20
  let c0_26 : Index := 0#32
  ![v110.toNat, 0]

def k0_chk2 (v80 : BitVec 32) (v83 : BitVec 32) (v91 : BitVec 32) : Prop :=
  (∀ (k0_h3 : k0_cond3 v91 = 1#1), (k0_t1_loop v80 v83).OK) ∧
  (∀ k0_t1 : Fin (k0_t1_loop v80 v83).trips, ∀ (k0_h3 : k0_cond3 v91 = 1#1), ∀ a, (k0_off7 v80 v83 k0_t1) a + S1.size a ≤ S2560.size a) ∧
  (∀ k0_t1 : Fin (k0_t1_loop v80 v83).trips, ∀ (k0_h3 : k0_cond3 v91 = 1#1), ∀ a, (k0_off9 v80 v83 k0_t1) a + S1x1536.size a ≤ S256x1536.size a) ∧
  (∀ (k0_h3 : k0_cond3 v91 = 1#1), (k0_t2_loop v80 v83).OK) ∧
  (∀ k0_t2 : Fin (k0_t2_loop v80 v83).trips, ∀ (k0_h3 : k0_cond3 v91 = 1#1), ∀ a, (k0_off10 v80 v83 k0_t2) a + S1.size a ≤ S2560.size a) ∧
  (∀ k0_t2 : Fin (k0_t2_loop v80 v83).trips, ∀ (k0_h3 : k0_cond3 v91 = 1#1), ∀ a, (k0_off12 v80 v83 k0_t2) a + S1x1536.size a ≤ S256x1536.size a)
theorem k0_t1_ok : ∀ (v80 : BitVec 32) (v83 : BitVec 32) (v91 : BitVec 32) (k0_hw2 : k0_chk2 v80 v83 v91), ∀ (k0_h3 : k0_cond3 v91 = 1#1), (k0_t1_loop v80 v83).OK := fun v80 v83 v91 k0_hw2 k0_h3 => k0_hw2.1 k0_h3
theorem k0_off7_inb : ∀ (v80 : BitVec 32) (v83 : BitVec 32) (v91 : BitVec 32) (k0_hw2 : k0_chk2 v80 v83 v91) (k0_t1 : Fin (k0_t1_loop v80 v83).trips), ∀ (k0_h3 : k0_cond3 v91 = 1#1), ∀ a, (k0_off7 v80 v83 k0_t1) a + S1.size a ≤ S2560.size a := fun v80 v83 v91 k0_hw2 k0_t1 k0_h3 => k0_hw2.2.1 k0_t1 k0_h3
theorem k0_off9_inb : ∀ (v80 : BitVec 32) (v83 : BitVec 32) (v91 : BitVec 32) (k0_hw2 : k0_chk2 v80 v83 v91) (k0_t1 : Fin (k0_t1_loop v80 v83).trips), ∀ (k0_h3 : k0_cond3 v91 = 1#1), ∀ a, (k0_off9 v80 v83 k0_t1) a + S1x1536.size a ≤ S256x1536.size a := fun v80 v83 v91 k0_hw2 k0_t1 k0_h3 => k0_hw2.2.2.1 k0_t1 k0_h3
theorem k0_t2_ok : ∀ (v80 : BitVec 32) (v83 : BitVec 32) (v91 : BitVec 32) (k0_hw2 : k0_chk2 v80 v83 v91), ∀ (k0_h3 : k0_cond3 v91 = 1#1), (k0_t2_loop v80 v83).OK := fun v80 v83 v91 k0_hw2 k0_h3 => k0_hw2.2.2.2.1 k0_h3
theorem k0_off10_inb : ∀ (v80 : BitVec 32) (v83 : BitVec 32) (v91 : BitVec 32) (k0_hw2 : k0_chk2 v80 v83 v91) (k0_t2 : Fin (k0_t2_loop v80 v83).trips), ∀ (k0_h3 : k0_cond3 v91 = 1#1), ∀ a, (k0_off10 v80 v83 k0_t2) a + S1.size a ≤ S2560.size a := fun v80 v83 v91 k0_hw2 k0_t2 k0_h3 => k0_hw2.2.2.2.2.1 k0_t2 k0_h3
theorem k0_off12_inb : ∀ (v80 : BitVec 32) (v83 : BitVec 32) (v91 : BitVec 32) (k0_hw2 : k0_chk2 v80 v83 v91) (k0_t2 : Fin (k0_t2_loop v80 v83).trips), ∀ (k0_h3 : k0_cond3 v91 = 1#1), ∀ a, (k0_off12 v80 v83 k0_t2) a + S1x1536.size a ≤ S256x1536.size a := fun v80 v83 v91 k0_hw2 k0_t2 k0_h3 => k0_hw2.2.2.2.2.2 k0_t2 k0_h3

def k0_cond4 (i : grid0.Coords) : BitVec 1 :=
  let arg0 : BitVec 32 := BitVec.ofNat 32 (i 0).val
  let c390_i32 : BitVec 32 := 390#32
  let v95 : BitVec 1 := Scalar.cmpi .eq arg0 c390_i32
  let v96 : BitVec 32 := Scalar.extui v95
  let c0_i32_19 : BitVec 32 := 0#32
  let v97 : BitVec 1 := Scalar.cmpi .ne v96 c0_i32_19
  v97

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S12x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S12x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S12x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S12x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S12x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x12 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x12 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2000x12 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S100000x128 : Shape := ⟨2, ![100000, 128]⟩
abbrev S1600000 : Shape := ⟨1, ![1600000]⟩
abbrev S100000 : Shape := ⟨1, ![100000]⟩
abbrev S12x128x1 : Shape := ⟨3, ![12, 128, 1]⟩
abbrev S12x1 : Shape := ⟨2, ![12, 1]⟩
abbrev S12x128x128 : Shape := ⟨3, ![12, 128, 128]⟩
abbrev S12x128 : Shape := ⟨2, ![12, 128]⟩
abbrev S1x128x1 : Shape := ⟨3, ![1, 128, 1]⟩
abbrev S128x1 : Shape := ⟨2, ![128, 1]⟩
abbrev S100000x1 : Shape := ⟨2, ![100000, 1]⟩
abbrev S1x1 : Shape := ⟨2, ![1, 1]⟩
abbrev S1 : Shape := ⟨1, ![1]⟩
abbrev S_ : Shape := ⟨0, ![]⟩
abbrev S2000x128 : Shape := ⟨2, ![2000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S2000x1 : Shape := ⟨2, ![2000, 1]⟩
abbrev S2000x12 : Shape := ⟨2, ![2000, 12]⟩

abbrev nBuf : Space → Nat
  | .hbm => 770
  | .vmem => 0
  | .smem => 0
  | _ => 0

abbrev hbmTy0_0 (i : Nat) : BufTy := match i % 128 with
  | 0 => ⟨S100000x128, .f32⟩
  | 1 => ⟨S1600000, .i32⟩
  | 2 => ⟨S100000, .i32⟩
  | 3 => ⟨S12x128x1, .f32⟩
  | 4 => ⟨S12x1, .f32⟩
  | 5 => ⟨S12x128x128, .f32⟩
  | 6 => ⟨S12x128, .f32⟩
  | 7 => ⟨S12x128x128, .f32⟩
  | 8 => ⟨S12x128, .f32⟩
  | 9 => ⟨S12x128x128, .f32⟩
  | 10 => ⟨S12x128, .f32⟩
  | 11 => ⟨S12x128x1, .f32⟩
  | 12 => ⟨S12x1, .f32⟩
  | 13 => ⟨S1x128x1, .f32⟩
  | 14 => ⟨S128x1, .f32⟩
  | 15 => ⟨S100000x1, .f32⟩
  | 16 => ⟨S1x1, .f32⟩
  | 17 => ⟨S1, .f32⟩
  | 18 => ⟨S1x1, .f32⟩
  | 19 => ⟨S100000x1, .f32⟩
  | 20 => ⟨S100000x1, .f32⟩
  | 21 => ⟨S100000x1, .f32⟩
  | 22 => ⟨S100000x1, .f32⟩
  | 23 => ⟨S_, .f32⟩
  | 24 => ⟨S100000x1, .f32⟩
  | 25 => ⟨S100000x1, .f32⟩
  | 26 => ⟨S_, .f32⟩
  | 27 => ⟨S100000x1, .f32⟩
  | 28 => ⟨S100000x1, .f32⟩
  | 29 => ⟨S100000x128, .f32⟩
  | 30 => ⟨S100000x128, .f32⟩
  | 31 => ⟨S_, .f32⟩
  | 32 => ⟨S2000x128, .f32⟩
  | 33 => ⟨S100000x1, .i32⟩
  | 34 => ⟨S2000x128, .f32⟩
  | 35 => ⟨S1x128x128, .f32⟩
  | 36 => ⟨S128x128, .f32⟩
  | 37 => ⟨S2000x128, .f32⟩
  | 38 => ⟨S1x128, .f32⟩
  | 39 => ⟨S128, .f32⟩
  | 40 => ⟨S1x128, .f32⟩
  | 41 => ⟨S2000x128, .f32⟩
  | 42 => ⟨S2000x128, .f32⟩
  | 43 => ⟨S_, .f32⟩
  | 44 => ⟨S2000x128, .f32⟩
  | 45 => ⟨S2000x128, .f32⟩
  | 46 => ⟨S1x128x128, .f32⟩
  | 47 => ⟨S128x128, .f32⟩
  | 48 => ⟨S2000x128, .f32⟩
  | 49 => ⟨S1x128, .f32⟩
  | 50 => ⟨S128, .f32⟩
  | 51 => ⟨S1x128, .f32⟩
  | 52 => ⟨S2000x128, .f32⟩
  | 53 => ⟨S2000x128, .f32⟩
  | 54 => ⟨S_, .f32⟩
  | 55 => ⟨S2000x128, .f32⟩
  | 56 => ⟨S2000x128, .f32⟩
  | 57 => ⟨S1x128x128, .f32⟩
  | 58 => ⟨S128x128, .f32⟩
  | 59 => ⟨S2000x128, .f32⟩
  | 60 => ⟨S1x128, .f32⟩
  | 61 => ⟨S128, .f32⟩
  | 62 => ⟨S1x128, .f32⟩
  | 63 => ⟨S2000x128, .f32⟩
  | 64 => ⟨S2000x128, .f32⟩
  | 65 => ⟨S_, .f32⟩
  | 66 => ⟨S2000x128, .f32⟩
  | 67 => ⟨S2000x128, .f32⟩
  | 68 => ⟨S1x128x1, .f32⟩
  | 69 => ⟨S128x1, .f32⟩
  | 70 => ⟨S2000x1, .f32⟩
  | 71 => ⟨S1x1, .f32⟩
  | 72 => ⟨S1, .f32⟩
  | 73 => ⟨S1x1, .f32⟩
  | 74 => ⟨S2000x1, .f32⟩
  | 75 => ⟨S2000x1, .f32⟩
  | 76 => ⟨S1x128x1, .f32⟩
  | 77 => ⟨S128x1, .f32⟩
  | 78 => ⟨S100000x1, .f32⟩
  | 79 => ⟨S1x1, .f32⟩
  | 80 => ⟨S1, .f32⟩
  | 81 => ⟨S1x1, .f32⟩
  | 82 => ⟨S100000x1, .f32⟩
  | 83 => ⟨S100000x1, .f32⟩
  | 84 => ⟨S100000x1, .f32⟩
  | 85 => ⟨S100000x1, .f32⟩
  | 86 => ⟨S_, .f32⟩
  | 87 => ⟨S100000x1, .f32⟩
  | 88 => ⟨S100000x1, .f32⟩
  | 89 => ⟨S_, .f32⟩
  | 90 => ⟨S100000x1, .f32⟩
  | 91 => ⟨S100000x1, .f32⟩
  | 92 => ⟨S100000x128, .f32⟩
  | 93 => ⟨S100000x128, .f32⟩
  | 94 => ⟨S_, .f32⟩
  | 95 => ⟨S2000x128, .f32⟩
  | 96 => ⟨S100000x1, .i32⟩
  | 97 => ⟨S2000x128, .f32⟩
  | 98 => ⟨S1x128x128, .f32⟩
  | 99 => ⟨S128x128, .f32⟩
  | 100 => ⟨S2000x128, .f32⟩
  | 101 => ⟨S1x128, .f32⟩
  | 102 => ⟨S128, .f32⟩
  | 103 => ⟨S1x128, .f32⟩
  | 104 => ⟨S2000x128, .f32⟩
  | 105 => ⟨S2000x128, .f32⟩
  | 106 => ⟨S_, .f32⟩
  | 107 => ⟨S2000x128, .f32⟩
  | 108 => ⟨S2000x128, .f32⟩
  | 109 => ⟨S1x128x128, .f32⟩
  | 110 => ⟨S128x128, .f32⟩
  | 111 => ⟨S2000x128, .f32⟩
  | 112 => ⟨S1x128, .f32⟩
  | 113 => ⟨S128, .f32⟩
  | 114 => ⟨S1x128, .f32⟩
  | 115 => ⟨S2000x128, .f32⟩
  | 116 => ⟨S2000x128, .f32⟩
  | 117 => ⟨S_, .f32⟩
  | 118 => ⟨S2000x128, .f32⟩
  | 119 => ⟨S2000x128, .f32⟩
  | 120 => ⟨S1x128x128, .f32⟩
  | 121 => ⟨S128x128, .f32⟩
  | 122 => ⟨S2000x128, .f32⟩
  | 123 => ⟨S1x128, .f32⟩
  | 124 => ⟨S128, .f32⟩
  | 125 => ⟨S1x128, .f32⟩
  | 126 => ⟨S2000x128, .f32⟩
  | 127 => ⟨S2000x128, .f32⟩
  | _ => ⟨S100000x128, .f32⟩

abbrev hbmTy0_1 (i : Nat) : BufTy := match i % 128 with
  | 0 => ⟨S_, .f32⟩
  | 1 => ⟨S2000x128, .f32⟩
  | 2 => ⟨S2000x128, .f32⟩
  | 3 => ⟨S1x128x1, .f32⟩
  | 4 => ⟨S128x1, .f32⟩
  | 5 => ⟨S2000x1, .f32⟩
  | 6 => ⟨S1x1, .f32⟩
  | 7 => ⟨S1, .f32⟩
  | 8 => ⟨S1x1, .f32⟩
  | 9 => ⟨S2000x1, .f32⟩
  | 10 => ⟨S2000x1, .f32⟩
  | 11 => ⟨S1x128x1, .f32⟩
  | 12 => ⟨S128x1, .f32⟩
  | 13 => ⟨S100000x1, .f32⟩
  | 14 => ⟨S1x1, .f32⟩
  | 15 => ⟨S1, .f32⟩
  | 16 => ⟨S1x1, .f32⟩
  | 17 => ⟨S100000x1, .f32⟩
  | 18 => ⟨S100000x1, .f32⟩
  | 19 => ⟨S100000x1, .f32⟩
  | 20 => ⟨S100000x1, .f32⟩
  | 21 => ⟨S_, .f32⟩
  | 22 => ⟨S100000x1, .f32⟩
  | 23 => ⟨S100000x1, .f32⟩
  | 24 => ⟨S_, .f32⟩
  | 25 => ⟨S100000x1, .f32⟩
  | 26 => ⟨S100000x1, .f32⟩
  | 27 => ⟨S100000x128, .f32⟩
  | 28 => ⟨S100000x128, .f32⟩
  | 29 => ⟨S_, .f32⟩
  | 30 => ⟨S2000x128, .f32⟩
  | 31 => ⟨S100000x1, .i32⟩
  | 32 => ⟨S2000x128, .f32⟩
  | 33 => ⟨S1x128x128, .f32⟩
  | 34 => ⟨S128x128, .f32⟩
  | 35 => ⟨S2000x128, .f32⟩
  | 36 => ⟨S1x128, .f32⟩
  | 37 => ⟨S128, .f32⟩
  | 38 => ⟨S1x128, .f32⟩
  | 39 => ⟨S2000x128, .f32⟩
  | 40 => ⟨S2000x128, .f32⟩
  | 41 => ⟨S_, .f32⟩
  | 42 => ⟨S2000x128, .f32⟩
  | 43 => ⟨S2000x128, .f32⟩
  | 44 => ⟨S1x128x128, .f32⟩
  | 45 => ⟨S128x128, .f32⟩
  | 46 => ⟨S2000x128, .f32⟩
  | 47 => ⟨S1x128, .f32⟩
  | 48 => ⟨S128, .f32⟩
  | 49 => ⟨S1x128, .f32⟩
  | 50 => ⟨S2000x128, .f32⟩
  | 51 => ⟨S2000x128, .f32⟩
  | 52 => ⟨S_, .f32⟩
  | 53 => ⟨S2000x128, .f32⟩
  | 54 => ⟨S2000x128, .f32⟩
  | 55 => ⟨S1x128x128, .f32⟩
  | 56 => ⟨S128x128, .f32⟩
  | 57 => ⟨S2000x128, .f32⟩
  | 58 => ⟨S1x128, .f32⟩
  | 59 => ⟨S128, .f32⟩
  | 60 => ⟨S1x128, .f32⟩
  | 61 => ⟨S2000x128, .f32⟩
  | 62 => ⟨S2000x128, .f32⟩
  | 63 => ⟨S_, .f32⟩
  | 64 => ⟨S2000x128, .f32⟩
  | 65 => ⟨S2000x128, .f32⟩
  | 66 => ⟨S1x128x1, .f32⟩
  | 67 => ⟨S128x1, .f32⟩
  | 68 => ⟨S2000x1, .f32⟩
  | 69 => ⟨S1x1, .f32⟩
  | 70 => ⟨S1, .f32⟩
  | 71 => ⟨S1x1, .f32⟩
  | 72 => ⟨S2000x1, .f32⟩
  | 73 => ⟨S2000x1, .f32⟩
  | 74 => ⟨S1x128x1, .f32⟩
  | 75 => ⟨S128x1, .f32⟩
  | 76 => ⟨S100000x1, .f32⟩
  | 77 => ⟨S1x1, .f32⟩
  | 78 => ⟨S1, .f32⟩
  | 79 => ⟨S1x1, .f32⟩
  | 80 => ⟨S100000x1, .f32⟩
  | 81 => ⟨S100000x1, .f32⟩
  | 82 => ⟨S100000x1, .f32⟩
  | 83 => ⟨S100000x1, .f32⟩
  | 84 => ⟨S_, .f32⟩
  | 85 => ⟨S100000x1, .f32⟩
  | 86 => ⟨S100000x1, .f32⟩
  | 87 => ⟨S_, .f32⟩
  | 88 => ⟨S100000x1, .f32⟩
  | 89 => ⟨S100000x1, .f32⟩
  | 90 => ⟨S100000x128, .f32⟩
  | 91 => ⟨S100000x128, .f32⟩
  | 92 => ⟨S_, .f32⟩
  | 93 => ⟨S2000x128, .f32⟩
  | 94 => ⟨S100000x1, .i32⟩
  | 95 => ⟨S2000x128, .f32⟩
  | 96 => ⟨S1x128x128, .f32⟩
  | 97 => ⟨S128x128, .f32⟩
  | 98 => ⟨S2000x128, .f32⟩
  | 99 => ⟨S1x128, .f32⟩
  | 100 => ⟨S128, .f32⟩
  | 101 => ⟨S1x128, .f32⟩
  | 102 => ⟨S2000x128, .f32⟩
  | 103 => ⟨S2000x128, .f32⟩
  | 104 => ⟨S_, .f32⟩
  | 105 => ⟨S2000x128, .f32⟩
  | 106 => ⟨S2000x128, .f32⟩
  | 107 => ⟨S1x128x128, .f32⟩
  | 108 => ⟨S128x128, .f32⟩
  | 109 => ⟨S2000x128, .f32⟩
  | 110 => ⟨S1x128, .f32⟩
  | 111 => ⟨S128, .f32⟩
  | 112 => ⟨S1x128, .f32⟩
  | 113 => ⟨S2000x128, .f32⟩
  | 114 => ⟨S2000x128, .f32⟩
  | 115 => ⟨S_, .f32⟩
  | 116 => ⟨S2000x128, .f32⟩
  | 117 => ⟨S2000x128, .f32⟩
  | 118 => ⟨S1x128x128, .f32⟩
  | 119 => ⟨S128x128, .f32⟩
  | 120 => ⟨S2000x128, .f32⟩
  | 121 => ⟨S1x128, .f32⟩
  | 122 => ⟨S128, .f32⟩
  | 123 => ⟨S1x128, .f32⟩
  | 124 => ⟨S2000x128, .f32⟩
  | 125 => ⟨S2000x128, .f32⟩
  | 126 => ⟨S_, .f32⟩
  | 127 => ⟨S2000x128, .f32⟩
  | _ => ⟨S100000x128, .f32⟩

abbrev hbmTy0_2 (i : Nat) : BufTy := match i % 128 with
  | 0 => ⟨S2000x128, .f32⟩
  | 1 => ⟨S1x128x1, .f32⟩
  | 2 => ⟨S128x1, .f32⟩
  | 3 => ⟨S2000x1, .f32⟩
  | 4 => ⟨S1x1, .f32⟩
  | 5 => ⟨S1, .f32⟩
  | 6 => ⟨S1x1, .f32⟩
  | 7 => ⟨S2000x1, .f32⟩
  | 8 => ⟨S2000x1, .f32⟩
  | 9 => ⟨S1x128x1, .f32⟩
  | 10 => ⟨S128x1, .f32⟩
  | 11 => ⟨S100000x1, .f32⟩
  | 12 => ⟨S1x1, .f32⟩
  | 13 => ⟨S1, .f32⟩
  | 14 => ⟨S1x1, .f32⟩
  | 15 => ⟨S100000x1, .f32⟩
  | 16 => ⟨S100000x1, .f32⟩
  | 17 => ⟨S100000x1, .f32⟩
  | 18 => ⟨S100000x1, .f32⟩
  | 19 => ⟨S_, .f32⟩
  | 20 => ⟨S100000x1, .f32⟩
  | 21 => ⟨S100000x1, .f32⟩
  | 22 => ⟨S_, .f32⟩
  | 23 => ⟨S100000x1, .f32⟩
  | 24 => ⟨S100000x1, .f32⟩
  | 25 => ⟨S100000x128, .f32⟩
  | 26 => ⟨S100000x128, .f32⟩
  | 27 => ⟨S_, .f32⟩
  | 28 => ⟨S2000x128, .f32⟩
  | 29 => ⟨S100000x1, .i32⟩
  | 30 => ⟨S2000x128, .f32⟩
  | 31 => ⟨S1x128x128, .f32⟩
  | 32 => ⟨S128x128, .f32⟩
  | 33 => ⟨S2000x128, .f32⟩
  | 34 => ⟨S1x128, .f32⟩
  | 35 => ⟨S128, .f32⟩
  | 36 => ⟨S1x128, .f32⟩
  | 37 => ⟨S2000x128, .f32⟩
  | 38 => ⟨S2000x128, .f32⟩
  | 39 => ⟨S_, .f32⟩
  | 40 => ⟨S2000x128, .f32⟩
  | 41 => ⟨S2000x128, .f32⟩
  | 42 => ⟨S1x128x128, .f32⟩
  | 43 => ⟨S128x128, .f32⟩
  | 44 => ⟨S2000x128, .f32⟩
  | 45 => ⟨S1x128, .f32⟩
  | 46 => ⟨S128, .f32⟩
  | 47 => ⟨S1x128, .f32⟩
  | 48 => ⟨S2000x128, .f32⟩
  | 49 => ⟨S2000x128, .f32⟩
  | 50 => ⟨S_, .f32⟩
  | 51 => ⟨S2000x128, .f32⟩
  | 52 => ⟨S2000x128, .f32⟩
  | 53 => ⟨S1x128x128, .f32⟩
  | 54 => ⟨S128x128, .f32⟩
  | 55 => ⟨S2000x128, .f32⟩
  | 56 => ⟨S1x128, .f32⟩
  | 57 => ⟨S128, .f32⟩
  | 58 => ⟨S1x128, .f32⟩
  | 59 => ⟨S2000x128, .f32⟩
  | 60 => ⟨S2000x128, .f32⟩
  | 61 => ⟨S_, .f32⟩
  | 62 => ⟨S2000x128, .f32⟩
  | 63 => ⟨S2000x128, .f32⟩
  | 64 => ⟨S1x128x1, .f32⟩
  | 65 => ⟨S128x1, .f32⟩
  | 66 => ⟨S2000x1, .f32⟩
  | 67 => ⟨S1x1, .f32⟩
  | 68 => ⟨S1, .f32⟩
  | 69 => ⟨S1x1, .f32⟩
  | 70 => ⟨S2000x1, .f32⟩
  | 71 => ⟨S2000x1, .f32⟩
  | 72 => ⟨S1x128x1, .f32⟩
  | 73 => ⟨S128x1, .f32⟩
  | 74 => ⟨S100000x1, .f32⟩
  | 75 => ⟨S1x1, .f32⟩
  | 76 => ⟨S1, .f32⟩
  | 77 => ⟨S1x1, .f32⟩
  | 78 => ⟨S100000x1, .f32⟩
  | 79 => ⟨S100000x1, .f32⟩
  | 80 => ⟨S100000x1, .f32⟩
  | 81 => ⟨S100000x1, .f32⟩
  | 82 => ⟨S_, .f32⟩
  | 83 => ⟨S100000x1, .f32⟩
  | 84 => ⟨S100000x1, .f32⟩
  | 85 => ⟨S_, .f32⟩
  | 86 => ⟨S100000x1, .f32⟩
  | 87 => ⟨S100000x1, .f32⟩
  | 88 => ⟨S100000x128, .f32⟩
  | 89 => ⟨S100000x128, .f32⟩
  | 90 => ⟨S_, .f32⟩
  | 91 => ⟨S2000x128, .f32⟩
  | 92 => ⟨S100000x1, .i32⟩
  | 93 => ⟨S2000x128, .f32⟩
  | 94 => ⟨S1x128x128, .f32⟩
  | 95 => ⟨S128x128, .f32⟩
  | 96 => ⟨S2000x128, .f32⟩
  | 97 => ⟨S1x128, .f32⟩
  | 98 => ⟨S128, .f32⟩
  | 99 => ⟨S1x128, .f32⟩
  | 100 => ⟨S2000x128, .f32⟩
  | 101 => ⟨S2000x128, .f32⟩
  | 102 => ⟨S_, .f32⟩
  | 103 => ⟨S2000x128, .f32⟩
  | 104 => ⟨S2000x128, .f32⟩
  | 105 => ⟨S1x128x128, .f32⟩
  | 106 => ⟨S128x128, .f32⟩
  | 107 => ⟨S2000x128, .f32⟩
  | 108 => ⟨S1x128, .f32⟩
  | 109 => ⟨S128, .f32⟩
  | 110 => ⟨S1x128, .f32⟩
  | 111 => ⟨S2000x128, .f32⟩
  | 112 => ⟨S2000x128, .f32⟩
  | 113 => ⟨S_, .f32⟩
  | 114 => ⟨S2000x128, .f32⟩
  | 115 => ⟨S2000x128, .f32⟩
  | 116 => ⟨S1x128x128, .f32⟩
  | 117 => ⟨S128x128, .f32⟩
  | 118 => ⟨S2000x128, .f32⟩
  | 119 => ⟨S1x128, .f32⟩
  | 120 => ⟨S128, .f32⟩
  | 121 => ⟨S1x128, .f32⟩
  | 122 => ⟨S2000x128, .f32⟩
  | 123 => ⟨S2000x128, .f32⟩
  | 124 => ⟨S_, .f32⟩
  | 125 => ⟨S2000x128, .f32⟩
  | 126 => ⟨S2000x128, .f32⟩
  | 127 => ⟨S1x128x1, .f32⟩
  | _ => ⟨S100000x128, .f32⟩

abbrev hbmTy0_3 (i : Nat) : BufTy := match i % 128 with
  | 0 => ⟨S128x1, .f32⟩
  | 1 => ⟨S2000x1, .f32⟩
  | 2 => ⟨S1x1, .f32⟩
  | 3 => ⟨S1, .f32⟩
  | 4 => ⟨S1x1, .f32⟩
  | 5 => ⟨S2000x1, .f32⟩
  | 6 => ⟨S2000x1, .f32⟩
  | 7 => ⟨S1x128x1, .f32⟩
  | 8 => ⟨S128x1, .f32⟩
  | 9 => ⟨S100000x1, .f32⟩
  | 10 => ⟨S1x1, .f32⟩
  | 11 => ⟨S1, .f32⟩
  | 12 => ⟨S1x1, .f32⟩
  | 13 => ⟨S100000x1, .f32⟩
  | 14 => ⟨S100000x1, .f32⟩
  | 15 => ⟨S100000x1, .f32⟩
  | 16 => ⟨S100000x1, .f32⟩
  | 17 => ⟨S_, .f32⟩
  | 18 => ⟨S100000x1, .f32⟩
  | 19 => ⟨S100000x1, .f32⟩
  | 20 => ⟨S_, .f32⟩
  | 21 => ⟨S100000x1, .f32⟩
  | 22 => ⟨S100000x1, .f32⟩
  | 23 => ⟨S100000x128, .f32⟩
  | 24 => ⟨S100000x128, .f32⟩
  | 25 => ⟨S_, .f32⟩
  | 26 => ⟨S2000x128, .f32⟩
  | 27 => ⟨S100000x1, .i32⟩
  | 28 => ⟨S2000x128, .f32⟩
  | 29 => ⟨S1x128x128, .f32⟩
  | 30 => ⟨S128x128, .f32⟩
  | 31 => ⟨S2000x128, .f32⟩
  | 32 => ⟨S1x128, .f32⟩
  | 33 => ⟨S128, .f32⟩
  | 34 => ⟨S1x128, .f32⟩
  | 35 => ⟨S2000x128, .f32⟩
  | 36 => ⟨S2000x128, .f32⟩
  | 37 => ⟨S_, .f32⟩
  | 38 => ⟨S2000x128, .f32⟩
  | 39 => ⟨S2000x128, .f32⟩
  | 40 => ⟨S1x128x128, .f32⟩
  | 41 => ⟨S128x128, .f32⟩
  | 42 => ⟨S2000x128, .f32⟩
  | 43 => ⟨S1x128, .f32⟩
  | 44 => ⟨S128, .f32⟩
  | 45 => ⟨S1x128, .f32⟩
  | 46 => ⟨S2000x128, .f32⟩
  | 47 => ⟨S2000x128, .f32⟩
  | 48 => ⟨S_, .f32⟩
  | 49 => ⟨S2000x128, .f32⟩
  | 50 => ⟨S2000x128, .f32⟩
  | 51 => ⟨S1x128x128, .f32⟩
  | 52 => ⟨S128x128, .f32⟩
  | 53 => ⟨S2000x128, .f32⟩
  | 54 => ⟨S1x128, .f32⟩
  | 55 => ⟨S128, .f32⟩
  | 56 => ⟨S1x128, .f32⟩
  | 57 => ⟨S2000x128, .f32⟩
  | 58 => ⟨S2000x128, .f32⟩
  | 59 => ⟨S_, .f32⟩
  | 60 => ⟨S2000x128, .f32⟩
  | 61 => ⟨S2000x128, .f32⟩
  | 62 => ⟨S1x128x1, .f32⟩
  | 63 => ⟨S128x1, .f32⟩
  | 64 => ⟨S2000x1, .f32⟩
  | 65 => ⟨S1x1, .f32⟩
  | 66 => ⟨S1, .f32⟩
  | 67 => ⟨S1x1, .f32⟩
  | 68 => ⟨S2000x1, .f32⟩
  | 69 => ⟨S2000x1, .f32⟩
  | 70 => ⟨S1x128x1, .f32⟩
  | 71 => ⟨S128x1, .f32⟩
  | 72 => ⟨S100000x1, .f32⟩
  | 73 => ⟨S1x1, .f32⟩
  | 74 => ⟨S1, .f32⟩
  | 75 => ⟨S1x1, .f32⟩
  | 76 => ⟨S100000x1, .f32⟩
  | 77 => ⟨S100000x1, .f32⟩
  | 78 => ⟨S100000x1, .f32⟩
  | 79 => ⟨S100000x1, .f32⟩
  | 80 => ⟨S_, .f32⟩
  | 81 => ⟨S100000x1, .f32⟩
  | 82 => ⟨S100000x1, .f32⟩
  | 83 => ⟨S_, .f32⟩
  | 84 => ⟨S100000x1, .f32⟩
  | 85 => ⟨S100000x1, .f32⟩
  | 86 => ⟨S100000x128, .f32⟩
  | 87 => ⟨S100000x128, .f32⟩
  | 88 => ⟨S_, .f32⟩
  | 89 => ⟨S2000x128, .f32⟩
  | 90 => ⟨S100000x1, .i32⟩
  | 91 => ⟨S2000x128, .f32⟩
  | 92 => ⟨S1x128x128, .f32⟩
  | 93 => ⟨S128x128, .f32⟩
  | 94 => ⟨S2000x128, .f32⟩
  | 95 => ⟨S1x128, .f32⟩
  | 96 => ⟨S128, .f32⟩
  | 97 => ⟨S1x128, .f32⟩
  | 98 => ⟨S2000x128, .f32⟩
  | 99 => ⟨S2000x128, .f32⟩
  | 100 => ⟨S_, .f32⟩
  | 101 => ⟨S2000x128, .f32⟩
  | 102 => ⟨S2000x128, .f32⟩
  | 103 => ⟨S1x128x128, .f32⟩
  | 104 => ⟨S128x128, .f32⟩
  | 105 => ⟨S2000x128, .f32⟩
  | 106 => ⟨S1x128, .f32⟩
  | 107 => ⟨S128, .f32⟩
  | 108 => ⟨S1x128, .f32⟩
  | 109 => ⟨S2000x128, .f32⟩
  | 110 => ⟨S2000x128, .f32⟩
  | 111 => ⟨S_, .f32⟩
  | 112 => ⟨S2000x128, .f32⟩
  | 113 => ⟨S2000x128, .f32⟩
  | 114 => ⟨S1x128x128, .f32⟩
  | 115 => ⟨S128x128, .f32⟩
  | 116 => ⟨S2000x128, .f32⟩
  | 117 => ⟨S1x128, .f32⟩
  | 118 => ⟨S128, .f32⟩
  | 119 => ⟨S1x128, .f32⟩
  | 120 => ⟨S2000x128, .f32⟩
  | 121 => ⟨S2000x128, .f32⟩
  | 122 => ⟨S_, .f32⟩
  | 123 => ⟨S2000x128, .f32⟩
  | 124 => ⟨S2000x128, .f32⟩
  | 125 => ⟨S1x128x1, .f32⟩
  | 126 => ⟨S128x1, .f32⟩
  | 127 => ⟨S2000x1, .f32⟩
  | _ => ⟨S100000x128, .f32⟩

abbrev hbmTy0_4 (i : Nat) : BufTy := match i % 128 with
  | 0 => ⟨S1x1, .f32⟩
  | 1 => ⟨S1, .f32⟩
  | 2 => ⟨S1x1, .f32⟩
  | 3 => ⟨S2000x1, .f32⟩
  | 4 => ⟨S2000x1, .f32⟩
  | 5 => ⟨S1x128x1, .f32⟩
  | 6 => ⟨S128x1, .f32⟩
  | 7 => ⟨S100000x1, .f32⟩
  | 8 => ⟨S1x1, .f32⟩
  | 9 => ⟨S1, .f32⟩
  | 10 => ⟨S1x1, .f32⟩
  | 11 => ⟨S100000x1, .f32⟩
  | 12 => ⟨S100000x1, .f32⟩
  | 13 => ⟨S100000x1, .f32⟩
  | 14 => ⟨S100000x1, .f32⟩
  | 15 => ⟨S_, .f32⟩
  | 16 => ⟨S100000x1, .f32⟩
  | 17 => ⟨S100000x1, .f32⟩
  | 18 => ⟨S_, .f32⟩
  | 19 => ⟨S100000x1, .f32⟩
  | 20 => ⟨S100000x1, .f32⟩
  | 21 => ⟨S100000x128, .f32⟩
  | 22 => ⟨S100000x128, .f32⟩
  | 23 => ⟨S_, .f32⟩
  | 24 => ⟨S2000x128, .f32⟩
  | 25 => ⟨S100000x1, .i32⟩
  | 26 => ⟨S2000x128, .f32⟩
  | 27 => ⟨S1x128x128, .f32⟩
  | 28 => ⟨S128x128, .f32⟩
  | 29 => ⟨S2000x128, .f32⟩
  | 30 => ⟨S1x128, .f32⟩
  | 31 => ⟨S128, .f32⟩
  | 32 => ⟨S1x128, .f32⟩
  | 33 => ⟨S2000x128, .f32⟩
  | 34 => ⟨S2000x128, .f32⟩
  | 35 => ⟨S_, .f32⟩
  | 36 => ⟨S2000x128, .f32⟩
  | 37 => ⟨S2000x128, .f32⟩
  | 38 => ⟨S1x128x128, .f32⟩
  | 39 => ⟨S128x128, .f32⟩
  | 40 => ⟨S2000x128, .f32⟩
  | 41 => ⟨S1x128, .f32⟩
  | 42 => ⟨S128, .f32⟩
  | 43 => ⟨S1x128, .f32⟩
  | 44 => ⟨S2000x128, .f32⟩
  | 45 => ⟨S2000x128, .f32⟩
  | 46 => ⟨S_, .f32⟩
  | 47 => ⟨S2000x128, .f32⟩
  | 48 => ⟨S2000x128, .f32⟩
  | 49 => ⟨S1x128x128, .f32⟩
  | 50 => ⟨S128x128, .f32⟩
  | 51 => ⟨S2000x128, .f32⟩
  | 52 => ⟨S1x128, .f32⟩
  | 53 => ⟨S128, .f32⟩
  | 54 => ⟨S1x128, .f32⟩
  | 55 => ⟨S2000x128, .f32⟩
  | 56 => ⟨S2000x128, .f32⟩
  | 57 => ⟨S_, .f32⟩
  | 58 => ⟨S2000x128, .f32⟩
  | 59 => ⟨S2000x128, .f32⟩
  | 60 => ⟨S1x128x1, .f32⟩
  | 61 => ⟨S128x1, .f32⟩
  | 62 => ⟨S2000x1, .f32⟩
  | 63 => ⟨S1x1, .f32⟩
  | 64 => ⟨S1, .f32⟩
  | 65 => ⟨S1x1, .f32⟩
  | 66 => ⟨S2000x1, .f32⟩
  | 67 => ⟨S2000x1, .f32⟩
  | 68 => ⟨S1x128x1, .f32⟩
  | 69 => ⟨S128x1, .f32⟩
  | 70 => ⟨S100000x1, .f32⟩
  | 71 => ⟨S1x1, .f32⟩
  | 72 => ⟨S1, .f32⟩
  | 73 => ⟨S1x1, .f32⟩
  | 74 => ⟨S100000x1, .f32⟩
  | 75 => ⟨S100000x1, .f32⟩
  | 76 => ⟨S100000x1, .f32⟩
  | 77 => ⟨S100000x1, .f32⟩
  | 78 => ⟨S_, .f32⟩
  | 79 => ⟨S100000x1, .f32⟩
  | 80 => ⟨S100000x1, .f32⟩
  | 81 => ⟨S_, .f32⟩
  | 82 => ⟨S100000x1, .f32⟩
  | 83 => ⟨S100000x1, .f32⟩
  | 84 => ⟨S100000x128, .f32⟩
  | 85 => ⟨S100000x128, .f32⟩
  | 86 => ⟨S_, .f32⟩
  | 87 => ⟨S2000x128, .f32⟩
  | 88 => ⟨S100000x1, .i32⟩
  | 89 => ⟨S2000x128, .f32⟩
  | 90 => ⟨S1x128x128, .f32⟩
  | 91 => ⟨S128x128, .f32⟩
  | 92 => ⟨S2000x128, .f32⟩
  | 93 => ⟨S1x128, .f32⟩
  | 94 => ⟨S128, .f32⟩
  | 95 => ⟨S1x128, .f32⟩
  | 96 => ⟨S2000x128, .f32⟩
  | 97 => ⟨S2000x128, .f32⟩
  | 98 => ⟨S_, .f32⟩
  | 99 => ⟨S2000x128, .f32⟩
  | 100 => ⟨S2000x128, .f32⟩
  | 101 => ⟨S1x128x128, .f32⟩
  | 102 => ⟨S128x128, .f32⟩
  | 103 => ⟨S2000x128, .f32⟩
  | 104 => ⟨S1x128, .f32⟩
  | 105 => ⟨S128, .f32⟩
  | 106 => ⟨S1x128, .f32⟩
  | 107 => ⟨S2000x128, .f32⟩
  | 108 => ⟨S2000x128, .f32⟩
  | 109 => ⟨S_, .f32⟩
  | 110 => ⟨S2000x128, .f32⟩
  | 111 => ⟨S2000x128, .f32⟩
  | 112 => ⟨S1x128x128, .f32⟩
  | 113 => ⟨S128x128, .f32⟩
  | 114 => ⟨S2000x128, .f32⟩
  | 115 => ⟨S1x128, .f32⟩
  | 116 => ⟨S128, .f32⟩
  | 117 => ⟨S1x128, .f32⟩
  | 118 => ⟨S2000x128, .f32⟩
  | 119 => ⟨S2000x128, .f32⟩
  | 120 => ⟨S_, .f32⟩
  | 121 => ⟨S2000x128, .f32⟩
  | 122 => ⟨S2000x128, .f32⟩
  | 123 => ⟨S1x128x1, .f32⟩
  | 124 => ⟨S128x1, .f32⟩
  | 125 => ⟨S2000x1, .f32⟩
  | 126 => ⟨S1x1, .f32⟩
  | 127 => ⟨S1, .f32⟩
  | _ => ⟨S100000x128, .f32⟩

abbrev hbmTy0_5 (i : Nat) : BufTy := match i % 128 with
  | 0 => ⟨S1x1, .f32⟩
  | 1 => ⟨S2000x1, .f32⟩
  | 2 => ⟨S2000x1, .f32⟩
  | 3 => ⟨S1x128x1, .f32⟩
  | 4 => ⟨S128x1, .f32⟩
  | 5 => ⟨S100000x1, .f32⟩
  | 6 => ⟨S1x1, .f32⟩
  | 7 => ⟨S1, .f32⟩
  | 8 => ⟨S1x1, .f32⟩
  | 9 => ⟨S100000x1, .f32⟩
  | 10 => ⟨S100000x1, .f32⟩
  | 11 => ⟨S100000x1, .f32⟩
  | 12 => ⟨S100000x1, .f32⟩
  | 13 => ⟨S_, .f32⟩
  | 14 => ⟨S100000x1, .f32⟩
  | 15 => ⟨S100000x1, .f32⟩
  | 16 => ⟨S_, .f32⟩
  | 17 => ⟨S100000x1, .f32⟩
  | 18 => ⟨S100000x1, .f32⟩
  | 19 => ⟨S100000x128, .f32⟩
  | 20 => ⟨S100000x128, .f32⟩
  | 21 => ⟨S_, .f32⟩
  | 22 => ⟨S2000x128, .f32⟩
  | 23 => ⟨S100000x1, .i32⟩
  | 24 => ⟨S2000x128, .f32⟩
  | 25 => ⟨S1x128x128, .f32⟩
  | 26 => ⟨S128x128, .f32⟩
  | 27 => ⟨S2000x128, .f32⟩
  | 28 => ⟨S1x128, .f32⟩
  | 29 => ⟨S128, .f32⟩
  | 30 => ⟨S1x128, .f32⟩
  | 31 => ⟨S2000x128, .f32⟩
  | 32 => ⟨S2000x128, .f32⟩
  | 33 => ⟨S_, .f32⟩
  | 34 => ⟨S2000x128, .f32⟩
  | 35 => ⟨S2000x128, .f32⟩
  | 36 => ⟨S1x128x128, .f32⟩
  | 37 => ⟨S128x128, .f32⟩
  | 38 => ⟨S2000x128, .f32⟩
  | 39 => ⟨S1x128, .f32⟩
  | 40 => ⟨S128, .f32⟩
  | 41 => ⟨S1x128, .f32⟩
  | 42 => ⟨S2000x128, .f32⟩
  | 43 => ⟨S2000x128, .f32⟩
  | 44 => ⟨S_, .f32⟩
  | 45 => ⟨S2000x128, .f32⟩
  | 46 => ⟨S2000x128, .f32⟩
  | 47 => ⟨S1x128x128, .f32⟩
  | 48 => ⟨S128x128, .f32⟩
  | 49 => ⟨S2000x128, .f32⟩
  | 50 => ⟨S1x128, .f32⟩
  | 51 => ⟨S128, .f32⟩
  | 52 => ⟨S1x128, .f32⟩
  | 53 => ⟨S2000x128, .f32⟩
  | 54 => ⟨S2000x128, .f32⟩
  | 55 => ⟨S_, .f32⟩
  | 56 => ⟨S2000x128, .f32⟩
  | 57 => ⟨S2000x128, .f32⟩
  | 58 => ⟨S1x128x1, .f32⟩
  | 59 => ⟨S128x1, .f32⟩
  | 60 => ⟨S2000x1, .f32⟩
  | 61 => ⟨S1x1, .f32⟩
  | 62 => ⟨S1, .f32⟩
  | 63 => ⟨S1x1, .f32⟩
  | 64 => ⟨S2000x1, .f32⟩
  | 65 => ⟨S2000x1, .f32⟩
  | 66 => ⟨S1x128x1, .f32⟩
  | 67 => ⟨S128x1, .f32⟩
  | 68 => ⟨S100000x1, .f32⟩
  | 69 => ⟨S1x1, .f32⟩
  | 70 => ⟨S1, .f32⟩
  | 71 => ⟨S1x1, .f32⟩
  | 72 => ⟨S100000x1, .f32⟩
  | 73 => ⟨S100000x1, .f32⟩
  | 74 => ⟨S100000x1, .f32⟩
  | 75 => ⟨S100000x1, .f32⟩
  | 76 => ⟨S_, .f32⟩
  | 77 => ⟨S100000x1, .f32⟩
  | 78 => ⟨S100000x1, .f32⟩
  | 79 => ⟨S_, .f32⟩
  | 80 => ⟨S100000x1, .f32⟩
  | 81 => ⟨S100000x1, .f32⟩
  | 82 => ⟨S100000x128, .f32⟩
  | 83 => ⟨S100000x128, .f32⟩
  | 84 => ⟨S_, .f32⟩
  | 85 => ⟨S2000x128, .f32⟩
  | 86 => ⟨S100000x1, .i32⟩
  | 87 => ⟨S2000x128, .f32⟩
  | 88 => ⟨S1x128x128, .f32⟩
  | 89 => ⟨S128x128, .f32⟩
  | 90 => ⟨S2000x128, .f32⟩
  | 91 => ⟨S1x128, .f32⟩
  | 92 => ⟨S128, .f32⟩
  | 93 => ⟨S1x128, .f32⟩
  | 94 => ⟨S2000x128, .f32⟩
  | 95 => ⟨S2000x128, .f32⟩
  | 96 => ⟨S_, .f32⟩
  | 97 => ⟨S2000x128, .f32⟩
  | 98 => ⟨S2000x128, .f32⟩
  | 99 => ⟨S1x128x128, .f32⟩
  | 100 => ⟨S128x128, .f32⟩
  | 101 => ⟨S2000x128, .f32⟩
  | 102 => ⟨S1x128, .f32⟩
  | 103 => ⟨S128, .f32⟩
  | 104 => ⟨S1x128, .f32⟩
  | 105 => ⟨S2000x128, .f32⟩
  | 106 => ⟨S2000x128, .f32⟩
  | 107 => ⟨S_, .f32⟩
  | 108 => ⟨S2000x128, .f32⟩
  | 109 => ⟨S2000x128, .f32⟩
  | 110 => ⟨S1x128x128, .f32⟩
  | 111 => ⟨S128x128, .f32⟩
  | 112 => ⟨S2000x128, .f32⟩
  | 113 => ⟨S1x128, .f32⟩
  | 114 => ⟨S128, .f32⟩
  | 115 => ⟨S1x128, .f32⟩
  | 116 => ⟨S2000x128, .f32⟩
  | 117 => ⟨S2000x128, .f32⟩
  | 118 => ⟨S_, .f32⟩
  | 119 => ⟨S2000x128, .f32⟩
  | 120 => ⟨S2000x128, .f32⟩
  | 121 => ⟨S1x128x1, .f32⟩
  | 122 => ⟨S128x1, .f32⟩
  | 123 => ⟨S2000x1, .f32⟩
  | 124 => ⟨S1x1, .f32⟩
  | 125 => ⟨S1, .f32⟩
  | 126 => ⟨S1x1, .f32⟩
  | 127 => ⟨S2000x1, .f32⟩
  | _ => ⟨S100000x128, .f32⟩

abbrev hbmTy0_6 (i : Nat) : BufTy := match i % 128 with
  | 0 => ⟨S2000x1, .f32⟩
  | 1 => ⟨S2000x12, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call0_cst : Ref sig .tc := ⟨.hbm, 43, rfl⟩
abbrev main_call0_v0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call1_cst : Ref sig .tc := ⟨.hbm, 54, rfl⟩
abbrev main_call1_v0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_call2_cst : Ref sig .tc := ⟨.hbm, 65, rfl⟩
abbrev main_call2_v0 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_2 : Ref sig .tc := ⟨.hbm, 86, rfl⟩
abbrev main_v64 : Ref sig .tc := ⟨.hbm, 87, rfl⟩
abbrev main_v65 : Ref sig .tc := ⟨.hbm, 88, rfl⟩
abbrev main_cst_3 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_4 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_call3_cst : Ref sig .tc := ⟨.hbm, 106, rfl⟩
abbrev main_call3_v0 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_call4_cst : Ref sig .tc := ⟨.hbm, 117, rfl⟩
abbrev main_call4_v0 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_call5_cst : Ref sig .tc := ⟨.hbm, 128, rfl⟩
abbrev main_call5_v0 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_cst_5 : Ref sig .tc := ⟨.hbm, 149, rfl⟩
abbrev main_v118 : Ref sig .tc := ⟨.hbm, 150, rfl⟩
abbrev main_v119 : Ref sig .tc := ⟨.hbm, 151, rfl⟩
abbrev main_cst_6 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_cst_7 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_call6_cst : Ref sig .tc := ⟨.hbm, 169, rfl⟩
abbrev main_call6_v0 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_call7_cst : Ref sig .tc := ⟨.hbm, 180, rfl⟩
abbrev main_call7_v0 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_call8_cst : Ref sig .tc := ⟨.hbm, 191, rfl⟩
abbrev main_call8_v0 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_cst_8 : Ref sig .tc := ⟨.hbm, 212, rfl⟩
abbrev main_v172 : Ref sig .tc := ⟨.hbm, 213, rfl⟩
abbrev main_v173 : Ref sig .tc := ⟨.hbm, 214, rfl⟩
abbrev main_cst_9 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_cst_10 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_call9_cst : Ref sig .tc := ⟨.hbm, 232, rfl⟩
abbrev main_call9_v0 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_call10_cst : Ref sig .tc := ⟨.hbm, 243, rfl⟩
abbrev main_call10_v0 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_call11_cst : Ref sig .tc := ⟨.hbm, 254, rfl⟩
abbrev main_call11_v0 : Ref sig .tc := ⟨.hbm, 255, rfl⟩
abbrev main_v207 : Ref sig .tc := ⟨.hbm, 256, rfl⟩
abbrev main_v208 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_v215 : Ref sig .tc := ⟨.hbm, 264, rfl⟩
abbrev main_v216 : Ref sig .tc := ⟨.hbm, 265, rfl⟩
abbrev main_v217 : Ref sig .tc := ⟨.hbm, 266, rfl⟩
abbrev main_v218 : Ref sig .tc := ⟨.hbm, 267, rfl⟩
abbrev main_v219 : Ref sig .tc := ⟨.hbm, 268, rfl⟩
abbrev main_v220 : Ref sig .tc := ⟨.hbm, 269, rfl⟩
abbrev main_v221 : Ref sig .tc := ⟨.hbm, 270, rfl⟩
abbrev main_v222 : Ref sig .tc := ⟨.hbm, 271, rfl⟩
abbrev main_v223 : Ref sig .tc := ⟨.hbm, 272, rfl⟩
abbrev main_v224 : Ref sig .tc := ⟨.hbm, 273, rfl⟩
abbrev main_v225 : Ref sig .tc := ⟨.hbm, 274, rfl⟩
abbrev main_cst_11 : Ref sig .tc := ⟨.hbm, 275, rfl⟩
abbrev main_v226 : Ref sig .tc := ⟨.hbm, 276, rfl⟩
abbrev main_v227 : Ref sig .tc := ⟨.hbm, 277, rfl⟩
abbrev main_cst_12 : Ref sig .tc := ⟨.hbm, 278, rfl⟩
abbrev main_v228 : Ref sig .tc := ⟨.hbm, 279, rfl⟩
abbrev main_v229 : Ref sig .tc := ⟨.hbm, 280, rfl⟩
abbrev main_v230 : Ref sig .tc := ⟨.hbm, 281, rfl⟩
abbrev main_v231 : Ref sig .tc := ⟨.hbm, 282, rfl⟩
abbrev main_cst_13 : Ref sig .tc := ⟨.hbm, 283, rfl⟩
abbrev main_v232 : Ref sig .tc := ⟨.hbm, 284, rfl⟩
abbrev main_v233 : Ref sig .tc := ⟨.hbm, 285, rfl⟩
abbrev main_v234 : Ref sig .tc := ⟨.hbm, 286, rfl⟩
abbrev main_v235 : Ref sig .tc := ⟨.hbm, 287, rfl⟩
abbrev main_v236 : Ref sig .tc := ⟨.hbm, 288, rfl⟩
abbrev main_v237 : Ref sig .tc := ⟨.hbm, 289, rfl⟩
abbrev main_v238 : Ref sig .tc := ⟨.hbm, 290, rfl⟩
abbrev main_v239 : Ref sig .tc := ⟨.hbm, 291, rfl⟩
abbrev main_v240 : Ref sig .tc := ⟨.hbm, 292, rfl⟩
abbrev main_v241 : Ref sig .tc := ⟨.hbm, 293, rfl⟩
abbrev main_v242 : Ref sig .tc := ⟨.hbm, 294, rfl⟩
abbrev main_call12_cst : Ref sig .tc := ⟨.hbm, 295, rfl⟩
abbrev main_call12_v0 : Ref sig .tc := ⟨.hbm, 296, rfl⟩
abbrev main_v243 : Ref sig .tc := ⟨.hbm, 297, rfl⟩
abbrev main_v244 : Ref sig .tc := ⟨.hbm, 298, rfl⟩
abbrev main_v245 : Ref sig .tc := ⟨.hbm, 299, rfl⟩
abbrev main_v246 : Ref sig .tc := ⟨.hbm, 300, rfl⟩
abbrev main_v247 : Ref sig .tc := ⟨.hbm, 301, rfl⟩
abbrev main_v248 : Ref sig .tc := ⟨.hbm, 302, rfl⟩
abbrev main_v249 : Ref sig .tc := ⟨.hbm, 303, rfl⟩
abbrev main_v250 : Ref sig .tc := ⟨.hbm, 304, rfl⟩
abbrev main_v251 : Ref sig .tc := ⟨.hbm, 305, rfl⟩
abbrev main_call13_cst : Ref sig .tc := ⟨.hbm, 306, rfl⟩
abbrev main_call13_v0 : Ref sig .tc := ⟨.hbm, 307, rfl⟩
abbrev main_v252 : Ref sig .tc := ⟨.hbm, 308, rfl⟩
abbrev main_v253 : Ref sig .tc := ⟨.hbm, 309, rfl⟩
abbrev main_v254 : Ref sig .tc := ⟨.hbm, 310, rfl⟩
abbrev main_v255 : Ref sig .tc := ⟨.hbm, 311, rfl⟩
abbrev main_v256 : Ref sig .tc := ⟨.hbm, 312, rfl⟩
abbrev main_v257 : Ref sig .tc := ⟨.hbm, 313, rfl⟩
abbrev main_v258 : Ref sig .tc := ⟨.hbm, 314, rfl⟩
abbrev main_v259 : Ref sig .tc := ⟨.hbm, 315, rfl⟩
abbrev main_v260 : Ref sig .tc := ⟨.hbm, 316, rfl⟩
abbrev main_call14_cst : Ref sig .tc := ⟨.hbm, 317, rfl⟩
abbrev main_call14_v0 : Ref sig .tc := ⟨.hbm, 318, rfl⟩
abbrev main_v261 : Ref sig .tc := ⟨.hbm, 319, rfl⟩
abbrev main_v262 : Ref sig .tc := ⟨.hbm, 320, rfl⟩
abbrev main_v263 : Ref sig .tc := ⟨.hbm, 321, rfl⟩
abbrev main_v264 : Ref sig .tc := ⟨.hbm, 322, rfl⟩
abbrev main_v265 : Ref sig .tc := ⟨.hbm, 323, rfl⟩
abbrev main_v266 : Ref sig .tc := ⟨.hbm, 324, rfl⟩
abbrev main_v267 : Ref sig .tc := ⟨.hbm, 325, rfl⟩
abbrev main_v268 : Ref sig .tc := ⟨.hbm, 326, rfl⟩
abbrev main_v269 : Ref sig .tc := ⟨.hbm, 327, rfl⟩
abbrev main_v270 : Ref sig .tc := ⟨.hbm, 328, rfl⟩
abbrev main_v271 : Ref sig .tc := ⟨.hbm, 329, rfl⟩
abbrev main_v272 : Ref sig .tc := ⟨.hbm, 330, rfl⟩
abbrev main_v273 : Ref sig .tc := ⟨.hbm, 331, rfl⟩
abbrev main_v274 : Ref sig .tc := ⟨.hbm, 332, rfl⟩
abbrev main_v275 : Ref sig .tc := ⟨.hbm, 333, rfl⟩
abbrev main_v276 : Ref sig .tc := ⟨.hbm, 334, rfl⟩
abbrev main_v277 : Ref sig .tc := ⟨.hbm, 335, rfl⟩
abbrev main_v278 : Ref sig .tc := ⟨.hbm, 336, rfl⟩
abbrev main_v279 : Ref sig .tc := ⟨.hbm, 337, rfl⟩
abbrev main_cst_14 : Ref sig .tc := ⟨.hbm, 338, rfl⟩
abbrev main_v280 : Ref sig .tc := ⟨.hbm, 339, rfl⟩
abbrev main_v281 : Ref sig .tc := ⟨.hbm, 340, rfl⟩
abbrev main_cst_15 : Ref sig .tc := ⟨.hbm, 341, rfl⟩
abbrev main_v282 : Ref sig .tc := ⟨.hbm, 342, rfl⟩
abbrev main_v283 : Ref sig .tc := ⟨.hbm, 343, rfl⟩
abbrev main_v284 : Ref sig .tc := ⟨.hbm, 344, rfl⟩
abbrev main_v285 : Ref sig .tc := ⟨.hbm, 345, rfl⟩
abbrev main_cst_16 : Ref sig .tc := ⟨.hbm, 346, rfl⟩
abbrev main_v286 : Ref sig .tc := ⟨.hbm, 347, rfl⟩
abbrev main_v287 : Ref sig .tc := ⟨.hbm, 348, rfl⟩
abbrev main_v288 : Ref sig .tc := ⟨.hbm, 349, rfl⟩
abbrev main_v289 : Ref sig .tc := ⟨.hbm, 350, rfl⟩
abbrev main_v290 : Ref sig .tc := ⟨.hbm, 351, rfl⟩
abbrev main_v291 : Ref sig .tc := ⟨.hbm, 352, rfl⟩
abbrev main_v292 : Ref sig .tc := ⟨.hbm, 353, rfl⟩
abbrev main_v293 : Ref sig .tc := ⟨.hbm, 354, rfl⟩
abbrev main_v294 : Ref sig .tc := ⟨.hbm, 355, rfl⟩
abbrev main_v295 : Ref sig .tc := ⟨.hbm, 356, rfl⟩
abbrev main_v296 : Ref sig .tc := ⟨.hbm, 357, rfl⟩
abbrev main_call15_cst : Ref sig .tc := ⟨.hbm, 358, rfl⟩
abbrev main_call15_v0 : Ref sig .tc := ⟨.hbm, 359, rfl⟩
abbrev main_v297 : Ref sig .tc := ⟨.hbm, 360, rfl⟩
abbrev main_v298 : Ref sig .tc := ⟨.hbm, 361, rfl⟩
abbrev main_v299 : Ref sig .tc := ⟨.hbm, 362, rfl⟩
abbrev main_v300 : Ref sig .tc := ⟨.hbm, 363, rfl⟩
abbrev main_v301 : Ref sig .tc := ⟨.hbm, 364, rfl⟩
abbrev main_v302 : Ref sig .tc := ⟨.hbm, 365, rfl⟩
abbrev main_v303 : Ref sig .tc := ⟨.hbm, 366, rfl⟩
abbrev main_v304 : Ref sig .tc := ⟨.hbm, 367, rfl⟩
abbrev main_v305 : Ref sig .tc := ⟨.hbm, 368, rfl⟩
abbrev main_call16_cst : Ref sig .tc := ⟨.hbm, 369, rfl⟩
abbrev main_call16_v0 : Ref sig .tc := ⟨.hbm, 370, rfl⟩
abbrev main_v306 : Ref sig .tc := ⟨.hbm, 371, rfl⟩
abbrev main_v307 : Ref sig .tc := ⟨.hbm, 372, rfl⟩
abbrev main_v308 : Ref sig .tc := ⟨.hbm, 373, rfl⟩
abbrev main_v309 : Ref sig .tc := ⟨.hbm, 374, rfl⟩
abbrev main_v310 : Ref sig .tc := ⟨.hbm, 375, rfl⟩
abbrev main_v311 : Ref sig .tc := ⟨.hbm, 376, rfl⟩
abbrev main_v312 : Ref sig .tc := ⟨.hbm, 377, rfl⟩
abbrev main_v313 : Ref sig .tc := ⟨.hbm, 378, rfl⟩
abbrev main_v314 : Ref sig .tc := ⟨.hbm, 379, rfl⟩
abbrev main_call17_cst : Ref sig .tc := ⟨.hbm, 380, rfl⟩
abbrev main_call17_v0 : Ref sig .tc := ⟨.hbm, 381, rfl⟩
abbrev main_v315 : Ref sig .tc := ⟨.hbm, 382, rfl⟩
abbrev main_v316 : Ref sig .tc := ⟨.hbm, 383, rfl⟩
abbrev main_v317 : Ref sig .tc := ⟨.hbm, 384, rfl⟩
abbrev main_v318 : Ref sig .tc := ⟨.hbm, 385, rfl⟩
abbrev main_v319 : Ref sig .tc := ⟨.hbm, 386, rfl⟩
abbrev main_v320 : Ref sig .tc := ⟨.hbm, 387, rfl⟩
abbrev main_v321 : Ref sig .tc := ⟨.hbm, 388, rfl⟩
abbrev main_v322 : Ref sig .tc := ⟨.hbm, 389, rfl⟩
abbrev main_v323 : Ref sig .tc := ⟨.hbm, 390, rfl⟩
abbrev main_v324 : Ref sig .tc := ⟨.hbm, 391, rfl⟩
abbrev main_v325 : Ref sig .tc := ⟨.hbm, 392, rfl⟩
abbrev main_v326 : Ref sig .tc := ⟨.hbm, 393, rfl⟩
abbrev main_v327 : Ref sig .tc := ⟨.hbm, 394, rfl⟩
abbrev main_v328 : Ref sig .tc := ⟨.hbm, 395, rfl⟩
abbrev main_v329 : Ref sig .tc := ⟨.hbm, 396, rfl⟩
abbrev main_v330 : Ref sig .tc := ⟨.hbm, 397, rfl⟩
abbrev main_v331 : Ref sig .tc := ⟨.hbm, 398, rfl⟩
abbrev main_v332 : Ref sig .tc := ⟨.hbm, 399, rfl⟩
abbrev main_v333 : Ref sig .tc := ⟨.hbm, 400, rfl⟩
abbrev main_cst_17 : Ref sig .tc := ⟨.hbm, 401, rfl⟩
abbrev main_v334 : Ref sig .tc := ⟨.hbm, 402, rfl⟩
abbrev main_v335 : Ref sig .tc := ⟨.hbm, 403, rfl⟩
abbrev main_cst_18 : Ref sig .tc := ⟨.hbm, 404, rfl⟩
abbrev main_v336 : Ref sig .tc := ⟨.hbm, 405, rfl⟩
abbrev main_v337 : Ref sig .tc := ⟨.hbm, 406, rfl⟩
abbrev main_v338 : Ref sig .tc := ⟨.hbm, 407, rfl⟩
abbrev main_v339 : Ref sig .tc := ⟨.hbm, 408, rfl⟩
abbrev main_cst_19 : Ref sig .tc := ⟨.hbm, 409, rfl⟩
abbrev main_v340 : Ref sig .tc := ⟨.hbm, 410, rfl⟩
abbrev main_v341 : Ref sig .tc := ⟨.hbm, 411, rfl⟩
abbrev main_v342 : Ref sig .tc := ⟨.hbm, 412, rfl⟩
abbrev main_v343 : Ref sig .tc := ⟨.hbm, 413, rfl⟩
abbrev main_v344 : Ref sig .tc := ⟨.hbm, 414, rfl⟩
abbrev main_v345 : Ref sig .tc := ⟨.hbm, 415, rfl⟩
abbrev main_v346 : Ref sig .tc := ⟨.hbm, 416, rfl⟩
abbrev main_v347 : Ref sig .tc := ⟨.hbm, 417, rfl⟩
abbrev main_v348 : Ref sig .tc := ⟨.hbm, 418, rfl⟩
abbrev main_v349 : Ref sig .tc := ⟨.hbm, 419, rfl⟩
abbrev main_v350 : Ref sig .tc := ⟨.hbm, 420, rfl⟩
abbrev main_call18_cst : Ref sig .tc := ⟨.hbm, 421, rfl⟩
abbrev main_call18_v0 : Ref sig .tc := ⟨.hbm, 422, rfl⟩
abbrev main_v351 : Ref sig .tc := ⟨.hbm, 423, rfl⟩
abbrev main_v352 : Ref sig .tc := ⟨.hbm, 424, rfl⟩
abbrev main_v353 : Ref sig .tc := ⟨.hbm, 425, rfl⟩
abbrev main_v354 : Ref sig .tc := ⟨.hbm, 426, rfl⟩
abbrev main_v355 : Ref sig .tc := ⟨.hbm, 427, rfl⟩
abbrev main_v356 : Ref sig .tc := ⟨.hbm, 428, rfl⟩
abbrev main_v357 : Ref sig .tc := ⟨.hbm, 429, rfl⟩
abbrev main_v358 : Ref sig .tc := ⟨.hbm, 430, rfl⟩
abbrev main_v359 : Ref sig .tc := ⟨.hbm, 431, rfl⟩
abbrev main_call19_cst : Ref sig .tc := ⟨.hbm, 432, rfl⟩
abbrev main_call19_v0 : Ref sig .tc := ⟨.hbm, 433, rfl⟩
abbrev main_v360 : Ref sig .tc := ⟨.hbm, 434, rfl⟩
abbrev main_v361 : Ref sig .tc := ⟨.hbm, 435, rfl⟩
abbrev main_v362 : Ref sig .tc := ⟨.hbm, 436, rfl⟩
abbrev main_v363 : Ref sig .tc := ⟨.hbm, 437, rfl⟩
abbrev main_v364 : Ref sig .tc := ⟨.hbm, 438, rfl⟩
abbrev main_v365 : Ref sig .tc := ⟨.hbm, 439, rfl⟩
abbrev main_v366 : Ref sig .tc := ⟨.hbm, 440, rfl⟩
abbrev main_v367 : Ref sig .tc := ⟨.hbm, 441, rfl⟩
abbrev main_v368 : Ref sig .tc := ⟨.hbm, 442, rfl⟩
abbrev main_call20_cst : Ref sig .tc := ⟨.hbm, 443, rfl⟩
abbrev main_call20_v0 : Ref sig .tc := ⟨.hbm, 444, rfl⟩
abbrev main_v369 : Ref sig .tc := ⟨.hbm, 445, rfl⟩
abbrev main_v370 : Ref sig .tc := ⟨.hbm, 446, rfl⟩
abbrev main_v371 : Ref sig .tc := ⟨.hbm, 447, rfl⟩
abbrev main_v372 : Ref sig .tc := ⟨.hbm, 448, rfl⟩
abbrev main_v373 : Ref sig .tc := ⟨.hbm, 449, rfl⟩
abbrev main_v374 : Ref sig .tc := ⟨.hbm, 450, rfl⟩
abbrev main_v375 : Ref sig .tc := ⟨.hbm, 451, rfl⟩
abbrev main_v376 : Ref sig .tc := ⟨.hbm, 452, rfl⟩
abbrev main_v377 : Ref sig .tc := ⟨.hbm, 453, rfl⟩
abbrev main_v378 : Ref sig .tc := ⟨.hbm, 454, rfl⟩
abbrev main_v379 : Ref sig .tc := ⟨.hbm, 455, rfl⟩
abbrev main_v380 : Ref sig .tc := ⟨.hbm, 456, rfl⟩
abbrev main_v381 : Ref sig .tc := ⟨.hbm, 457, rfl⟩
abbrev main_v382 : Ref sig .tc := ⟨.hbm, 458, rfl⟩
abbrev main_v383 : Ref sig .tc := ⟨.hbm, 459, rfl⟩
abbrev main_v384 : Ref sig .tc := ⟨.hbm, 460, rfl⟩
abbrev main_v385 : Ref sig .tc := ⟨.hbm, 461, rfl⟩
abbrev main_v386 : Ref sig .tc := ⟨.hbm, 462, rfl⟩
abbrev main_v387 : Ref sig .tc := ⟨.hbm, 463, rfl⟩
abbrev main_cst_20 : Ref sig .tc := ⟨.hbm, 464, rfl⟩
abbrev main_v388 : Ref sig .tc := ⟨.hbm, 465, rfl⟩
abbrev main_v389 : Ref sig .tc := ⟨.hbm, 466, rfl⟩
abbrev main_cst_21 : Ref sig .tc := ⟨.hbm, 467, rfl⟩
abbrev main_v390 : Ref sig .tc := ⟨.hbm, 468, rfl⟩
abbrev main_v391 : Ref sig .tc := ⟨.hbm, 469, rfl⟩
abbrev main_v392 : Ref sig .tc := ⟨.hbm, 470, rfl⟩
abbrev main_v393 : Ref sig .tc := ⟨.hbm, 471, rfl⟩
abbrev main_cst_22 : Ref sig .tc := ⟨.hbm, 472, rfl⟩
abbrev main_v394 : Ref sig .tc := ⟨.hbm, 473, rfl⟩
abbrev main_v395 : Ref sig .tc := ⟨.hbm, 474, rfl⟩
abbrev main_v396 : Ref sig .tc := ⟨.hbm, 475, rfl⟩
abbrev main_v397 : Ref sig .tc := ⟨.hbm, 476, rfl⟩
abbrev main_v398 : Ref sig .tc := ⟨.hbm, 477, rfl⟩
abbrev main_v399 : Ref sig .tc := ⟨.hbm, 478, rfl⟩
abbrev main_v400 : Ref sig .tc := ⟨.hbm, 479, rfl⟩
abbrev main_v401 : Ref sig .tc := ⟨.hbm, 480, rfl⟩
abbrev main_v402 : Ref sig .tc := ⟨.hbm, 481, rfl⟩
abbrev main_v403 : Ref sig .tc := ⟨.hbm, 482, rfl⟩
abbrev main_v404 : Ref sig .tc := ⟨.hbm, 483, rfl⟩
abbrev main_call21_cst : Ref sig .tc := ⟨.hbm, 484, rfl⟩
abbrev main_call21_v0 : Ref sig .tc := ⟨.hbm, 485, rfl⟩
abbrev main_v405 : Ref sig .tc := ⟨.hbm, 486, rfl⟩
abbrev main_v406 : Ref sig .tc := ⟨.hbm, 487, rfl⟩
abbrev main_v407 : Ref sig .tc := ⟨.hbm, 488, rfl⟩
abbrev main_v408 : Ref sig .tc := ⟨.hbm, 489, rfl⟩
abbrev main_v409 : Ref sig .tc := ⟨.hbm, 490, rfl⟩
abbrev main_v410 : Ref sig .tc := ⟨.hbm, 491, rfl⟩
abbrev main_v411 : Ref sig .tc := ⟨.hbm, 492, rfl⟩
abbrev main_v412 : Ref sig .tc := ⟨.hbm, 493, rfl⟩
abbrev main_v413 : Ref sig .tc := ⟨.hbm, 494, rfl⟩
abbrev main_call22_cst : Ref sig .tc := ⟨.hbm, 495, rfl⟩
abbrev main_call22_v0 : Ref sig .tc := ⟨.hbm, 496, rfl⟩
abbrev main_v414 : Ref sig .tc := ⟨.hbm, 497, rfl⟩
abbrev main_v415 : Ref sig .tc := ⟨.hbm, 498, rfl⟩
abbrev main_v416 : Ref sig .tc := ⟨.hbm, 499, rfl⟩
abbrev main_v417 : Ref sig .tc := ⟨.hbm, 500, rfl⟩
abbrev main_v418 : Ref sig .tc := ⟨.hbm, 501, rfl⟩
abbrev main_v419 : Ref sig .tc := ⟨.hbm, 502, rfl⟩
abbrev main_v420 : Ref sig .tc := ⟨.hbm, 503, rfl⟩
abbrev main_v421 : Ref sig .tc := ⟨.hbm, 504, rfl⟩
abbrev main_v422 : Ref sig .tc := ⟨.hbm, 505, rfl⟩
abbrev main_call23_cst : Ref sig .tc := ⟨.hbm, 506, rfl⟩
abbrev main_call23_v0 : Ref sig .tc := ⟨.hbm, 507, rfl⟩
abbrev main_v423 : Ref sig .tc := ⟨.hbm, 508, rfl⟩
abbrev main_v424 : Ref sig .tc := ⟨.hbm, 509, rfl⟩
abbrev main_v425 : Ref sig .tc := ⟨.hbm, 510, rfl⟩
abbrev main_v426 : Ref sig .tc := ⟨.hbm, 511, rfl⟩
abbrev main_v427 : Ref sig .tc := ⟨.hbm, 512, rfl⟩
abbrev main_v428 : Ref sig .tc := ⟨.hbm, 513, rfl⟩
abbrev main_v429 : Ref sig .tc := ⟨.hbm, 514, rfl⟩
abbrev main_v430 : Ref sig .tc := ⟨.hbm, 515, rfl⟩
abbrev main_v431 : Ref sig .tc := ⟨.hbm, 516, rfl⟩
abbrev main_v432 : Ref sig .tc := ⟨.hbm, 517, rfl⟩
abbrev main_v433 : Ref sig .tc := ⟨.hbm, 518, rfl⟩
abbrev main_v434 : Ref sig .tc := ⟨.hbm, 519, rfl⟩
abbrev main_v435 : Ref sig .tc := ⟨.hbm, 520, rfl⟩
abbrev main_v436 : Ref sig .tc := ⟨.hbm, 521, rfl⟩
abbrev main_v437 : Ref sig .tc := ⟨.hbm, 522, rfl⟩
abbrev main_v438 : Ref sig .tc := ⟨.hbm, 523, rfl⟩
abbrev main_v439 : Ref sig .tc := ⟨.hbm, 524, rfl⟩
abbrev main_v440 : Ref sig .tc := ⟨.hbm, 525, rfl⟩
abbrev main_v441 : Ref sig .tc := ⟨.hbm, 526, rfl⟩
abbrev main_cst_23 : Ref sig .tc := ⟨.hbm, 527, rfl⟩
abbrev main_v442 : Ref sig .tc := ⟨.hbm, 528, rfl⟩
abbrev main_v443 : Ref sig .tc := ⟨.hbm, 529, rfl⟩
abbrev main_cst_24 : Ref sig .tc := ⟨.hbm, 530, rfl⟩
abbrev main_v444 : Ref sig .tc := ⟨.hbm, 531, rfl⟩
abbrev main_v445 : Ref sig .tc := ⟨.hbm, 532, rfl⟩
abbrev main_v446 : Ref sig .tc := ⟨.hbm, 533, rfl⟩
abbrev main_v447 : Ref sig .tc := ⟨.hbm, 534, rfl⟩
abbrev main_cst_25 : Ref sig .tc := ⟨.hbm, 535, rfl⟩
abbrev main_v448 : Ref sig .tc := ⟨.hbm, 536, rfl⟩
abbrev main_v449 : Ref sig .tc := ⟨.hbm, 537, rfl⟩
abbrev main_v450 : Ref sig .tc := ⟨.hbm, 538, rfl⟩
abbrev main_v451 : Ref sig .tc := ⟨.hbm, 539, rfl⟩
abbrev main_v452 : Ref sig .tc := ⟨.hbm, 540, rfl⟩
abbrev main_v453 : Ref sig .tc := ⟨.hbm, 541, rfl⟩
abbrev main_v454 : Ref sig .tc := ⟨.hbm, 542, rfl⟩
abbrev main_v455 : Ref sig .tc := ⟨.hbm, 543, rfl⟩
abbrev main_v456 : Ref sig .tc := ⟨.hbm, 544, rfl⟩
abbrev main_v457 : Ref sig .tc := ⟨.hbm, 545, rfl⟩
abbrev main_v458 : Ref sig .tc := ⟨.hbm, 546, rfl⟩
abbrev main_call24_cst : Ref sig .tc := ⟨.hbm, 547, rfl⟩
abbrev main_call24_v0 : Ref sig .tc := ⟨.hbm, 548, rfl⟩
abbrev main_v459 : Ref sig .tc := ⟨.hbm, 549, rfl⟩
abbrev main_v460 : Ref sig .tc := ⟨.hbm, 550, rfl⟩
abbrev main_v461 : Ref sig .tc := ⟨.hbm, 551, rfl⟩
abbrev main_v462 : Ref sig .tc := ⟨.hbm, 552, rfl⟩
abbrev main_v463 : Ref sig .tc := ⟨.hbm, 553, rfl⟩
abbrev main_v464 : Ref sig .tc := ⟨.hbm, 554, rfl⟩
abbrev main_v465 : Ref sig .tc := ⟨.hbm, 555, rfl⟩
abbrev main_v466 : Ref sig .tc := ⟨.hbm, 556, rfl⟩
abbrev main_v467 : Ref sig .tc := ⟨.hbm, 557, rfl⟩
abbrev main_call25_cst : Ref sig .tc := ⟨.hbm, 558, rfl⟩
abbrev main_call25_v0 : Ref sig .tc := ⟨.hbm, 559, rfl⟩
abbrev main_v468 : Ref sig .tc := ⟨.hbm, 560, rfl⟩
abbrev main_v469 : Ref sig .tc := ⟨.hbm, 561, rfl⟩
abbrev main_v470 : Ref sig .tc := ⟨.hbm, 562, rfl⟩
abbrev main_v471 : Ref sig .tc := ⟨.hbm, 563, rfl⟩
abbrev main_v472 : Ref sig .tc := ⟨.hbm, 564, rfl⟩
abbrev main_v473 : Ref sig .tc := ⟨.hbm, 565, rfl⟩
abbrev main_v474 : Ref sig .tc := ⟨.hbm, 566, rfl⟩
abbrev main_v475 : Ref sig .tc := ⟨.hbm, 567, rfl⟩
abbrev main_v476 : Ref sig .tc := ⟨.hbm, 568, rfl⟩
abbrev main_call26_cst : Ref sig .tc := ⟨.hbm, 569, rfl⟩
abbrev main_call26_v0 : Ref sig .tc := ⟨.hbm, 570, rfl⟩
abbrev main_v477 : Ref sig .tc := ⟨.hbm, 571, rfl⟩
abbrev main_v478 : Ref sig .tc := ⟨.hbm, 572, rfl⟩
abbrev main_v479 : Ref sig .tc := ⟨.hbm, 573, rfl⟩
abbrev main_v480 : Ref sig .tc := ⟨.hbm, 574, rfl⟩
abbrev main_v481 : Ref sig .tc := ⟨.hbm, 575, rfl⟩
abbrev main_v482 : Ref sig .tc := ⟨.hbm, 576, rfl⟩
abbrev main_v483 : Ref sig .tc := ⟨.hbm, 577, rfl⟩
abbrev main_v484 : Ref sig .tc := ⟨.hbm, 578, rfl⟩
abbrev main_v485 : Ref sig .tc := ⟨.hbm, 579, rfl⟩
abbrev main_v486 : Ref sig .tc := ⟨.hbm, 580, rfl⟩
abbrev main_v487 : Ref sig .tc := ⟨.hbm, 581, rfl⟩
abbrev main_v488 : Ref sig .tc := ⟨.hbm, 582, rfl⟩
abbrev main_v489 : Ref sig .tc := ⟨.hbm, 583, rfl⟩
abbrev main_v490 : Ref sig .tc := ⟨.hbm, 584, rfl⟩
abbrev main_v491 : Ref sig .tc := ⟨.hbm, 585, rfl⟩
abbrev main_v492 : Ref sig .tc := ⟨.hbm, 586, rfl⟩
abbrev main_v493 : Ref sig .tc := ⟨.hbm, 587, rfl⟩
abbrev main_v494 : Ref sig .tc := ⟨.hbm, 588, rfl⟩
abbrev main_v495 : Ref sig .tc := ⟨.hbm, 589, rfl⟩
abbrev main_cst_26 : Ref sig .tc := ⟨.hbm, 590, rfl⟩
abbrev main_v496 : Ref sig .tc := ⟨.hbm, 591, rfl⟩
abbrev main_v497 : Ref sig .tc := ⟨.hbm, 592, rfl⟩
abbrev main_cst_27 : Ref sig .tc := ⟨.hbm, 593, rfl⟩
abbrev main_v498 : Ref sig .tc := ⟨.hbm, 594, rfl⟩
abbrev main_v499 : Ref sig .tc := ⟨.hbm, 595, rfl⟩
abbrev main_v500 : Ref sig .tc := ⟨.hbm, 596, rfl⟩
abbrev main_v501 : Ref sig .tc := ⟨.hbm, 597, rfl⟩
abbrev main_cst_28 : Ref sig .tc := ⟨.hbm, 598, rfl⟩
abbrev main_v502 : Ref sig .tc := ⟨.hbm, 599, rfl⟩
abbrev main_v503 : Ref sig .tc := ⟨.hbm, 600, rfl⟩
abbrev main_v504 : Ref sig .tc := ⟨.hbm, 601, rfl⟩
abbrev main_v505 : Ref sig .tc := ⟨.hbm, 602, rfl⟩
abbrev main_v506 : Ref sig .tc := ⟨.hbm, 603, rfl⟩
abbrev main_v507 : Ref sig .tc := ⟨.hbm, 604, rfl⟩
abbrev main_v508 : Ref sig .tc := ⟨.hbm, 605, rfl⟩
abbrev main_v509 : Ref sig .tc := ⟨.hbm, 606, rfl⟩
abbrev main_v510 : Ref sig .tc := ⟨.hbm, 607, rfl⟩
abbrev main_v511 : Ref sig .tc := ⟨.hbm, 608, rfl⟩
abbrev main_v512 : Ref sig .tc := ⟨.hbm, 609, rfl⟩
abbrev main_call27_cst : Ref sig .tc := ⟨.hbm, 610, rfl⟩
abbrev main_call27_v0 : Ref sig .tc := ⟨.hbm, 611, rfl⟩
abbrev main_v513 : Ref sig .tc := ⟨.hbm, 612, rfl⟩
abbrev main_v514 : Ref sig .tc := ⟨.hbm, 613, rfl⟩
abbrev main_v515 : Ref sig .tc := ⟨.hbm, 614, rfl⟩
abbrev main_v516 : Ref sig .tc := ⟨.hbm, 615, rfl⟩
abbrev main_v517 : Ref sig .tc := ⟨.hbm, 616, rfl⟩
abbrev main_v518 : Ref sig .tc := ⟨.hbm, 617, rfl⟩
abbrev main_v519 : Ref sig .tc := ⟨.hbm, 618, rfl⟩
abbrev main_v520 : Ref sig .tc := ⟨.hbm, 619, rfl⟩
abbrev main_v521 : Ref sig .tc := ⟨.hbm, 620, rfl⟩
abbrev main_call28_cst : Ref sig .tc := ⟨.hbm, 621, rfl⟩
abbrev main_call28_v0 : Ref sig .tc := ⟨.hbm, 622, rfl⟩
abbrev main_v522 : Ref sig .tc := ⟨.hbm, 623, rfl⟩
abbrev main_v523 : Ref sig .tc := ⟨.hbm, 624, rfl⟩
abbrev main_v524 : Ref sig .tc := ⟨.hbm, 625, rfl⟩
abbrev main_v525 : Ref sig .tc := ⟨.hbm, 626, rfl⟩
abbrev main_v526 : Ref sig .tc := ⟨.hbm, 627, rfl⟩
abbrev main_v527 : Ref sig .tc := ⟨.hbm, 628, rfl⟩
abbrev main_v528 : Ref sig .tc := ⟨.hbm, 629, rfl⟩
abbrev main_v529 : Ref sig .tc := ⟨.hbm, 630, rfl⟩
abbrev main_v530 : Ref sig .tc := ⟨.hbm, 631, rfl⟩
abbrev main_call29_cst : Ref sig .tc := ⟨.hbm, 632, rfl⟩
abbrev main_call29_v0 : Ref sig .tc := ⟨.hbm, 633, rfl⟩
abbrev main_v531 : Ref sig .tc := ⟨.hbm, 634, rfl⟩
abbrev main_v532 : Ref sig .tc := ⟨.hbm, 635, rfl⟩
abbrev main_v533 : Ref sig .tc := ⟨.hbm, 636, rfl⟩
abbrev main_v534 : Ref sig .tc := ⟨.hbm, 637, rfl⟩
abbrev main_v535 : Ref sig .tc := ⟨.hbm, 638, rfl⟩
abbrev main_v536 : Ref sig .tc := ⟨.hbm, 639, rfl⟩
abbrev main_v537 : Ref sig .tc := ⟨.hbm, 640, rfl⟩
abbrev main_v538 : Ref sig .tc := ⟨.hbm, 641, rfl⟩
abbrev main_v539 : Ref sig .tc := ⟨.hbm, 642, rfl⟩
abbrev main_v540 : Ref sig .tc := ⟨.hbm, 643, rfl⟩
abbrev main_v541 : Ref sig .tc := ⟨.hbm, 644, rfl⟩
abbrev main_v542 : Ref sig .tc := ⟨.hbm, 645, rfl⟩
abbrev main_v543 : Ref sig .tc := ⟨.hbm, 646, rfl⟩
abbrev main_v544 : Ref sig .tc := ⟨.hbm, 647, rfl⟩
abbrev main_v545 : Ref sig .tc := ⟨.hbm, 648, rfl⟩
abbrev main_v546 : Ref sig .tc := ⟨.hbm, 649, rfl⟩
abbrev main_v547 : Ref sig .tc := ⟨.hbm, 650, rfl⟩
abbrev main_v548 : Ref sig .tc := ⟨.hbm, 651, rfl⟩
abbrev main_v549 : Ref sig .tc := ⟨.hbm, 652, rfl⟩
abbrev main_cst_29 : Ref sig .tc := ⟨.hbm, 653, rfl⟩
abbrev main_v550 : Ref sig .tc := ⟨.hbm, 654, rfl⟩
abbrev main_v551 : Ref sig .tc := ⟨.hbm, 655, rfl⟩
abbrev main_cst_30 : Ref sig .tc := ⟨.hbm, 656, rfl⟩
abbrev main_v552 : Ref sig .tc := ⟨.hbm, 657, rfl⟩
abbrev main_v553 : Ref sig .tc := ⟨.hbm, 658, rfl⟩
abbrev main_v554 : Ref sig .tc := ⟨.hbm, 659, rfl⟩
abbrev main_v555 : Ref sig .tc := ⟨.hbm, 660, rfl⟩
abbrev main_cst_31 : Ref sig .tc := ⟨.hbm, 661, rfl⟩
abbrev main_v556 : Ref sig .tc := ⟨.hbm, 662, rfl⟩
abbrev main_v557 : Ref sig .tc := ⟨.hbm, 663, rfl⟩
abbrev main_v558 : Ref sig .tc := ⟨.hbm, 664, rfl⟩
abbrev main_v559 : Ref sig .tc := ⟨.hbm, 665, rfl⟩
abbrev main_v560 : Ref sig .tc := ⟨.hbm, 666, rfl⟩
abbrev main_v561 : Ref sig .tc := ⟨.hbm, 667, rfl⟩
abbrev main_v562 : Ref sig .tc := ⟨.hbm, 668, rfl⟩
abbrev main_v563 : Ref sig .tc := ⟨.hbm, 669, rfl⟩
abbrev main_v564 : Ref sig .tc := ⟨.hbm, 670, rfl⟩
abbrev main_v565 : Ref sig .tc := ⟨.hbm, 671, rfl⟩
abbrev main_v566 : Ref sig .tc := ⟨.hbm, 672, rfl⟩
abbrev main_call30_cst : Ref sig .tc := ⟨.hbm, 673, rfl⟩
abbrev main_call30_v0 : Ref sig .tc := ⟨.hbm, 674, rfl⟩
abbrev main_v567 : Ref sig .tc := ⟨.hbm, 675, rfl⟩
abbrev main_v568 : Ref sig .tc := ⟨.hbm, 676, rfl⟩
abbrev main_v569 : Ref sig .tc := ⟨.hbm, 677, rfl⟩
abbrev main_v570 : Ref sig .tc := ⟨.hbm, 678, rfl⟩
abbrev main_v571 : Ref sig .tc := ⟨.hbm, 679, rfl⟩
abbrev main_v572 : Ref sig .tc := ⟨.hbm, 680, rfl⟩
abbrev main_v573 : Ref sig .tc := ⟨.hbm, 681, rfl⟩
abbrev main_v574 : Ref sig .tc := ⟨.hbm, 682, rfl⟩
abbrev main_v575 : Ref sig .tc := ⟨.hbm, 683, rfl⟩
abbrev main_call31_cst : Ref sig .tc := ⟨.hbm, 684, rfl⟩
abbrev main_call31_v0 : Ref sig .tc := ⟨.hbm, 685, rfl⟩
abbrev main_v576 : Ref sig .tc := ⟨.hbm, 686, rfl⟩
abbrev main_v577 : Ref sig .tc := ⟨.hbm, 687, rfl⟩
abbrev main_v578 : Ref sig .tc := ⟨.hbm, 688, rfl⟩
abbrev main_v579 : Ref sig .tc := ⟨.hbm, 689, rfl⟩
abbrev main_v580 : Ref sig .tc := ⟨.hbm, 690, rfl⟩
abbrev main_v581 : Ref sig .tc := ⟨.hbm, 691, rfl⟩
abbrev main_v582 : Ref sig .tc := ⟨.hbm, 692, rfl⟩
abbrev main_v583 : Ref sig .tc := ⟨.hbm, 693, rfl⟩
abbrev main_v584 : Ref sig .tc := ⟨.hbm, 694, rfl⟩
abbrev main_call32_cst : Ref sig .tc := ⟨.hbm, 695, rfl⟩
abbrev main_call32_v0 : Ref sig .tc := ⟨.hbm, 696, rfl⟩
abbrev main_v585 : Ref sig .tc := ⟨.hbm, 697, rfl⟩
abbrev main_v586 : Ref sig .tc := ⟨.hbm, 698, rfl⟩
abbrev main_v587 : Ref sig .tc := ⟨.hbm, 699, rfl⟩
abbrev main_v588 : Ref sig .tc := ⟨.hbm, 700, rfl⟩
abbrev main_v589 : Ref sig .tc := ⟨.hbm, 701, rfl⟩
abbrev main_v590 : Ref sig .tc := ⟨.hbm, 702, rfl⟩
abbrev main_v591 : Ref sig .tc := ⟨.hbm, 703, rfl⟩
abbrev main_v592 : Ref sig .tc := ⟨.hbm, 704, rfl⟩
abbrev main_v593 : Ref sig .tc := ⟨.hbm, 705, rfl⟩
abbrev main_v594 : Ref sig .tc := ⟨.hbm, 706, rfl⟩
abbrev main_v595 : Ref sig .tc := ⟨.hbm, 707, rfl⟩
abbrev main_v596 : Ref sig .tc := ⟨.hbm, 708, rfl⟩
abbrev main_v597 : Ref sig .tc := ⟨.hbm, 709, rfl⟩
abbrev main_v598 : Ref sig .tc := ⟨.hbm, 710, rfl⟩
abbrev main_v599 : Ref sig .tc := ⟨.hbm, 711, rfl⟩
abbrev main_v600 : Ref sig .tc := ⟨.hbm, 712, rfl⟩
abbrev main_v601 : Ref sig .tc := ⟨.hbm, 713, rfl⟩
abbrev main_v602 : Ref sig .tc := ⟨.hbm, 714, rfl⟩
abbrev main_v603 : Ref sig .tc := ⟨.hbm, 715, rfl⟩
abbrev main_cst_32 : Ref sig .tc := ⟨.hbm, 716, rfl⟩
abbrev main_v604 : Ref sig .tc := ⟨.hbm, 717, rfl⟩
abbrev main_v605 : Ref sig .tc := ⟨.hbm, 718, rfl⟩
abbrev main_cst_33 : Ref sig .tc := ⟨.hbm, 719, rfl⟩
abbrev main_v606 : Ref sig .tc := ⟨.hbm, 720, rfl⟩
abbrev main_v607 : Ref sig .tc := ⟨.hbm, 721, rfl⟩
abbrev main_v608 : Ref sig .tc := ⟨.hbm, 722, rfl⟩
abbrev main_v609 : Ref sig .tc := ⟨.hbm, 723, rfl⟩
abbrev main_cst_34 : Ref sig .tc := ⟨.hbm, 724, rfl⟩
abbrev main_v610 : Ref sig .tc := ⟨.hbm, 725, rfl⟩
abbrev main_v611 : Ref sig .tc := ⟨.hbm, 726, rfl⟩
abbrev main_v612 : Ref sig .tc := ⟨.hbm, 727, rfl⟩
abbrev main_v613 : Ref sig .tc := ⟨.hbm, 728, rfl⟩
abbrev main_v614 : Ref sig .tc := ⟨.hbm, 729, rfl⟩
abbrev main_v615 : Ref sig .tc := ⟨.hbm, 730, rfl⟩
abbrev main_v616 : Ref sig .tc := ⟨.hbm, 731, rfl⟩
abbrev main_v617 : Ref sig .tc := ⟨.hbm, 732, rfl⟩
abbrev main_v618 : Ref sig .tc := ⟨.hbm, 733, rfl⟩
abbrev main_v619 : Ref sig .tc := ⟨.hbm, 734, rfl⟩
abbrev main_v620 : Ref sig .tc := ⟨.hbm, 735, rfl⟩
abbrev main_call33_cst : Ref sig .tc := ⟨.hbm, 736, rfl⟩
abbrev main_call33_v0 : Ref sig .tc := ⟨.hbm, 737, rfl⟩
abbrev main_v621 : Ref sig .tc := ⟨.hbm, 738, rfl⟩
abbrev main_v622 : Ref sig .tc := ⟨.hbm, 739, rfl⟩
abbrev main_v623 : Ref sig .tc := ⟨.hbm, 740, rfl⟩
abbrev main_v624 : Ref sig .tc := ⟨.hbm, 741, rfl⟩
abbrev main_v625 : Ref sig .tc := ⟨.hbm, 742, rfl⟩
abbrev main_v626 : Ref sig .tc := ⟨.hbm, 743, rfl⟩
abbrev main_v627 : Ref sig .tc := ⟨.hbm, 744, rfl⟩
abbrev main_v628 : Ref sig .tc := ⟨.hbm, 745, rfl⟩
abbrev main_v629 : Ref sig .tc := ⟨.hbm, 746, rfl⟩
abbrev main_call34_cst : Ref sig .tc := ⟨.hbm, 747, rfl⟩
abbrev main_call34_v0 : Ref sig .tc := ⟨.hbm, 748, rfl⟩
abbrev main_v630 : Ref sig .tc := ⟨.hbm, 749, rfl⟩
abbrev main_v631 : Ref sig .tc := ⟨.hbm, 750, rfl⟩
abbrev main_v632 : Ref sig .tc := ⟨.hbm, 751, rfl⟩
abbrev main_v633 : Ref sig .tc := ⟨.hbm, 752, rfl⟩
abbrev main_v634 : Ref sig .tc := ⟨.hbm, 753, rfl⟩
abbrev main_v635 : Ref sig .tc := ⟨.hbm, 754, rfl⟩
abbrev main_v636 : Ref sig .tc := ⟨.hbm, 755, rfl⟩
abbrev main_v637 : Ref sig .tc := ⟨.hbm, 756, rfl⟩
abbrev main_v638 : Ref sig .tc := ⟨.hbm, 757, rfl⟩
abbrev main_call35_cst : Ref sig .tc := ⟨.hbm, 758, rfl⟩
abbrev main_call35_v0 : Ref sig .tc := ⟨.hbm, 759, rfl⟩
abbrev main_v639 : Ref sig .tc := ⟨.hbm, 760, rfl⟩
abbrev main_v640 : Ref sig .tc := ⟨.hbm, 761, rfl⟩
abbrev main_v641 : Ref sig .tc := ⟨.hbm, 762, rfl⟩
abbrev main_v642 : Ref sig .tc := ⟨.hbm, 763, rfl⟩
abbrev main_v643 : Ref sig .tc := ⟨.hbm, 764, rfl⟩
abbrev main_v644 : Ref sig .tc := ⟨.hbm, 765, rfl⟩
abbrev main_v645 : Ref sig .tc := ⟨.hbm, 766, rfl⟩
abbrev main_v646 : Ref sig .tc := ⟨.hbm, 767, rfl⟩
abbrev main_v647 : Ref sig .tc := ⟨.hbm, 768, rfl⟩
abbrev main_v648 : Ref sig .tc := ⟨.hbm, 769, rfl⟩

abbrev nD : Nat := 1
abbrev τ : Topo := Topo.v7x

variable {F : FTy → Type} [FloatOps F]
-- ==== Proof.Slots.lean ====
/-
  The slots of the nodes, over the naturals. Node `n` opens a slot where a block of 256 begins or where its graph differs
  from the node's before it; `cnt g n` slots are opened by the nodes below `n`. Also the running sum of the rows of a
  matrix of words.
-/
module

public import Idealize.ShloMosaic.Lib.Pipeline.Frame
public import Idealize.ShloMosaic.Lib.Routing.Ops

@[expose] public section

noncomputable section

namespace Cert.Proof

open Idealize.ShloMosaic Idealize.ShloMosaic.Routing

/-- Node `n` opens a slot. -/
def flag (g : ℕ → ℕ) (n : ℕ) : Prop := n % 256 = 0 ∨ (n < 100000 ∧ g n ≠ g (n - 1))

instance (g : ℕ → ℕ) : DecidablePred (flag g) := fun n => by unfold flag; infer_instance

/-- How many slots the nodes below `n` open. -/
def cnt (g : ℕ → ℕ) (n : ℕ) : ℕ := Nat.count (flag g) n

/-- The slot of node `n`. -/
def slot (g : ℕ → ℕ) (n : ℕ) : ℕ := cnt g (n + 1) - 1

variable {g : ℕ → ℕ}

theorem cnt_mono {a b : ℕ} (h : a ≤ b) : cnt g a ≤ cnt g b := Nat.count_monotone _ h

theorem cnt_succ (n : ℕ) : cnt g (n + 1) = cnt g n + if flag g n then 1 else 0 := Nat.count_succ _ _

/-- The flags of `n` nodes from `a` on, summed. -/
theorem sum_flags (a n : ℕ) : ((List.range n).map fun i => if flag g (a + i) then 1 else 0).sum = cnt g (a + n) - cnt g a := by
  have h : ((List.range n).map fun i => if flag g (a + i) then 1 else 0).sum + cnt g a = cnt g (a + n) := by
    induction n with
    | zero => simp
    | succ n ih =>
      rw [List.range_succ, List.map_append, List.sum_append, ← Nat.add_assoc, cnt_succ, ← ih]
      simp; omega
  omega

/-- Differences of neighbours, summed. -/
theorem sum_steps (f : ℕ → ℕ) (hf : Monotone f) (n : ℕ) : ((List.range n).map fun i => f (i + 1) - f i).sum = f n - f 0 := by
  induction n with
  | zero => simp
  | succ n ih =>
    rw [List.range_succ, List.map_append, List.sum_append, ih]
    have h1 : f 0 ≤ f n := hf (Nat.zero_le n)
    have h2 : f n ≤ f (n + 1) := hf (Nat.le_succ n)
    simp only [List.map_cons, List.map_nil, List.sum_cons, List.sum_nil]; omega

theorem cnt_zero : cnt g 0 = 0 := rfl

/-- A block opens at most one slot a node, -/
theorem cnt_add_le (a n : ℕ) : cnt g (a + n) ≤ cnt g a + n := by
  induction n with
  | zero => simp
  | succ n ih => rw [← Nat.add_assoc, cnt_succ]; split <;> omega

/-- and all blocks together open one each and one more wherever the graph changes: at most 2390. -/
theorem cnt_le (hm : ∀ n, n + 1 < 100000 → g n ≤ g (n + 1)) (hg : ∀ n < 100000, g n < 2000) (n : ℕ) (hn : n ≤ 100096) : cnt g n ≤ 2390 := by
  have h : ∀ n, n ≤ 100096 → cnt g n ≤ (n + 255) / 256 + g (min (n - 1) 99999) := by
    intro n
    induction n with
    | zero => intro _; rw [cnt_zero]; omega
    | succ n ih =>
      intro hn
      have ih := ih (by omega)
      rw [cnt_succ]
      have mono : g (min (n - 1) 99999) ≤ g (min (n + 1 - 1) 99999) := by
        by_cases h1 : n = 0
        · subst h1; exact le_rfl
        by_cases h2 : n < 100000
        · have := hm (n - 1) (by omega)
          rwa [Nat.min_eq_left (by omega), Nat.min_eq_left (by omega), show n + 1 - 1 = n - 1 + 1 by omega]
        · rw [Nat.min_eq_right (by omega), Nat.min_eq_right (by omega)]
      by_cases h0 : n % 256 = 0
      · have : (n + 1 + 255) / 256 = (n + 255) / 256 + 1 := by omega
        split <;> omega
      · have : (n + 1 + 255) / 256 = (n + 255) / 256 := by omega
        split
        · next hf =>
          rcases hf with hf | ⟨hlt, hne⟩
          · exact absurd hf h0
          · have e1 : min (n - 1) 99999 = n - 1 := by omega
            have e2 : min (n + 1 - 1) 99999 = n := by omega
            rw [e1] at ih mono; rw [e2] at mono ⊢
            omega
        · omega
  have h1 := h n hn
  have h2 := hg (min (n - 1) 99999) (by omega)
  omega

/-- The running sum of every row of an `[A, N]` matrix of words: where entry `(a, i)` holds `f i`, entry `(a, j)` of the
    result holds `f 0 + … + f j`. -/
theorem cumsum_row {A N Nm1 : ℕ} (hN : Nm1 + 1 = N) (x : IVec (shape2 A N) 32) (a : Fin A) (f : ℕ → ℕ)
    (hx : ∀ i : Fin N, x (ValueIdx.ix2 a i) = BitVec.ofNat 32 (f i.val)) (init : IVec shape0 32) (hinit : init ValueIdx.ix0 = 0#32)
    (h : (shape2 A N).ReduceWindows (![1, N] : Fin 2 → ℕ) ![1, 1] ![0, Nm1] ![0, 0] (shape2 A N)) (hu : 0 < shape0.numel)
    (h' : (shape2 1 N).ReduceWindows (![1, N] : Fin 2 → ℕ) ![1, 1] ![0, Nm1] ![0, 0] (shape2 1 N)) (j : Fin N) :
    Host.reduceWindow IntOp.addi ![1, N] ![1, 1] ![0, Nm1] ![0, 0] x init h hu (ValueIdx.ix2 a j)
      = BitVec.ofNat 32 ((List.range (j.val + 1)).map f).sum := by
  rw [← cumsum2 hN (fun i => x (ValueIdx.ix2 a (i 1))) f hx init hinit h' hu j]
  unfold Host.reduceWindow
  have e : ∀ (n : Fin (shape2 1 N).numel), ((shape2 1 N).rowMajor.symm n 0).val = 0 := fun n => by rw [symm2]; rfl
  refine congrArg (fun F => List.foldl F _ _) (funext fun r => funext fun n => congrArg (IntOp.addi r) ?_)
  have key : (∀ b : Fin 2, (![0, Nm1] : Fin 2 → ℕ) b ≤ (ValueIdx.ix2 a j b).val * (![1, 1] : Fin 2 → ℕ) b + ((shape2 1 N).rowMajor.symm n b).val
        ∧ (ValueIdx.ix2 a j b).val * (![1, 1] : Fin 2 → ℕ) b + ((shape2 1 N).rowMajor.symm n b).val - (![0, Nm1] : Fin 2 → ℕ) b < (shape2 A N).size b)
      ↔ (∀ b : Fin 2, (![0, Nm1] : Fin 2 → ℕ) b ≤ (ValueIdx.ix2 (0 : Fin 1) j b).val * (![1, 1] : Fin 2 → ℕ) b + ((shape2 1 N).rowMajor.symm n b).val
        ∧ (ValueIdx.ix2 (0 : Fin 1) j b).val * (![1, 1] : Fin 2 → ℕ) b + ((shape2 1 N).rowMajor.symm n b).val - (![0, Nm1] : Fin 2 → ℕ) b < (shape2 1 N).size b) := by
    rw [Fin.forall_fin_two, Fin.forall_fin_two, e n]
    have ha := a.isLt
    constructor
    · rintro ⟨_, h1⟩; exact ⟨⟨Nat.zero_le _, Nat.one_pos⟩, h1⟩
    · rintro ⟨_, h1⟩; exact ⟨⟨Nat.zero_le _, show a.val * 1 + 0 - 0 < A by omega⟩, h1⟩
  by_cases hk : (∀ b : Fin 2, (![0, Nm1] : Fin 2 → ℕ) b ≤ (ValueIdx.ix2 a j b).val * (![1, 1] : Fin 2 → ℕ) b + ((shape2 1 N).rowMajor.symm n b).val
        ∧ (ValueIdx.ix2 a j b).val * (![1, 1] : Fin 2 → ℕ) b + ((shape2 1 N).rowMajor.symm n b).val - (![0, Nm1] : Fin 2 → ℕ) b < (shape2 A N).size b)
  · refine (dif_pos hk).trans (Eq.symm ((dif_pos (key.1 hk)).trans (congrArg x (funext fun b => Fin.ext ?_))))
    match b with
    | ⟨0, _⟩ =>
      show a.val = a.val * 1 + ((shape2 1 N).rowMajor.symm n 0).val - 0
      rw [e n]; omega
    | ⟨1, _⟩ => rfl
  · exact (dif_neg hk).trans (Eq.symm (dif_neg fun h2 => hk (key.2 h2)))

end Cert.Proof

end
-- ==== Proof.OffsetsIdeal.lean ====
/-
  The kernel body's integers: its table words read as naturals, the trip counts of its two counted loops, the offsets of its
  loads and stores, and the side conditions the body assumes once it has read a word.
-/
module

public import proofs.«01_k».proof.Proof.Gen.KernelIdeal.Skeleton

@[expose] public section

noncomputable section

namespace Cert.Proof.KernelIdeal

open Cert.KernelIdeal Cert.KernelIdeal.Gen
open Idealize.ShloMosaic Idealize.ShloMosaic.TcCoe

/-- The upper bound of the first loop is the difference of the two slot offsets. -/
theorem ub1_eq (v80 v83 : BitVec 32) : (k0_t1_loop v80 v83).ub = v83 - v80 := by
  show Scalar.addi 0#32 (Scalar.muli (Scalar.divsi (Scalar.subi (Scalar.subi v83 v80) 0#32) 1#32) 1#32) = _
  have h : ¬ IntOp.SDivCorner (v83 - v80) (1#32) := by
    rintro (h | ⟨-, h⟩)
    · exact absurd h (by decide)
    · exact absurd h (by decide)
  simp only [Scalar.addi, Scalar.muli, Scalar.divsi, Scalar.subi, IntOp.addi, IntOp.muli, IntOp.subi, IntOp.divsi, BitVec.sub_zero, if_neg h,
    BitVec.zero_add, BitVec.mul_one, BitVec.sdiv_one]

/-- A nonnegative difference below `2^31`, read signed. -/
theorem sub_toInt {v80 v83 : BitVec 32} (h : v80.toNat ≤ v83.toNat) (h' : v83.toNat ≤ 2560) :
    (v83 - v80).toInt = ((v83.toNat - v80.toNat : ℕ) : Int) := by
  have e : (v83 - v80).toNat = v83.toNat - v80.toNat := by
    rw [BitVec.toNat_sub_of_le (by rwa [BitVec.le_def])]
  rw [BitVec.toInt_eq_toNat_cond, e, if_pos (by omega)]

/-- The first loop runs one trip for each slot of the block. -/
theorem trips1_eq {v80 v83 : BitVec 32} (h : v80.toNat ≤ v83.toNat) (h' : v83.toNat ≤ 2560) :
    (k0_t1_loop v80 v83).trips = v83.toNat - v80.toNat := by
  unfold Scf.Loop.trips Scf.trips
  rw [ub1_eq, sub_toInt h h']
  show ((((v83.toNat - v80.toNat : ℕ) : Int) - (0#32).toInt + (1#32).toInt - 1) / (1#32).toInt).toNat = _
  simp

/-- The second loop starts where the first ends; -/
theorem lb2_eq (v80 v83 : BitVec 32) : (k0_t2_loop v80 v83).lb = v83 - v80 := ub1_eq v80 v83
/-- and ends there: -/
theorem ub2_eq (v80 v83 : BitVec 32) : (k0_t2_loop v80 v83).ub = v83 - v80 := by
  show Scalar.addi 0#32 (Scalar.subi (Scalar.subi v83 v80) 0#32) = _
  simp only [Scalar.addi, Scalar.subi, IntOp.addi, IntOp.subi, BitVec.sub_zero, BitVec.zero_add]
/-- it runs no trip. -/
theorem trips2_eq (v80 v83 : BitVec 32) : (k0_t2_loop v80 v83).trips = 0 := by
  unfold Scf.Loop.trips Scf.trips
  rw [ub2_eq, lb2_eq]
  show (((v83 - v80).toInt - (v83 - v80).toInt + (1#32).toInt - 1) / (1#32).toInt).toNat = _
  simp

/-- Trip `k` of the first loop reads its graph at slot `v80 + k`, -/
theorem off7_eq {v80 v83 : BitVec 32} (h : v80.toNat ≤ v83.toNat) (h' : v83.toNat ≤ 2560) (k : Fin (k0_t1_loop v80 v83).trips) :
    k0_off7 v80 v83 k = ![v80.toNat + k.val] := by
  have hk : k.val < v83.toNat - v80.toNat := lt_of_lt_of_eq k.isLt (trips1_eq h h')
  show (![(Scalar.addi v80 (Scf.iv 0#32 1#32 k.val)).toNat] : Fin 1 → ℕ) = _
  have e : (Scalar.addi v80 (Scf.iv 0#32 1#32 k.val)).toNat = v80.toNat + k.val := by
    simp only [Scalar.addi, IntOp.addi, Scf.iv, BitVec.mul_one, BitVec.zero_add, BitVec.toNat_add, BitVec.toNat_ofNat]
    omega
  rw [e]

/-- and the block's row `k`. -/
theorem off9_eq {v80 v83 : BitVec 32} (h : v80.toNat ≤ v83.toNat) (h' : v83.toNat ≤ 2560) (k : Fin (k0_t1_loop v80 v83).trips) :
    k0_off9 v80 v83 k = ![k.val, 0] := by
  have hk : k.val < v83.toNat - v80.toNat := lt_of_lt_of_eq k.isLt (trips1_eq h h')
  show (![(Scf.iv 0#32 1#32 k.val).toNat, 0] : Fin 2 → ℕ) = _
  have e : (Scf.iv 0#32 1#32 k.val).toNat = k.val := by
    simp only [Scf.iv, BitVec.mul_one, BitVec.zero_add, BitVec.toNat_ofNat]
    omega
  rw [e]

/-- The row a slot's graph names. -/
theorem off8_eq (v : BitVec 32) : k0_off8 v = ![v.toNat, 0] := rfl
/-- The first row of the window of the fast path. -/
theorem off5_eq {v : BitVec 32} (h : v.toNat ≤ 249) : k0_off5 v = ![8 * v.toNat, 0] := by
  show (![(Scalar.muli v 8#32).toNat, 0] : Fin 2 → ℕ) = _
  have e : (Scalar.muli v 8#32).toNat = 8 * v.toNat := by
    simp only [Scalar.muli, IntOp.muli, BitVec.toNat_mul, BitVec.toNat_ofNat]
    omega
  rw [e]

/-- The grid coordinate is the word's. -/
theorem off1_eq (i : grid0.Coords) : k0_off1 i = ![(i 0).val] := by
  show (![(BitVec.ofNat 32 (i 0).val).toNat] : Fin 1 → ℕ) = _
  have := (i 0).isLt
  have e : (BitVec.ofNat 32 (i 0).val).toNat = (i 0).val := by
    rw [BitVec.toNat_ofNat]; exact Nat.mod_eq_of_lt (lt_of_lt_of_le this (by show (391 : ℕ) ≤ _; decide))
  rw [e]
theorem off3_eq (i : grid0.Coords) : k0_off3 i = ![(i 0).val] := off1_eq i
theorem off4_eq (i : grid0.Coords) : k0_off4 i = ![(i 0).val] := off1_eq i
theorem off6_eq (i : grid0.Coords) : k0_off6 i = ![(i 0).val] := off1_eq i
/-- The next point's. -/
theorem off2_eq (i : grid0.Coords) : k0_off2 i = ![(i 0).val + 1] := by
  show (![(Scalar.addi (BitVec.ofNat 32 (i 0).val) 1#32).toNat] : Fin 1 → ℕ) = _
  have : (i 0).val < 391 := (i 0).isLt
  have e : (Scalar.addi (BitVec.ofNat 32 (i 0).val) 1#32).toNat = (i 0).val + 1 := by
    simp only [Scalar.addi, IntOp.addi, BitVec.toNat_add, BitVec.toNat_ofNat]
    omega
  rw [e]

/-- The side condition of the fast path. -/
theorem chk1_of {v86 v99 : BitVec 32} (h : k0_cond2 v86 = 1#1 → v99.toNat ≤ 249) : k0_chk1 v86 v99 := by
  refine ⟨fun hc => ?_, fun hc a => ?_⟩
  · show 8 ∣ (Scalar.muli v99 8#32).toNat
    have := h hc
    have e : (Scalar.muli v99 8#32).toNat = 8 * v99.toNat := by
      simp only [Scalar.muli, IntOp.muli, BitVec.toNat_mul, BitVec.toNat_ofNat]
      omega
    rw [e]; exact ⟨_, rfl⟩
  · have := h hc
    rw [off5_eq this]
    match a with
    | 0 => show 8 * v99.toNat + 24 ≤ 2024; omega
    | 1 => show 0 + 1536 ≤ 1536; omega

/-- The side condition of the two loops. -/
theorem chk2_of {v80 v83 v91 : BitVec 32} (h : v80.toNat ≤ v83.toNat) (h' : v83.toNat ≤ 2560) (h'' : v83.toNat - v80.toNat ≤ 256) :
    k0_chk2 v80 v83 v91 := by
  have t1 := trips1_eq h h'
  have t2 := trips2_eq v80 v83
  refine ⟨fun _ => ⟨by show 0 < (1#32).toInt; decide, ?_⟩, fun k _ a => ?_, fun k _ a => ?_, fun _ => ⟨by show 0 < (1#32).toInt; decide, ?_⟩,
    fun k => absurd (lt_of_lt_of_eq k.isLt t2) (Nat.not_lt_zero _), fun k => absurd (lt_of_lt_of_eq k.isLt t2) (Nat.not_lt_zero _)⟩
  · have e : Scf.trips (k0_t1_loop v80 v83).lb (k0_t1_loop v80 v83).ub (k0_t1_loop v80 v83).st = v83.toNat - v80.toNat := t1
    rw [e]
    show (0#32).toInt + ((v83.toNat - v80.toNat : ℕ) : Int) * (1#32).toInt < 2 ^ 31
    have e0 : (0#32).toInt = 0 := by decide
    have e1 : (1#32).toInt = 1 := by decide
    rw [e0, e1]; omega
  · have hk : k.val < v83.toNat - v80.toNat := lt_of_lt_of_eq k.isLt t1
    rw [off7_eq h h']
    match a with
    | 0 => show v80.toNat + k.val + 1 ≤ 2560; omega
  · have hk : k.val < v83.toNat - v80.toNat := lt_of_lt_of_eq k.isLt t1
    rw [off9_eq h h']
    match a with
    | 0 => show k.val + 1 ≤ 256; omega
    | 1 => show 0 + 1536 ≤ 1536; omega
  · have e : Scf.trips (k0_t2_loop v80 v83).lb (k0_t2_loop v80 v83).ub (k0_t2_loop v80 v83).st = 0 := t2
    rw [e, lb2_eq, sub_toInt h h']
    show ((v83.toNat - v80.toNat : ℕ) : Int) + ((0 : ℕ) : Int) * (1#32).toInt < 2 ^ 31
    have e1 : (1#32).toInt = 1 := by decide
    rw [e1]; omega

/-- The side condition of a trip. -/
theorem chk3_of {v91 v107 : BitVec 32} (h : v107.toNat < 2000) : k0_chk3 v91 v107 := fun _ a => by
  rw [off8_eq]
  match a with
  | 0 => show v107.toNat + 1 ≤ 2024; omega
  | 1 => show 0 + 1536 ≤ 1536; omega

/-- A one-bit word widened and compared with zero is the bit. -/
theorem widen_ne (b : Bool) : (Scalar.cmpi .ne (Scalar.extui (BitVec.ofBool b) : BitVec 32) 0#32 = 1#1) ↔ b = true := by
  cases b <;> decide

/-- A flag compared with 1: the fast path's condition. -/
theorem cond2_iff (v : BitVec 32) : k0_cond2 v = 1#1 ↔ v = 1#32 :=
  (widen_ne (v == 1#32)).trans beq_iff_eq
/-- A flag compared with 0: the loops' condition. -/
theorem cond3_iff (v : BitVec 32) : k0_cond3 v = 1#1 ↔ v = 0#32 :=
  (widen_ne (v == 0#32)).trans beq_iff_eq
/-- The grid coordinate compared with a number below `2^32`. -/
theorem coord_eq_iff (i : grid0.Coords) (n : ℕ) (hn : n < 2 ^ 32) : BitVec.ofNat 32 (i 0).val = BitVec.ofNat 32 n ↔ (i 0).val = n := by
  have : (i 0).val < 391 := (i 0).isLt
  refine ⟨fun e => ?_, fun e => by rw [e]⟩
  have := congrArg BitVec.toNat e
  rwa [BitVec.toNat_ofNat, BitVec.toNat_ofNat, Nat.mod_eq_of_lt (by omega), Nat.mod_eq_of_lt hn] at this
/-- The last point's condition. -/
theorem cond4_iff (i : grid0.Coords) : k0_cond4 i = 1#1 ↔ (i 0).val = 390 :=
  ((widen_ne (BitVec.ofNat 32 (i 0).val == 390#32)).trans beq_iff_eq).trans (coord_eq_iff i 390 (by decide))
/-- The first point's condition. -/
theorem cond1_iff (i : grid0.Coords) :
    Scalar.cmpi .ne (Scalar.extui (Scalar.cmpi .eq (BitVec.ofNat 32 (i 0).val) 0#32) : BitVec 32) 0#32 = 1#1 ↔ (i 0).val = 0 :=
  ((widen_ne (BitVec.ofNat 32 (i 0).val == 0#32)).trans beq_iff_eq).trans (coord_eq_iff i 0 (by decide))

end Cert.Proof.KernelIdeal

end
-- ==== Proof.StepIdeal.lean ====
/-
  What one grid point does to the accumulator, as functions of the contents of the buffers it reads.
-/
module

public import proofs.«01_k».proof.Proof.OffsetsIdeal
public import Idealize.ShloMosaic.Lib.VecWindow
public import Idealize.ShloMosaic.Lib.Pipeline.Value
public import Idealize.ShloMosaic.Lib.ValueIdxCore

@[expose] public section

noncomputable section

namespace Cert.Proof.KernelIdeal

open Cert.KernelIdeal Cert.KernelIdeal.Gen
open Idealize.ShloMosaic Idealize.ShloMosaic.TcCoe

variable {F : FTy → Type} [FloatOps F]

/-- The block's sums by slot: the product of the one-hot matrix of the slot row `R` with the twelve weighted copies of the
    block `X`, whose rows past the last node are masked. -/
def cVal (i : grid0.Coords) (X : Vec F S256x128 .f32) (A : Vec F S128x16 .f32) (B : Vec F S1x16 .f32) (R : Vec F S1x1x256 .i32) :
    FVec F S256x1536 .f32 :=
  k0_pay40 (k0_pay32 i X) (k0_pay33 i X A B) (k0_pay34 i X A B) (k0_pay35 i X A B) (k0_pay36 i X A B) (k0_pay37 i X A B) (k0_pay38 i X A B)
    (k0_pay39 i X A B) R

/-- Rows `o … o + n - 1` of `M` with the rows of `C` from `k` on added. -/
def addRows (o k n : ℕ) (M : Vec F S2024x1536 .f32) (C : Vec F S256x1536 .f32) : Vec F S2024x1536 .f32 := fun y =>
  if o ≤ (y 0).val ∧ (y 0).val < o + n then
    FloatOps.addf (M y) (C (ValueIdx.ix2 ⟨(k + ((y 0).val - o)) % 256, Nat.mod_lt _ (by decide)⟩ (y 1)))
  else M y

/-- The accumulator after `n` slots from slot `o` on: row `k` of `C` added to the row of the slot's graph. -/
def slotRows (T : S2560.Idx → BitVec 32) (o : ℕ) (C : Vec F S256x1536 .f32) : ℕ → Vec F S2024x1536 .f32 → Vec F S2024x1536 .f32
  | 0, M => M
  | n + 1, M => addRows (T (ValueIdx.ix1 ⟨(o + n) % 2560, Nat.mod_lt _ (by decide)⟩)).toNat n 1 (slotRows T o C n M) C

/-- The accumulator cleared at the first point. -/
def cleared (i : grid0.Coords) (M : Vec F S2024x1536 .f32) : Vec F S2024x1536 .f32 := if (i 0).val = 0 then k0_pay30 (F := F) else M

/-- The word of the first table at the point, and the next. -/
def lo (i : grid0.Coords) (T1 : S392.Idx → BitVec 32) : BitVec 32 := T1 (ValueIdx.ix1 ⟨(i 0).val, lt_trans (i 0).isLt (show 391 < 392 by decide)⟩)
def hi (i : grid0.Coords) (T1 : S392.Idx → BitVec 32) : BitVec 32 := T1 (ValueIdx.ix1 ⟨(i 0).val + 1, Nat.succ_lt_succ (i 0).isLt⟩)
/-- A table of one word a point, at the point. -/
def at391 (i : grid0.Coords) (T : S391.Idx → BitVec 32) : BitVec 32 := T (ValueIdx.ix1 ⟨(i 0).val, (i 0).isLt⟩)

/-- The accumulator after the fast path, if the point takes it; -/
def fastMol (i : grid0.Coords) (T3 T4 : S391.Idx → BitVec 32) (C : Vec F S256x1536 .f32) (M : Vec F S2024x1536 .f32) : Vec F S2024x1536 .f32 :=
  if at391 i T3 = 1#32 then addRows (8 * (at391 i T4).toNat) 0 24 M C else M
/-- and after the loops, if it takes them. -/
def slowMol (i : grid0.Coords) (T1 : S392.Idx → BitVec 32) (T2 : S2560.Idx → BitVec 32) (T3 : S391.Idx → BitVec 32) (C : Vec F S256x1536 .f32)
    (M : Vec F S2024x1536 .f32) : Vec F S2024x1536 .f32 :=
  if at391 i T3 = 0#32 then slotRows T2 (lo i T1).toNat C ((hi i T1).toNat - (lo i T1).toNat) M else M

/-- The accumulator after the point. -/
def stepMol (i : grid0.Coords) (T1 : S392.Idx → BitVec 32) (T2 : S2560.Idx → BitVec 32) (T3 T4 : S391.Idx → BitVec 32)
    (C : Vec F S256x1536 .f32) (M : Vec F S2024x1536 .f32) : Vec F S2024x1536 .f32 :=
  slowMol i T1 T2 T3 C (fastMol i T3 T4 C (cleared i M))

/-- The tables' words are in range: at every point the slot offsets ascend by at most 256 and stay in the table of the slots'
    graphs, the fast path's window lies in the accumulator, and every slot names a graph. -/
structure TablesOk (T1 : S392.Idx → BitVec 32) (T2 : S2560.Idx → BitVec 32) (T3 T4 : S391.Idx → BitVec 32) : Prop where
  asc : ∀ i : grid0.Coords, (lo i T1).toNat ≤ (hi i T1).toNat
  fits : ∀ i : grid0.Coords, (hi i T1).toNat ≤ 2560
  rows : ∀ i : grid0.Coords, (hi i T1).toNat - (lo i T1).toNat ≤ 256
  graph : ∀ j, (T2 j).toNat < 2000
  fast : ∀ i : grid0.Coords, at391 i T3 = 1#32 → (at391 i T4).toNat ≤ 249

/-- Reading a window of `n` rows, adding rows to it and putting it back is adding the rows in place. -/
theorem put_pay41 (o : ℕ) (ho : o + 24 ≤ 2024) (M : Vec F S2024x1536 .f32) (C : Vec F S256x1536 .f32)
    (h : ∀ a, (![o, 0] : Fin 2 → ℕ) a + S24x1536.size a ≤ S2024x1536.size a) (h' : ∀ a, (![0, 0] : Fin 2 → ℕ) a + S24x1536.size a ≤ S256x1536.size a) :
    VecWindow.put (s := S2024x1536) M ![o, 0] S24x1536.size
      (k0_pay41 (VecWindow.window (s := S2024x1536) M ![o, 0] S24x1536.size h) (VecWindow.window (s := S256x1536) C ![0, 0] S24x1536.size h'))
      = addRows o 0 24 M C := by
  funext y
  unfold VecWindow.put addRows
  by_cases hy : o ≤ (y 0).val ∧ (y 0).val < o + 24
  · have hy1 : (y 1).val < 1536 := (y 1).isLt
    have hall : ∀ a, (![o, 0] : Fin 2 → ℕ) a ≤ (y a).val ∧ (y a).val < (![o, 0] : Fin 2 → ℕ) a + S24x1536.size a := by
      intro a; match a with
      | 0 => exact hy
      | 1 => show 0 ≤ (y 1).val ∧ (y 1).val < 0 + 1536; omega
    rw [dif_pos hall, if_pos hy]
    unfold k0_pay41
    rw [shapeCast_self]
    refine congrArg₂ FloatOps.addf (congrArg M (funext fun a => Fin.ext ?_)) (congrArg C (funext fun a => Fin.ext ?_))
    · match a with
      | 0 => show o + 1 * ((y 0).val - o) = (y 0).val; omega
      | 1 => show 0 + 1 * ((y 1).val - 0) = (y 1).val; omega
    · match a with
      | 0 => show 0 + 1 * ((y 0).val - o) = (0 + ((y 0).val - o)) % 256; omega
      | 1 => show 0 + 1 * ((y 1).val - 0) = (y 1).val; omega
  · rw [dif_neg (fun hall => hy (hall 0)), if_neg hy]

/-- The same of one row. -/
theorem put_pay1 (o k : ℕ) (ho : o + 1 ≤ 2024) (hk : k < 256) (M : Vec F S2024x1536 .f32) (C : Vec F S256x1536 .f32)
    (h : ∀ a, (![o, 0] : Fin 2 → ℕ) a + S1x1536.size a ≤ S2024x1536.size a) (h' : ∀ a, (![k, 0] : Fin 2 → ℕ) a + S1x1536.size a ≤ S256x1536.size a) :
    VecWindow.put (s := S2024x1536) M ![o, 0] S1x1536.size
      (k0_pay1 (VecWindow.window (s := S2024x1536) M ![o, 0] S1x1536.size h) (VecWindow.window (s := S256x1536) C ![k, 0] S1x1536.size h'))
      = addRows o k 1 M C := by
  funext y
  unfold VecWindow.put addRows
  by_cases hy : o ≤ (y 0).val ∧ (y 0).val < o + 1
  · have hy1 : (y 1).val < 1536 := (y 1).isLt
    have hall : ∀ a, (![o, 0] : Fin 2 → ℕ) a ≤ (y a).val ∧ (y a).val < (![o, 0] : Fin 2 → ℕ) a + S1x1536.size a := by
      intro a; match a with
      | 0 => exact hy
      | 1 => show 0 ≤ (y 1).val ∧ (y 1).val < 0 + 1536; omega
    rw [dif_pos hall, if_pos hy]
    unfold k0_pay1
    rw [shapeCast_self]
    refine congrArg₂ FloatOps.addf (congrArg M (funext fun a => Fin.ext ?_)) (congrArg C (funext fun a => Fin.ext ?_))
    · match a with
      | 0 => show o + 1 * ((y 0).val - o) = (y 0).val; omega
      | 1 => show 0 + 1 * ((y 1).val - 0) = (y 1).val; omega
    · match a with
      | 0 => show k + 1 * ((y 0).val - o) = (k + ((y 0).val - o)) % 256; omega
      | 1 => show 0 + 1 * ((y 1).val - 0) = (y 1).val; omega
  · rw [dif_neg (fun hall => hy (hall 0)), if_neg hy]

end Cert.Proof.KernelIdeal

end
-- ==== Proof.BodyIdeal.lean ====
/-
  The kernel's body, part by part: what each part leaves in the buffers it writes.
-/
module

public import proofs.«01_k».proof.Proof.StepIdeal
public import proofs.«01_k».proof.Proof.Gen.KernelIdeal.Skeleton
public import proofs.«01_k».proof.Proof.Gen.KernelIdeal.Loops
public import proofs.«01_k».proof.Proof.Gen.KernelIdeal.Launch
public import Idealize.ShloMosaic.Lib.Pipeline.Frame
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the launch. -/
local notation "𝕄" => MT nD τ sig Unit (Elt F) ℕ (UR sig nD τ) ℕ

variable (c : Dev nD) (i : grid0.Coords)
  (arg1 : Memref sig .tc .smem S392 .i32) (harg1 : arg1.IsWhole) (arg2 : Memref sig .tc .smem S2560 .i32) (harg2 : arg2.IsWhole)
  (arg3 : Memref sig .tc .smem S391 .i32) (harg3 : arg3.IsWhole) (arg4 : Memref sig .tc .smem S391 .i32) (harg4 : arg4.IsWhole)
  (arg5 : Memref sig .tc .vmem S256x128 .f32) (harg5 : arg5.IsWhole) (arg6 : Memref sig .tc .vmem S1x1x256 .i32) (harg6 : arg6.IsWhole)
  (arg7 : Memref sig .tc .vmem S128x16 .f32) (harg7 : arg7.IsWhole) (arg8 : Memref sig .tc .vmem S1x16 .f32) (harg8 : arg8.IsWhole)
  (arg9 : Memref sig .tc .vmem S12x128x128 .f32) (harg9 : arg9.IsWhole) (arg10 : Memref sig .tc .vmem S12x128 .f32) (harg10 : arg10.IsWhole)
  (arg11 : Memref sig .tc .vmem S12x128x128 .f32) (harg11 : arg11.IsWhole) (arg12 : Memref sig .tc .vmem S12x128 .f32) (harg12 : arg12.IsWhole)
  (arg13 : Memref sig .tc .vmem S12x128x128 .f32) (harg13 : arg13.IsWhole) (arg14 : Memref sig .tc .vmem S12x128 .f32) (harg14 : arg14.IsWhole)
  (arg15 : Memref sig .tc .vmem S128x12 .f32) (harg15 : arg15.IsWhole) (arg16 : Memref sig .tc .vmem S1x12 .f32) (harg16 : arg16.IsWhole)
  (arg17 : Memref sig .tc .vmem S2000x12 .f32) (harg17 : arg17.IsWhole) (arg18 : Memref sig .tc .vmem S2024x1536 .f32) (harg18 : arg18.IsWhole)
  (arg19 : Memref sig .tc .vmem S256x1536 .f32) (harg19 : arg19.IsWhole)

/-- The word a scalar load at offset `n` of a table reads. -/
theorem word_at {N : ℕ} (arg : Memref sig .tc .smem ⟨1, ![N]⟩ .i32) (f : BufTy.Contents (Elt F) arg.view.ty) {off : Fin 1 → ℕ} {n : ℕ}
    (h : off = ![n]) (hn : n < N) (inb : ∀ a, off a + S1.size a ≤ (⟨1, ![N]⟩ : Shape).size a) (hne) :
    View.readAt (Elt F) arg.view (Rect.unit (s := ⟨1, ![N]⟩) off S1.size inb).toLoadRect f (Shape.Idx.first hne)
      = arg.view.read (Elt F) f (ValueIdx.ix1 ⟨n, hn⟩) := by
  subst h
  rw [View.readAt_unit arg.view f inb rfl inb]
  unfold VecWindow.window
  refine congrArg _ (funext fun a => Fin.ext ?_)
  match a with
  | 0 =>
    have hz : ((Shape.Idx.first hne) (0 : Fin 1)).val < 1 := ((Shape.Idx.first hne) (0 : Fin 1)).isLt
    show n + 1 * ((Shape.Idx.first hne) (0 : Fin 1)).val = n
    omega

/-- A row of the accumulator, a row of the block's sums, and 24 rows of the accumulator lie in them. -/
theorem row_in {o : ℕ} (h : o + 1 ≤ 2024) : ∀ a, (![o, 0] : Fin 2 → ℕ) a + S1x1536.size a ≤ S2024x1536.size a := by
  intro a; match a with
  | 0 => exact h
  | 1 => exact le_refl _
theorem row_in' {o : ℕ} (h : o + 1 ≤ 256) : ∀ a, (![o, 0] : Fin 2 → ℕ) a + S1x1536.size a ≤ S256x1536.size a := by
  intro a; match a with
  | 0 => exact h
  | 1 => exact le_refl _
theorem rows_in {o : ℕ} (h : o + 24 ≤ 2024) : ∀ a, (![o, 0] : Fin 2 → ℕ) a + S24x1536.size a ≤ S2024x1536.size a := by
  intro a; match a with
  | 0 => exact h
  | 1 => exact le_refl _

section Loop

variable (v80 v83 v91 : Elt F .i32) (hw2 : k0_chk2 v80 v83 v91) (h3 : k0_cond3 v91 = 1#1)
  (q : PosShare TreeShare) (T2 : S2560.Idx → BitVec 32) (C : Vec F S256x1536 .f32) (M : Vec F S2024x1536 .f32)

/-- Before trip `k`: the slots' graphs and the block's sums as they were, the accumulator with the first `k` slots added. -/
def inv1 (k : ℕ) : sProp 𝕄 :=
  iprop(owns (c : Thread nD τ) arg2 q T2 ∗ owns (c : Thread nD τ) arg18 fullShare (slotRows T2 v80.toNat C k M)
    ∗ owns (c : Thread nD τ) arg19 fullShare C)

/-- One trip adds one row. -/
theorem trip1 (h : v80.toNat ≤ v83.toNat) (h' : v83.toNat ≤ 2560) (h'' : v83.toNat - v80.toNat ≤ 256) (hT : ∀ j, (T2 j).toNat < 2000)
    (k : Fin (k0_t1_loop v80 v83).trips) (acc : BitVec 32) :
    inv1 c arg2 arg18 arg19 v80 q T2 C M k.val
      ⊢ wp frame (wpE (defs₀ (F := F)) Variants.none c none) Set.univ
        (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v80 v83 v91 hw2 h3 k acc)
        (fun _ => inv1 c arg2 arg18 arg19 v80 q T2 C M (k.val + 1)) := by
  unfold inv1 owns
  have hk : k.val < v83.toNat - v80.toNat := lt_of_lt_of_eq k.isLt (trips1_eq h h')
  have hchk : ∀ j, k0_chk3 v91 (T2 j) := fun j => chk3_of (hT j)
  iintro ⟨⟨%f2, %e2, H2⟩, ⟨%f18, %e18, H18⟩, ⟨%f19, %e19, H19⟩⟩
  sl_unfold [k0_t1_body]
  subst e2
  sl_exec
  sl_step
  have er : trip1.sl.r c arg2 v80 v83 v91 hw2 h3 k f2 = arg2.view.read (Elt F) f2 (ValueIdx.ix1 ⟨(v80.toNat + k.val) % 2560, Nat.mod_lt _ (by decide)⟩) := by
    unfold trip1.sl.r
    rw [word_at arg2 f2 (off7_eq h h' k) (by omega)]
    congr 2; exact Fin.ext (Nat.mod_eq_of_lt (by omega)).symm
  isplitl [H2]
  · iexists _; isplitr; swap; · iexact H2
    ipureintro; rfl
  isplitl [H18]
  · iexists _; isplitr; swap; · iexact H18
    ipureintro
    unfold trip1.sl.v109
    have e8 : k0_off8 (trip1.sl.r c arg2 v80 v83 v91 hw2 h3 k f2)
        = ![(arg2.view.read (Elt F) f2 (ValueIdx.ix1 ⟨(v80.toNat + k.val) % 2560, Nat.mod_lt _ (by decide)⟩)).toNat, 0] :=
      (off8_eq _).trans (by rw [er])
    have hlt := hT (ValueIdx.ix1 ⟨(v80.toNat + k.val) % 2560, Nat.mod_lt _ (by decide)⟩)
    rw [View.read_writes_cons_put _ _ _ _ _ e8, View.writes_nil, View.readAt_unit _ _ _ e8 (row_in (by omega)),
      View.readAt_unit _ _ _ (off9_eq h h' k) (row_in' (by omega))]
    rw [e18, e19]
    exact put_pay1 _ _ (by omega) (by omega) _ _ _ _
  · iexists _; isplitr; swap; · iexact H19
    ipureintro; exact e19

end Loop

/-- The first part clears the accumulator at the first point, and reads the block and the weights. -/
theorem part14_run (X : Vec F S256x128 .f32) (A : Vec F S128x16 .f32) (B : Vec F S1x16 .f32) (M : Vec F S2024x1536 .f32) :
    (iprop(owns (c : Thread nD τ) arg5 fullShare X ∗ owns (c : Thread nD τ) arg7 fullShare A ∗ owns (c : Thread nD τ) arg8 fullShare B
        ∗ owns (c : Thread nD τ) arg18 fullShare M) : sProp 𝕄)
      ⊢ wp frame (wpE (defs₀ (F := F)) Variants.none c none) Set.univ (k0_part14 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
        (fun r => iprop(⌜r = ⟨BitVec.ofNat 32 (i 0).val, k0_pay32 i X, k0_pay33 i X A B, k0_pay34 i X A B, k0_pay35 i X A B, k0_pay36 i X A B,
            k0_pay37 i X A B, k0_pay38 i X A B, k0_pay39 i X A B⟩⌝
          ∗ owns (c : Thread nD τ) arg5 fullShare X ∗ owns (c : Thread nD τ) arg7 fullShare A ∗ owns (c : Thread nD τ) arg8 fullShare B
          ∗ owns (c : Thread nD τ) arg18 fullShare (cleared i M))) := by
  unfold owns
  iintro ⟨⟨%f5, %e5, H5⟩, ⟨%f7, %e7, H7⟩, ⟨%f8, %e8, H8⟩, ⟨%f18, %e18, H18⟩⟩
  subst e5 e7 e8 e18
  simp only [k0_part14_eq_skeleton]; unfold k0_part14_skel
  by_cases h1 : Scalar.cmpi .ne (Scalar.extui (Scalar.cmpi .eq (BitVec.ofNat 32 (i 0).val) 0#32)) 0#32 = 1#1
  · have h0 : (i 0).val = 0 := (cond1_iff i).1 h1
    sl_exec
    sl_step
    isplitr
    · ipureintro
      rw [← View.readAt_full arg5.view f5 inb_S256x128_S256x128_0_0, ← View.readAt_full arg7.view f7 inb_S128x16_S128x16_0_0,
        ← View.readAt_full arg8.view f8 inb_S1x16_S1x16_0_0]
    isplitl [H5]; · iexists _; isplitr; swap; · iexact H5
                    ipureintro; rfl
    isplitl [H7]; · iexists _; isplitr; swap; · iexact H7
                    ipureintro; rfl
    isplitl [H8]; · iexists _; isplitr; swap; · iexact H8
                    ipureintro; rfl
    iexists _; isplitr; swap; · iexact H18
    ipureintro
    rw [View.read_writes_full]; unfold cleared; rw [if_pos h0]
  · have h0 : ¬ (i 0).val = 0 := fun h => h1 ((cond1_iff i).2 h)
    sl_exec
    sl_step
    isplitr
    · ipureintro
      rw [← View.readAt_full arg5.view f5 inb_S256x128_S256x128_0_0, ← View.readAt_full arg7.view f7 inb_S128x16_S128x16_0_0,
        ← View.readAt_full arg8.view f8 inb_S1x16_S1x16_0_0]
    isplitl [H5]; · iexists _; isplitr; swap; · iexact H5
                    ipureintro; rfl
    isplitl [H7]; · iexists _; isplitr; swap; · iexact H7
                    ipureintro; rfl
    isplitl [H8]; · iexists _; isplitr; swap; · iexact H8
                    ipureintro; rfl
    iexists _; isplitr; swap; · iexact H18
    ipureintro; unfold cleared; rw [if_neg h0]

/-- The second part leaves the block's sums by slot, reads the point's words, and adds the sums in place on the fast path. -/
theorem part15_run (q : PosShare TreeShare) (arg0 : BitVec 32) (v13 : Vec F S256x128 .f32) (v27 : FVec F S256x16 .f32)
    (v30 v33 v36 v39 v42 : FVec F S256x128 .f32) (v43 : FVec F S256x1 .f32)
    (T1 : S392.Idx → BitVec 32) (T2 : S2560.Idx → BitVec 32) (T3 T4 : S391.Idx → BitVec 32) (hT : TablesOk T1 T2 T3 T4)
    (R : Vec F S1x1x256 .i32) (M : Vec F S2024x1536 .f32) (C₀ : Vec F S256x1536 .f32) :
    (iprop(owns (c : Thread nD τ) arg1 q T1 ∗ owns (c : Thread nD τ) arg3 q T3 ∗ owns (c : Thread nD τ) arg4 q T4
        ∗ owns (c : Thread nD τ) arg6 fullShare R ∗ owns (c : Thread nD τ) arg18 fullShare M ∗ owns (c : Thread nD τ) arg19 fullShare C₀) : sProp 𝕄)
      ⊢ wp frame (wpE (defs₀ (F := F)) Variants.none c none) Set.univ
        (k0_part15 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v13 v27 v30 v33 v36 v39 v42 v43)
        (fun r => iprop(⌜r.1 = lo i T1 ∧ r.2.1 = hi i T1 ∧ r.2.2.2.1 = at391 i T3⌝
          ∗ owns (c : Thread nD τ) arg1 q T1 ∗ owns (c : Thread nD τ) arg3 q T3 ∗ owns (c : Thread nD τ) arg4 q T4
          ∗ owns (c : Thread nD τ) arg6 fullShare R
          ∗ owns (c : Thread nD τ) arg18 fullShare (fastMol i T3 T4 (k0_pay40 v13 v27 v30 v33 v36 v39 v42 v43 R) M)
          ∗ owns (c : Thread nD τ) arg19 fullShare (k0_pay40 v13 v27 v30 v33 v36 v39 v42 v43 R))) := by
  unfold owns
  iintro ⟨⟨%f1, %e1, H1⟩, ⟨%f3, %e3, H3⟩, ⟨%f4, %e4, H4⟩, ⟨%f6, %e6, H6⟩, ⟨%f18, %e18, H18⟩, ⟨%f19, %e19, H19⟩⟩
  subst e1 e3 e4 e6 e18 e19
  simp only [k0_part15_eq_skeleton]; unfold k0_part15_skel
  sl_exec
  have er : part15_run.sl.r c i arg1 f1 = lo i (arg1.view.read (Elt F) f1) := by
    unfold part15_run.sl.r; exact word_at arg1 f1 (off1_eq i) _ _ _
  have er1 : part15_run.sl.r_1 c i arg1 f1 = hi i (arg1.view.read (Elt F) f1) := by
    unfold part15_run.sl.r_1; exact word_at arg1 f1 (off2_eq i) _ _ _
  have er2 : part15_run.sl.r_2 c i arg3 f3 = at391 i (arg3.view.read (Elt F) f3) := by
    unfold part15_run.sl.r_2; exact word_at arg3 f3 (off3_eq i) _ _ _
  have ew4 : ∀ hne, View.readAt (Elt F) arg4.view (Rect.unit (s := S391) (k0_off4 i) S1.size (k0_off4_inb i)).toLoadRect f4 (Shape.Idx.first hne)
      = at391 i (arg4.view.read (Elt F) f4) := fun hne => word_at arg4 f4 (off4_eq i) _ _ hne
  have ew3 : ∀ hne, View.readAt (Elt F) arg3.view (Rect.unit (s := S391) (k0_off6 i) S1.size (k0_off6_inb i)).toLoadRect f3 (Shape.Idx.first hne)
      = at391 i (arg3.view.read (Elt F) f3) := fun hne => word_at arg3 f3 (off6_eq i) _ _ hne
  have hw2 : ∀ hne, k0_chk2 (part15_run.sl.r c i arg1 f1) (part15_run.sl.r_1 c i arg1 f1)
      (View.readAt (Elt F) arg3.view (Rect.unit (s := S391) (k0_off6 i) S1.size (k0_off6_inb i)).toLoadRect f3 (Shape.Idx.first hne)) := by
    intro hne; rw [er, er1]; exact chk2_of (hT.asc i) (hT.fits i) (hT.rows i)
  by_cases h2 : k0_cond2 (part15_run.sl.r_2 c i arg3 f3) = 1#1
  · have h3 : at391 i (arg3.view.read (Elt F) f3) = 1#32 := er2 ▸ (cond2_iff _).1 h2
    have hlt := hT.fast i h3
    have hw1 : ∀ hne, k0_chk1 (part15_run.sl.r_2 c i arg3 f3)
        (View.readAt (Elt F) arg4.view (Rect.unit (s := S391) (k0_off4 i) S1.size (k0_off4_inb i)).toLoadRect f4 (Shape.Idx.first hne)) := by
      intro hne; rw [ew4]; exact chk1_of fun _ => hlt
    sl_exec
    sl_step
    isplitr
    · ipureintro; refine ⟨er, er1, ?_⟩
      show part15_run.sl.r_3 c i arg3 f3 = _
      unfold part15_run.sl.r_3; exact ew3 _
    isplitl [H1]; · iexists _; isplitr; swap; · iexact H1
                    ipureintro; rfl
    isplitl [H3]; · iexists _; isplitr; swap; · iexact H3
                    ipureintro; rfl
    isplitl [H4]; · iexists _; isplitr; swap; · iexact H4
                    ipureintro; rfl
    isplitl [H6]; · iexists _; isplitr; swap; · iexact H6
                    ipureintro; rfl
    isplitl [H18]; · iexists _; isplitr; swap; · iexact H18
                     ipureintro
                     have e4 : part15_run.sl.r_4 c i arg4 f4 = at391 i (arg4.view.read (Elt F) f4) := by
                       unfold part15_run.sl.r_4; exact ew4 _
                     have e5 : k0_off5 (part15_run.sl.r_4 c i arg4 f4) = ![8 * (at391 i (arg4.view.read (Elt F) f4)).toNat, 0] := by
                       rw [e4]; exact off5_eq hlt
                     unfold part15_run.sl.v104
                     rw [View.read_writes_cons_put _ _ _ _ _ e5, View.writes_nil, View.readAt_unit _ _ _ e5 (rows_in (by omega)),
                       View.readCov, View.readAt_unit arg19.view _ _ rfl inb_S256x1536_S24x1536_0_0, View.read_writes_full, View.readAt_full]
                     unfold fastMol; rw [if_pos h3]
                     exact put_pay41 _ (by omega) _ _ _ _
    iexists _; isplitr; swap; · iexact H19
    ipureintro; rw [View.read_writes_full, View.readAt_full]
  · have h3 : ¬ at391 i (arg3.view.read (Elt F) f3) = 1#32 := fun h => h2 ((cond2_iff _).2 (er2 ▸ h))
    sl_exec
    sl_step
    isplitr
    · ipureintro; refine ⟨er, er1, ?_⟩
      show part15_run.sl.r_6 c i arg3 f3 = _
      unfold part15_run.sl.r_6; exact ew3 _
    isplitl [H1]; · iexists _; isplitr; swap; · iexact H1
                    ipureintro; rfl
    isplitl [H3]; · iexists _; isplitr; swap; · iexact H3
                    ipureintro; rfl
    isplitl [H4]; · iexists _; isplitr; swap; · iexact H4
                    ipureintro; rfl
    isplitl [H6]; · iexists _; isplitr; swap; · iexact H6
                    ipureintro; rfl
    isplitl [H18]; · iexists _; isplitr; swap; · iexact H18
                     ipureintro; unfold fastMol; rw [if_neg h3]
    iexists _; isplitr; swap; · iexact H19
    ipureintro; rw [View.read_writes_full, View.readAt_full]

end Cert.Proof.KernelIdeal

end
-- ==== Proof.HeadsIdeal.lean ====
/-
  The heads: at the last grid point, one column of the output a task.
-/
module

public import proofs.«01_k».proof.Proof.StepIdeal
public import proofs.«01_k».proof.Proof.Gen.KernelIdeal.Skeleton
public import proofs.«01_k».proof.Proof.Gen.KernelIdeal.Loops
public import proofs.«01_k».proof.Proof.Gen.KernelIdeal.Launch
public import Idealize.ShloMosaic.Lib.Pipeline.Frame
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the launch. -/
local notation "𝕄" => MT nD τ sig Unit (Elt F) ℕ (UR sig nD τ) ℕ

variable (c : Dev nD) (i : grid0.Coords)
  (arg1 : Memref sig .tc .smem S392 .i32) (harg1 : arg1.IsWhole) (arg2 : Memref sig .tc .smem S2560 .i32) (harg2 : arg2.IsWhole)
  (arg3 : Memref sig .tc .smem S391 .i32) (harg3 : arg3.IsWhole) (arg4 : Memref sig .tc .smem S391 .i32) (harg4 : arg4.IsWhole)
  (arg5 : Memref sig .tc .vmem S256x128 .f32) (harg5 : arg5.IsWhole) (arg6 : Memref sig .tc .vmem S1x1x256 .i32) (harg6 : arg6.IsWhole)
  (arg7 : Memref sig .tc .vmem S128x16 .f32) (harg7 : arg7.IsWhole) (arg8 : Memref sig .tc .vmem S1x16 .f32) (harg8 : arg8.IsWhole)
  (arg9 : Memref sig .tc .vmem S12x128x128 .f32) (harg9 : arg9.IsWhole) (arg10 : Memref sig .tc .vmem S12x128 .f32) (harg10 : arg10.IsWhole)
  (arg11 : Memref sig .tc .vmem S12x128x128 .f32) (harg11 : arg11.IsWhole) (arg12 : Memref sig .tc .vmem S12x128 .f32) (harg12 : arg12.IsWhole)
  (arg13 : Memref sig .tc .vmem S12x128x128 .f32) (harg13 : arg13.IsWhole) (arg14 : Memref sig .tc .vmem S12x128 .f32) (harg14 : arg14.IsWhole)
  (arg15 : Memref sig .tc .vmem S128x12 .f32) (harg15 : arg15.IsWhole) (arg16 : Memref sig .tc .vmem S1x12 .f32) (harg16 : arg16.IsWhole)
  (arg17 : Memref sig .tc .vmem S2000x12 .f32) (harg17 : arg17.IsWhole) (arg18 : Memref sig .tc .vmem S2024x1536 .f32) (harg18 : arg18.IsWhole)
  (arg19 : Memref sig .tc .vmem S256x1536 .f32) (harg19 : arg19.IsWhole)

/-- A window of `n` columns at column `k` of a matrix, and one at plane, row or column `t` of a task's parameters. -/
def headCol (t : Fin 12) (M : Vec F S2024x1536 .f32) (X9 : Vec F S12x128x128 .f32) (X10 : Vec F S12x128 .f32) (X11 : Vec F S12x128x128 .f32)
    (X12 : Vec F S12x128 .f32) (X13 : Vec F S12x128x128 .f32) (X14 : Vec F S12x128 .f32) (X15 : Vec F S128x12 .f32) (X16 : Vec F S1x12 .f32) :
    FVec F S2000x1 .f32 :=
  k0_pay3
    (fun y => M (ValueIdx.ix2 ⟨(y 0).val, lt_trans (y 0).isLt (show 2000 < 2024 by decide)⟩
      ⟨128 * t.val + (y 1).val, by have : (y 1).val < 128 := (y 1).isLt; show _ < 1536; omega⟩))
    (fun y => X9 (ValueIdx.ix3 t (y 1) (y 2))) (fun y => X10 (ValueIdx.ix2 t (y 1))) (fun y => X11 (ValueIdx.ix3 t (y 1) (y 2)))
    (fun y => X12 (ValueIdx.ix2 t (y 1))) (fun y => X13 (ValueIdx.ix3 t (y 1) (y 2))) (fun y => X14 (ValueIdx.ix2 t (y 1)))
    (fun y => X15 (ValueIdx.ix2 (y 0) t)) (fun y => X16 (ValueIdx.ix2 0 t))

/-- The output: task `t`'s predictions in column `t`. -/
def headsOut (M : Vec F S2024x1536 .f32) (X9 : Vec F S12x128x128 .f32) (X10 : Vec F S12x128 .f32) (X11 : Vec F S12x128x128 .f32)
    (X12 : Vec F S12x128 .f32) (X13 : Vec F S12x128x128 .f32) (X14 : Vec F S12x128 .f32) (X15 : Vec F S128x12 .f32) (X16 : Vec F S1x12 .f32) :
    Vec F S2000x12 .f32 := fun y => headCol (y 1) M X9 X10 X11 X12 X13 X14 X15 X16 (ValueIdx.ix2 (y 0) 0)

/-- The accumulator's columns of task `t`, in the graphs' rows. -/
theorem read_cols (arg : Memref sig .tc .vmem S2024x1536 .f32) (f : BufTy.Contents (Elt F) arg.view.ty) (t : Fin 12) {off : Fin S2024x1536.rank → ℕ}
    (h : off = ![0, 128 * t.val]) (inb : ∀ a, off a + S2000x128.size a ≤ S2024x1536.size a) :
    View.readAt (Elt F) arg.view (Rect.unit (s := S2024x1536) off S2000x128.size inb).toLoadRect f = (fun y => arg.view.read (Elt F) f (ValueIdx.ix2 ⟨(y 0).val, lt_trans (y 0).isLt (show 2000 < 2024 by decide)⟩
      ⟨128 * t.val + (y 1).val, by have : (y 1).val < 128 := (y 1).isLt; show _ < 1536; omega⟩) : Vec F S2000x128 .f32) := by
  subst h
  rw [View.readAt_unit arg.view f inb rfl inb]
  funext y; unfold VecWindow.window
  refine congrArg _ (funext fun a => Fin.ext ?_)
  match a with
  | 0 => show 0 + 1 * (y 0).val = (y 0).val; omega
  | 1 => show 128 * t.val + 1 * (y 1).val = 128 * t.val + (y 1).val; omega

/-- Plane `t` of a layer's weights. -/
theorem read_plane (arg : Memref sig .tc .vmem S12x128x128 .f32) (f : BufTy.Contents (Elt F) arg.view.ty) (t : Fin 12) {off : Fin S12x128x128.rank → ℕ}
    (h : off = ![t.val, 0, 0]) (inb : ∀ a, off a + S1x128x128.size a ≤ S12x128x128.size a) :
    View.readAt (Elt F) arg.view (Rect.unit (s := S12x128x128) off S1x128x128.size inb).toLoadRect f = (fun y => arg.view.read (Elt F) f (ValueIdx.ix3 t (y 1) (y 2)) : Vec F S1x128x128 .f32) := by
  subst h
  rw [View.readAt_unit arg.view f inb rfl inb]
  funext y; unfold VecWindow.window
  refine congrArg _ (funext fun a => Fin.ext ?_)
  have h0 : (y 0).val < 1 := (y 0).isLt
  match a with
  | 0 => show t.val + 1 * (y 0).val = t.val; omega
  | 1 => show 0 + 1 * (y 1).val = (y 1).val; omega
  | 2 => show 0 + 1 * (y 2).val = (y 2).val; omega

/-- Row `t` of a layer's biases. -/
theorem read_row (arg : Memref sig .tc .vmem S12x128 .f32) (f : BufTy.Contents (Elt F) arg.view.ty) (t : Fin 12) {off : Fin S12x128.rank → ℕ}
    (h : off = ![t.val, 0]) (inb : ∀ a, off a + S1x128.size a ≤ S12x128.size a) :
    View.readAt (Elt F) arg.view (Rect.unit (s := S12x128) off S1x128.size inb).toLoadRect f = (fun y => arg.view.read (Elt F) f (ValueIdx.ix2 t (y 1)) : Vec F S1x128 .f32) := by
  subst h
  rw [View.readAt_unit arg.view f inb rfl inb]
  funext y; unfold VecWindow.window
  refine congrArg _ (funext fun a => Fin.ext ?_)
  have h0 : (y 0).val < 1 := (y 0).isLt
  match a with
  | 0 => show t.val + 1 * (y 0).val = t.val; omega
  | 1 => show 0 + 1 * (y 1).val = (y 1).val; omega

/-- Column `t` of the output weights. -/
theorem read_outw (arg : Memref sig .tc .vmem S128x12 .f32) (f : BufTy.Contents (Elt F) arg.view.ty) (t : Fin 12) {off : Fin S128x12.rank → ℕ}
    (h : off = ![0, t.val]) (inb : ∀ a, off a + S128x1.size a ≤ S128x12.size a) :
    View.readAt (Elt F) arg.view (Rect.unit (s := S128x12) off S128x1.size inb).toLoadRect f = (fun y => arg.view.read (Elt F) f (ValueIdx.ix2 (y 0) t) : Vec F S128x1 .f32) := by
  subst h
  rw [View.readAt_unit arg.view f inb rfl inb]
  funext y; unfold VecWindow.window
  refine congrArg _ (funext fun a => Fin.ext ?_)
  have h0 : (y 1).val < 1 := (y 1).isLt
  match a with
  | 0 => show 0 + 1 * (y 0).val = (y 0).val; omega
  | 1 => show t.val + 1 * (y 1).val = t.val; omega

/-- Entry `t` of the output biases. -/
theorem read_outb (arg : Memref sig .tc .vmem S1x12 .f32) (f : BufTy.Contents (Elt F) arg.view.ty) (t : Fin 12) {off : Fin S1x12.rank → ℕ}
    (h : off = ![0, t.val]) (inb : ∀ a, off a + S1x1.size a ≤ S1x12.size a) :
    View.readAt (Elt F) arg.view (Rect.unit (s := S1x12) off S1x1.size inb).toLoadRect f = (fun y => arg.view.read (Elt F) f (ValueIdx.ix2 0 t) : Vec F S1x1 .f32) := by
  subst h
  rw [View.readAt_unit arg.view f inb rfl inb]
  funext y; unfold VecWindow.window
  refine congrArg _ (funext fun a => Fin.ext ?_)
  have h0 : (y 0).val < 1 := (y 0).isLt
  have h1 : (y 1).val < 1 := (y 1).isLt
  match a with
  | 0 => show 0 + 1 * (y 0).val = 0; omega
  | 1 => show t.val + 1 * (y 1).val = t.val; omega

/-- `X` with its first `k` columns replaced. -/
def colsUpTo (X : Vec F S2000x12 .f32) (G : Fin 12 → FVec F S2000x1 .f32) (k : ℕ) : Vec F S2000x12 .f32 := fun y =>
  if (y 1).val < k then G (y 1) (ValueIdx.ix2 (y 0) 0) else X y

/-- Putting the next column. -/
theorem put_col (X : Vec F S2000x12 .f32) (G : Fin 12 → FVec F S2000x1 .f32) (k : ℕ) (hk : k < 12) :
    VecWindow.put (s := S2000x12) (colsUpTo X G k) ![0, k] S2000x1.size (G ⟨k, hk⟩) = colsUpTo X G (k + 1) := by
  funext y
  unfold VecWindow.put colsUpTo
  have hy0 : (y 0).val < 2000 := (y 0).isLt
  by_cases hy : (y 1).val = k
  · have hall : ∀ a, (![0, k] : Fin 2 → ℕ) a ≤ (y a).val ∧ (y a).val < (![0, k] : Fin 2 → ℕ) a + S2000x1.size a := by
      intro a; match a with
      | 0 => show 0 ≤ (y 0).val ∧ (y 0).val < 0 + 2000; omega
      | 1 => show k ≤ (y 1).val ∧ (y 1).val < k + 1; omega
    rw [dif_pos hall, if_pos (by omega)]
    have e : (⟨k, hk⟩ : Fin 12) = y 1 := Fin.ext hy.symm
    rw [e]
    refine congrArg _ (funext fun a => Fin.ext ?_)
    match a with
    | 0 => show (y 0).val - 0 = (y 0).val; omega
    | 1 => show (y 1).val - k = 0; omega
  · have hall : ¬ ∀ a, (![0, k] : Fin 2 → ℕ) a ≤ (y a).val ∧ (y a).val < (![0, k] : Fin 2 → ℕ) a + S2000x1.size a := by
      intro h
      have h1 : k ≤ (y 1).val ∧ (y 1).val < k + 1 := h 1
      omega
    rw [dif_neg hall]
    by_cases h : (y 1).val < k
    · rw [if_pos h, if_pos (by omega)]
    · rw [if_neg h, if_neg (by omega)]

/-- Twelve columns put one after another are all the output. -/
theorem puts12 (X : Vec F S2000x12 .f32) (G : Fin 12 → FVec F S2000x1 .f32) (w0 w1 w2 w3 w4 w5 w6 w7 w8 w9 w10 w11 : FVec F S2000x1 .f32)
    (h0 : w0 = G 0) (h1 : w1 = G 1) (h2 : w2 = G 2) (h3 : w3 = G 3) (h4 : w4 = G 4) (h5 : w5 = G 5) (h6 : w6 = G 6) (h7 : w7 = G 7) (h8 : w8 = G 8) (h9 : w9 = G 9) (h10 : w10 = G 10) (h11 : w11 = G 11) :
    VecWindow.put (s := S2000x12) (VecWindow.put (s := S2000x12) (VecWindow.put (s := S2000x12) (VecWindow.put (s := S2000x12) (VecWindow.put (s := S2000x12) (VecWindow.put (s := S2000x12) (VecWindow.put (s := S2000x12) (VecWindow.put (s := S2000x12) (VecWindow.put (s := S2000x12) (VecWindow.put (s := S2000x12) (VecWindow.put (s := S2000x12) (VecWindow.put (s := S2000x12) (X) ![0, 0] S2000x1.size w0) ![0, 1] S2000x1.size w1) ![0, 2] S2000x1.size w2) ![0, 3] S2000x1.size w3) ![0, 4] S2000x1.size w4) ![0, 5] S2000x1.size w5) ![0, 6] S2000x1.size w6) ![0, 7] S2000x1.size w7) ![0, 8] S2000x1.size w8) ![0, 9] S2000x1.size w9) ![0, 10] S2000x1.size w10) ![0, 11] S2000x1.size w11
      = fun y => G (y 1) (ValueIdx.ix2 (y 0) 0) := by
  subst h0 h1 h2 h3 h4 h5 h6 h7 h8 h9 h10 h11
  have e0 : X = colsUpTo X G 0 := by funext y; unfold colsUpTo; rw [if_neg (by omega)]
  conv_lhs => rw [e0]
  rw [show G 0 = G ⟨0, by decide⟩ from rfl, put_col X G 0 (by decide)]
  rw [show G 1 = G ⟨1, by decide⟩ from rfl, put_col X G 1 (by decide)]
  rw [show G 2 = G ⟨2, by decide⟩ from rfl, put_col X G 2 (by decide)]
  rw [show G 3 = G ⟨3, by decide⟩ from rfl, put_col X G 3 (by decide)]
  rw [show G 4 = G ⟨4, by decide⟩ from rfl, put_col X G 4 (by decide)]
  rw [show G 5 = G ⟨5, by decide⟩ from rfl, put_col X G 5 (by decide)]
  rw [show G 6 = G ⟨6, by decide⟩ from rfl, put_col X G 6 (by decide)]
  rw [show G 7 = G ⟨7, by decide⟩ from rfl, put_col X G 7 (by decide)]
  rw [show G 8 = G ⟨8, by decide⟩ from rfl, put_col X G 8 (by decide)]
  rw [show G 9 = G ⟨9, by decide⟩ from rfl, put_col X G 9 (by decide)]
  rw [show G 10 = G ⟨10, by decide⟩ from rfl, put_col X G 10 (by decide)]
  rw [show G 11 = G ⟨11, by decide⟩ from rfl, put_col X G 11 (by decide)]
  funext y
  have : (y 1).val < 12 := (y 1).isLt
  unfold colsUpTo; rw [if_pos this]

set_option maxHeartbeats 8000000 in
/-- The heads' run. -/
theorem heads_run (X9 : Vec F S12x128x128 .f32) (X10 : Vec F S12x128 .f32) (X11 : Vec F S12x128x128 .f32)
    (X12 : Vec F S12x128 .f32) (X13 : Vec F S12x128x128 .f32) (X14 : Vec F S12x128 .f32) (X15 : Vec F S128x12 .f32) (X16 : Vec F S1x12 .f32)
    (O₀ : Vec F S2000x12 .f32) (M : Vec F S2024x1536 .f32) :
    (iprop(owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16
        ∗ owns (c : Thread nD τ) arg17 fullShare O₀ ∗ owns (c : Thread nD τ) arg18 fullShare M) : sProp 𝕄)
      ⊢ wp frame (wpE (defs₀ (F := F)) Variants.none c none) Set.univ (k0_part13 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
        (fun _ => iprop(owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16
          ∗ owns (c : Thread nD τ) arg17 fullShare (headsOut M X9 X10 X11 X12 X13 X14 X15 X16) ∗ owns (c : Thread nD τ) arg18 fullShare M)) := by
  unfold owns
  iintro ⟨⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩⟩
  subst e9 e10 e11 e12 e13 e14 e15 e16 e17 e18
  simp only [k0_part13_eq_skeleton]; unfold k0_part13_skel
  sl_exec_parts
  sl_step
  isplitl [H9]; · iexists _; isplitr; swap; · iexact H9
                  ipureintro; rfl
  isplitl [H10]; · iexists _; isplitr; swap; · iexact H10
                   ipureintro; rfl
  isplitl [H11]; · iexists _; isplitr; swap; · iexact H11
                   ipureintro; rfl
  isplitl [H12]; · iexists _; isplitr; swap; · iexact H12
                   ipureintro; rfl
  isplitl [H13]; · iexists _; isplitr; swap; · iexact H13
                   ipureintro; rfl
  isplitl [H14]; · iexists _; isplitr; swap; · iexact H14
                   ipureintro; rfl
  isplitl [H15]; · iexists _; isplitr; swap; · iexact H15
                   ipureintro; rfl
  isplitl [H16]; · iexists _; isplitr; swap; · iexact H16
                   ipureintro; rfl
  isplitl [H17]
  · iexists _; isplitr; swap; · iexact H17
    ipureintro
    unfold heads_run.sl.H17_10 heads_run.sl.H17_9 heads_run.sl.H17_8 heads_run.sl.H17_7 heads_run.sl.H17_6 heads_run.sl.H17_5 heads_run.sl.H17_4 heads_run.sl.H17_3 heads_run.sl.H17_2 heads_run.sl.H17_1

    rw [View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.writes_nil]
    refine puts12 _ (fun t => headCol t (arg18.view.read (Elt F) f18) (arg9.view.read (Elt F) f9) (arg10.view.read (Elt F) f10) (arg11.view.read (Elt F) f11) (arg12.view.read (Elt F) f12) (arg13.view.read (Elt F) f13) (arg14.view.read (Elt F) f14) (arg15.view.read (Elt F) f15) (arg16.view.read (Elt F) f16)) _ _ _ _ _ _ _ _ _ _ _ _ ?_ ?_ ?_ ?_ ?_ ?_ ?_ ?_ ?_ ?_ ?_ ?_
    · unfold headCol; sl_unfold_run_names
      rw [← read_cols arg18 f18 0 rfl inb_S2024x1536_S2000x128_0_0, ← read_plane arg9 f9 0 rfl inb_S12x128x128_S1x128x128_0_0_0, ← read_row arg10 f10 0 rfl inb_S12x128_S1x128_0_0, ← read_plane arg11 f11 0 rfl inb_S12x128x128_S1x128x128_0_0_0, ← read_row arg12 f12 0 rfl inb_S12x128_S1x128_0_0, ← read_plane arg13 f13 0 rfl inb_S12x128x128_S1x128x128_0_0_0, ← read_row arg14 f14 0 rfl inb_S12x128_S1x128_0_0, ← read_outw arg15 f15 0 rfl inb_S128x12_S128x1_0_0, ← read_outb arg16 f16 0 rfl inb_S1x12_S1x1_0_0]
      rfl
    · unfold headCol; sl_unfold_run_names
      rw [← read_cols arg18 f18 1 rfl inb_S2024x1536_S2000x128_0_128, ← read_plane arg9 f9 1 rfl inb_S12x128x128_S1x128x128_1_0_0, ← read_row arg10 f10 1 rfl inb_S12x128_S1x128_1_0, ← read_plane arg11 f11 1 rfl inb_S12x128x128_S1x128x128_1_0_0, ← read_row arg12 f12 1 rfl inb_S12x128_S1x128_1_0, ← read_plane arg13 f13 1 rfl inb_S12x128x128_S1x128x128_1_0_0, ← read_row arg14 f14 1 rfl inb_S12x128_S1x128_1_0, ← read_outw arg15 f15 1 rfl inb_S128x12_S128x1_0_1, ← read_outb arg16 f16 1 rfl inb_S1x12_S1x1_0_1]
      rfl
    · unfold headCol; sl_unfold_run_names
      rw [← read_cols arg18 f18 2 rfl inb_S2024x1536_S2000x128_0_256, ← read_plane arg9 f9 2 rfl inb_S12x128x128_S1x128x128_2_0_0, ← read_row arg10 f10 2 rfl inb_S12x128_S1x128_2_0, ← read_plane arg11 f11 2 rfl inb_S12x128x128_S1x128x128_2_0_0, ← read_row arg12 f12 2 rfl inb_S12x128_S1x128_2_0, ← read_plane arg13 f13 2 rfl inb_S12x128x128_S1x128x128_2_0_0, ← read_row arg14 f14 2 rfl inb_S12x128_S1x128_2_0, ← read_outw arg15 f15 2 rfl inb_S128x12_S128x1_0_2, ← read_outb arg16 f16 2 rfl inb_S1x12_S1x1_0_2]
      rfl
    · unfold headCol; sl_unfold_run_names
      rw [← read_cols arg18 f18 3 rfl inb_S2024x1536_S2000x128_0_384, ← read_plane arg9 f9 3 rfl inb_S12x128x128_S1x128x128_3_0_0, ← read_row arg10 f10 3 rfl inb_S12x128_S1x128_3_0, ← read_plane arg11 f11 3 rfl inb_S12x128x128_S1x128x128_3_0_0, ← read_row arg12 f12 3 rfl inb_S12x128_S1x128_3_0, ← read_plane arg13 f13 3 rfl inb_S12x128x128_S1x128x128_3_0_0, ← read_row arg14 f14 3 rfl inb_S12x128_S1x128_3_0, ← read_outw arg15 f15 3 rfl inb_S128x12_S128x1_0_3, ← read_outb arg16 f16 3 rfl inb_S1x12_S1x1_0_3]
      rfl
    · unfold headCol; sl_unfold_run_names
      rw [← read_cols arg18 f18 4 rfl inb_S2024x1536_S2000x128_0_512, ← read_plane arg9 f9 4 rfl inb_S12x128x128_S1x128x128_4_0_0, ← read_row arg10 f10 4 rfl inb_S12x128_S1x128_4_0, ← read_plane arg11 f11 4 rfl inb_S12x128x128_S1x128x128_4_0_0, ← read_row arg12 f12 4 rfl inb_S12x128_S1x128_4_0, ← read_plane arg13 f13 4 rfl inb_S12x128x128_S1x128x128_4_0_0, ← read_row arg14 f14 4 rfl inb_S12x128_S1x128_4_0, ← read_outw arg15 f15 4 rfl inb_S128x12_S128x1_0_4, ← read_outb arg16 f16 4 rfl inb_S1x12_S1x1_0_4]
      rfl
    · unfold headCol; sl_unfold_run_names
      rw [← read_cols arg18 f18 5 rfl inb_S2024x1536_S2000x128_0_640, ← read_plane arg9 f9 5 rfl inb_S12x128x128_S1x128x128_5_0_0, ← read_row arg10 f10 5 rfl inb_S12x128_S1x128_5_0, ← read_plane arg11 f11 5 rfl inb_S12x128x128_S1x128x128_5_0_0, ← read_row arg12 f12 5 rfl inb_S12x128_S1x128_5_0, ← read_plane arg13 f13 5 rfl inb_S12x128x128_S1x128x128_5_0_0, ← read_row arg14 f14 5 rfl inb_S12x128_S1x128_5_0, ← read_outw arg15 f15 5 rfl inb_S128x12_S128x1_0_5, ← read_outb arg16 f16 5 rfl inb_S1x12_S1x1_0_5]
      rfl
    · unfold headCol; sl_unfold_run_names
      rw [← read_cols arg18 f18 6 rfl inb_S2024x1536_S2000x128_0_768, ← read_plane arg9 f9 6 rfl inb_S12x128x128_S1x128x128_6_0_0, ← read_row arg10 f10 6 rfl inb_S12x128_S1x128_6_0, ← read_plane arg11 f11 6 rfl inb_S12x128x128_S1x128x128_6_0_0, ← read_row arg12 f12 6 rfl inb_S12x128_S1x128_6_0, ← read_plane arg13 f13 6 rfl inb_S12x128x128_S1x128x128_6_0_0, ← read_row arg14 f14 6 rfl inb_S12x128_S1x128_6_0, ← read_outw arg15 f15 6 rfl inb_S128x12_S128x1_0_6, ← read_outb arg16 f16 6 rfl inb_S1x12_S1x1_0_6]
      rfl
    · unfold headCol; sl_unfold_run_names
      rw [← read_cols arg18 f18 7 rfl inb_S2024x1536_S2000x128_0_896, ← read_plane arg9 f9 7 rfl inb_S12x128x128_S1x128x128_7_0_0, ← read_row arg10 f10 7 rfl inb_S12x128_S1x128_7_0, ← read_plane arg11 f11 7 rfl inb_S12x128x128_S1x128x128_7_0_0, ← read_row arg12 f12 7 rfl inb_S12x128_S1x128_7_0, ← read_plane arg13 f13 7 rfl inb_S12x128x128_S1x128x128_7_0_0, ← read_row arg14 f14 7 rfl inb_S12x128_S1x128_7_0, ← read_outw arg15 f15 7 rfl inb_S128x12_S128x1_0_7, ← read_outb arg16 f16 7 rfl inb_S1x12_S1x1_0_7]
      rfl
    · unfold headCol; sl_unfold_run_names
      rw [← read_cols arg18 f18 8 rfl inb_S2024x1536_S2000x128_0_1024, ← read_plane arg9 f9 8 rfl inb_S12x128x128_S1x128x128_8_0_0, ← read_row arg10 f10 8 rfl inb_S12x128_S1x128_8_0, ← read_plane arg11 f11 8 rfl inb_S12x128x128_S1x128x128_8_0_0, ← read_row arg12 f12 8 rfl inb_S12x128_S1x128_8_0, ← read_plane arg13 f13 8 rfl inb_S12x128x128_S1x128x128_8_0_0, ← read_row arg14 f14 8 rfl inb_S12x128_S1x128_8_0, ← read_outw arg15 f15 8 rfl inb_S128x12_S128x1_0_8, ← read_outb arg16 f16 8 rfl inb_S1x12_S1x1_0_8]
      rfl
    · unfold headCol; sl_unfold_run_names
      rw [← read_cols arg18 f18 9 rfl inb_S2024x1536_S2000x128_0_1152, ← read_plane arg9 f9 9 rfl inb_S12x128x128_S1x128x128_9_0_0, ← read_row arg10 f10 9 rfl inb_S12x128_S1x128_9_0, ← read_plane arg11 f11 9 rfl inb_S12x128x128_S1x128x128_9_0_0, ← read_row arg12 f12 9 rfl inb_S12x128_S1x128_9_0, ← read_plane arg13 f13 9 rfl inb_S12x128x128_S1x128x128_9_0_0, ← read_row arg14 f14 9 rfl inb_S12x128_S1x128_9_0, ← read_outw arg15 f15 9 rfl inb_S128x12_S128x1_0_9, ← read_outb arg16 f16 9 rfl inb_S1x12_S1x1_0_9]
      rfl
    · unfold headCol; sl_unfold_run_names
      rw [← read_cols arg18 f18 10 rfl inb_S2024x1536_S2000x128_0_1280, ← read_plane arg9 f9 10 rfl inb_S12x128x128_S1x128x128_10_0_0, ← read_row arg10 f10 10 rfl inb_S12x128_S1x128_10_0, ← read_plane arg11 f11 10 rfl inb_S12x128x128_S1x128x128_10_0_0, ← read_row arg12 f12 10 rfl inb_S12x128_S1x128_10_0, ← read_plane arg13 f13 10 rfl inb_S12x128x128_S1x128x128_10_0_0, ← read_row arg14 f14 10 rfl inb_S12x128_S1x128_10_0, ← read_outw arg15 f15 10 rfl inb_S128x12_S128x1_0_10, ← read_outb arg16 f16 10 rfl inb_S1x12_S1x1_0_10]
      rfl
    · unfold headCol; sl_unfold_run_names
      rw [← read_cols arg18 f18 11 rfl inb_S2024x1536_S2000x128_0_1408, ← read_plane arg9 f9 11 rfl inb_S12x128x128_S1x128x128_11_0_0, ← read_row arg10 f10 11 rfl inb_S12x128_S1x128_11_0, ← read_plane arg11 f11 11 rfl inb_S12x128x128_S1x128x128_11_0_0, ← read_row arg12 f12 11 rfl inb_S12x128_S1x128_11_0, ← read_plane arg13 f13 11 rfl inb_S12x128x128_S1x128x128_11_0_0, ← read_row arg14 f14 11 rfl inb_S12x128_S1x128_11_0, ← read_outw arg15 f15 11 rfl inb_S128x12_S128x1_0_11, ← read_outb arg16 f16 11 rfl inb_S1x12_S1x1_0_11]
      rfl
  iexists _; isplitr; swap; · iexact H18
  ipureintro; rfl

end Cert.Proof.KernelIdeal

end
-- ==== Proof.PointIdeal.lean ====
/-
  The body at a grid point, whole.
-/
module

public import proofs.«01_k».proof.Proof.BodyIdeal
public import proofs.«01_k».proof.Proof.HeadsIdeal
public import proofs.«01_k».proof.Proof.Gen.KernelIdeal.Skeleton
public import proofs.«01_k».proof.Proof.Gen.KernelIdeal.Loops
public import proofs.«01_k».proof.Proof.Gen.KernelIdeal.Launch
public import Idealize.ShloMosaic.Lib.Pipeline.Frame
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the launch. -/
local notation "𝕄" => MT nD τ sig Unit (Elt F) ℕ (UR sig nD τ) ℕ

variable (c : Dev nD) (i : grid0.Coords)
  (arg1 : Memref sig .tc .smem S392 .i32) (harg1 : arg1.IsWhole) (arg2 : Memref sig .tc .smem S2560 .i32) (harg2 : arg2.IsWhole)
  (arg3 : Memref sig .tc .smem S391 .i32) (harg3 : arg3.IsWhole) (arg4 : Memref sig .tc .smem S391 .i32) (harg4 : arg4.IsWhole)
  (arg5 : Memref sig .tc .vmem S256x128 .f32) (harg5 : arg5.IsWhole) (arg6 : Memref sig .tc .vmem S1x1x256 .i32) (harg6 : arg6.IsWhole)
  (arg7 : Memref sig .tc .vmem S128x16 .f32) (harg7 : arg7.IsWhole) (arg8 : Memref sig .tc .vmem S1x16 .f32) (harg8 : arg8.IsWhole)
  (arg9 : Memref sig .tc .vmem S12x128x128 .f32) (harg9 : arg9.IsWhole) (arg10 : Memref sig .tc .vmem S12x128 .f32) (harg10 : arg10.IsWhole)
  (arg11 : Memref sig .tc .vmem S12x128x128 .f32) (harg11 : arg11.IsWhole) (arg12 : Memref sig .tc .vmem S12x128 .f32) (harg12 : arg12.IsWhole)
  (arg13 : Memref sig .tc .vmem S12x128x128 .f32) (harg13 : arg13.IsWhole) (arg14 : Memref sig .tc .vmem S12x128 .f32) (harg14 : arg14.IsWhole)
  (arg15 : Memref sig .tc .vmem S128x12 .f32) (harg15 : arg15.IsWhole) (arg16 : Memref sig .tc .vmem S1x12 .f32) (harg16 : arg16.IsWhole)
  (arg17 : Memref sig .tc .vmem S2000x12 .f32) (harg17 : arg17.IsWhole) (arg18 : Memref sig .tc .vmem S2024x1536 .f32) (harg18 : arg18.IsWhole)
  (arg19 : Memref sig .tc .vmem S256x1536 .f32) (harg19 : arg19.IsWhole)

/-- What the output's buffer holds after the point: the heads' output at the last, what it held before at the others. -/
def outAt (i : grid0.Coords) (M : Vec F S2024x1536 .f32) (X9 : Vec F S12x128x128 .f32) (X10 : Vec F S12x128 .f32) (X11 : Vec F S12x128x128 .f32)
    (X12 : Vec F S12x128 .f32) (X13 : Vec F S12x128x128 .f32) (X14 : Vec F S12x128 .f32) (X15 : Vec F S128x12 .f32) (X16 : Vec F S1x12 .f32)
    (O₀ : Vec F S2000x12 .f32) : Vec F S2000x12 .f32 :=
  if (i 0).val = 390 then headsOut M X9 X10 X11 X12 X13 X14 X15 X16 else O₀

/-- The heads, if the point is the last. -/
theorem tail_run (X9 : Vec F S12x128x128 .f32) (X10 : Vec F S12x128 .f32) (X11 : Vec F S12x128x128 .f32)
    (X12 : Vec F S12x128 .f32) (X13 : Vec F S12x128x128 .f32) (X14 : Vec F S12x128 .f32) (X15 : Vec F S128x12 .f32) (X16 : Vec F S1x12 .f32)
    (O₀ : Vec F S2000x12 .f32) (M : Vec F S2024x1536 .f32) :
    (iprop(owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16
        ∗ owns (c : Thread nD τ) arg17 fullShare O₀ ∗ owns (c : Thread nD τ) arg18 fullShare M) : sProp 𝕄)
      ⊢ wp frame (wpE (defs₀ (F := F)) Variants.none c none) Set.univ
        (if _h : k0_cond4 i = 1#1 then do
            k0_part13 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
            Pure.pure PUnit.unit
          else Pure.pure PUnit.unit)
        (fun _ => iprop(owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16
          ∗ owns (c : Thread nD τ) arg17 fullShare (outAt i M X9 X10 X11 X12 X13 X14 X15 X16 O₀) ∗ owns (c : Thread nD τ) arg18 fullShare M)) := by
  by_cases h4 : k0_cond4 i = 1#1
  · rw [dif_pos h4, wp_bind]
    iintro H
    iapply (wp_wand_r Idealize.ShloMosaic.frame (wpE (defs₀ (F := F)) Variants.none (c : Thread nD τ) none) Set.univ)
    isplitl [H]
    · iapply (heads_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X9 X10 X11 X12 X13 X14 X15 X16 O₀ M); iexact H
    iintro %r H
    sl_step
    unfold outAt; rw [if_pos ((cond4_iff i).1 h4)]
    iexact H
  · rw [dif_neg h4]
    iintro H
    sl_step
    unfold outAt; rw [if_neg (fun h => h4 ((cond4_iff i).2 h))]
    iexact H

set_option maxHeartbeats 4000000 in
/-- The body's run: the accumulator after the point, the block's sums, and the output at the last point. -/
theorem body_run (q : PosShare TreeShare) (T1 : S392.Idx → BitVec 32) (T2 : S2560.Idx → BitVec 32) (T3 T4 : S391.Idx → BitVec 32)
    (hT : TablesOk T1 T2 T3 T4) (X : Vec F S256x128 .f32) (R : Vec F S1x1x256 .i32) (A : Vec F S128x16 .f32) (B : Vec F S1x16 .f32)
    (X9 : Vec F S12x128x128 .f32) (X10 : Vec F S12x128 .f32) (X11 : Vec F S12x128x128 .f32)
    (X12 : Vec F S12x128 .f32) (X13 : Vec F S12x128x128 .f32) (X14 : Vec F S12x128 .f32) (X15 : Vec F S128x12 .f32) (X16 : Vec F S1x12 .f32)
    (O₀ : Vec F S2000x12 .f32) (M : Vec F S2024x1536 .f32) (C₀ : Vec F S256x1536 .f32) :
    (iprop(owns (c : Thread nD τ) arg1 q T1 ∗ owns (c : Thread nD τ) arg2 q T2 ∗ owns (c : Thread nD τ) arg3 q T3 ∗ owns (c : Thread nD τ) arg4 q T4 ∗ owns (c : Thread nD τ) arg5 fullShare X ∗ owns (c : Thread nD τ) arg6 fullShare R ∗ owns (c : Thread nD τ) arg7 fullShare A ∗ owns (c : Thread nD τ) arg8 fullShare B ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare O₀ ∗ owns (c : Thread nD τ) arg18 fullShare M ∗ owns (c : Thread nD τ) arg19 fullShare C₀) : sProp 𝕄)
      ⊢ wp frame (wpE (defs₀ (F := F)) Variants.none c none) Set.univ (cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
        (fun _ => iprop(owns (c : Thread nD τ) arg1 q T1 ∗ owns (c : Thread nD τ) arg2 q T2 ∗ owns (c : Thread nD τ) arg3 q T3 ∗ owns (c : Thread nD τ) arg4 q T4 ∗ owns (c : Thread nD τ) arg5 fullShare X ∗ owns (c : Thread nD τ) arg6 fullShare R ∗ owns (c : Thread nD τ) arg7 fullShare A ∗ owns (c : Thread nD τ) arg8 fullShare B ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare (outAt i (stepMol i T1 T2 T3 T4 (cVal i X A B R) M) X9 X10 X11 X12 X13 X14 X15 X16 O₀) ∗ owns (c : Thread nD τ) arg18 fullShare (stepMol i T1 T2 T3 T4 (cVal i X A B R) M) ∗ owns (c : Thread nD τ) arg19 fullShare (cVal i X A B R))) := by
  simp only [cc0__body_eq_skeleton]; unfold cc0__body_skel
  iintro ⟨H1, H2, H3, H4, H5, H6, H7, H8, H9, H10, H11, H12, H13, H14, H15, H16, H17, H18, H19⟩
  rw [wp_bind]
  iapply (wp_wand_r Idealize.ShloMosaic.frame (wpE (defs₀ (F := F)) Variants.none (c : Thread nD τ) none) Set.univ)
  isplitl [H5 H7 H8 H18]
  · iapply (part14_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X A B M)
    isplitl [H5]; · iexact H5
    isplitl [H7]; · iexact H7
    isplitl [H8]; · iexact H8
    iexact H18
  iintro %r ⟨%hr, H5, H7, H8, H18⟩
  subst hr
  dsimp only
  rw [wp_bind]
  iapply (wp_wand_r Idealize.ShloMosaic.frame (wpE (defs₀ (F := F)) Variants.none (c : Thread nD τ) none) Set.univ)
  isplitl [H1 H3 H4 H6 H18 H19]
  · iapply (part15_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 q _ _ _ _ _ _ _ _ _ T1 T2 T3 T4 hT R (cleared i M) C₀)
    isplitl [H1]; · iexact H1
    isplitl [H3]; · iexact H3
    isplitl [H4]; · iexact H4
    isplitl [H6]; · iexact H6
    isplitl [H18]; · iexact H18
    iexact H19
  iintro %r ⟨%hr, H1, H3, H4, H6, H18, H19⟩
  obtain ⟨v80, v83, v84, v91, hw2⟩ := r
  obtain ⟨rfl, rfl, rfl⟩ := hr
  dsimp only
  change k0_chk2 (lo i T1) (hi i T1) (at391 i T3) at hw2
  by_cases h3 : k0_cond3 (at391 i T3) = 1#1
  · have e3 : at391 i T3 = 0#32 := (cond3_iff _).1 h3
    rw [dif_pos h3]
    sl_for (fun k _ => inv1 c arg2 arg18 arg19 (lo i T1) q T2 (cVal i X A B R) (fastMol i T3 T4 (cVal i X A B R) (cleared i M)) k) $$ [H2 H18 H19]
    · intro k acc
      exact trip1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (lo i T1) (hi i T1) (at391 i T3) hw2 h3 q T2 _ _ (hT.asc i) (hT.fits i) (hT.rows i) hT.graph k acc
    · unfold inv1
      isplitl [H2]; · iexact H2
      isplitl [H18]; · iexact H18
      iexact H19
    iintro %acc HI
    have eM : stepMol i T1 T2 T3 T4 (cVal i X A B R) M
        = slotRows T2 (lo i T1).toNat (cVal i X A B R) (k0_t1_loop (lo i T1) (hi i T1)).trips (fastMol i T3 T4 (cVal i X A B R) (cleared i M)) := by
      unfold stepMol slowMol; rw [if_pos e3, trips1_eq (hT.asc i) (hT.fits i)]
    irw [eM]
    unfold inv1
    icases HI with ⟨H2, H18, H19⟩
    sl_for (fun _ _ => owns (c : Thread nD τ) arg2 q T2) $$ [H2]
    · intro k acc
      have hk : k.val < 0 := lt_of_lt_of_eq k.isLt (trips2_eq (lo i T1) (hi i T1))
      exact absurd hk (Nat.not_lt_zero _)
    · iexact H2
    iintro %acc' H2
    iapply (wp_wand_r Idealize.ShloMosaic.frame (wpE (defs₀ (F := F)) Variants.none (c : Thread nD τ) none) Set.univ)
    isplitl [H9 H10 H11 H12 H13 H14 H15 H16 H17 H18]
    · iapply (tail_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X9 X10 X11 X12 X13 X14 X15 X16 O₀ _)
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    iintro %r ⟨H9, H10, H11, H12, H13, H14, H15, H16, H17, H18⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  · rw [dif_neg h3]
    have e3 : ¬ at391 i T3 = 0#32 := fun h => h3 ((cond3_iff _).2 h)
    have eM : stepMol i T1 T2 T3 T4 (cVal i X A B R) M = fastMol i T3 T4 (cVal i X A B R) (cleared i M) := by
      unfold stepMol slowMol; rw [if_neg e3]
    rw [eM]
    iapply (wp_wand_r Idealize.ShloMosaic.frame (wpE (defs₀ (F := F)) Variants.none (c : Thread nD τ) none) Set.univ)
    isplitl [H9 H10 H11 H12 H13 H14 H15 H16 H17 H18]
    · iapply (tail_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X9 X10 X11 X12 X13 X14 X15 X16 O₀ _)
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    iintro %r ⟨H9, H10, H11, H12, H13, H14, H15, H16, H17, H18⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19

end Cert.Proof.KernelIdeal

end
-- ==== Proof.RunIdeal.lean ====
/-
  The launch: the contents of every buffer where the region begins, the pipeline's proof data (the accumulator carried from
  point to point by `stepMol`), the body obligation from `body_run`, and the run of the program.
-/
module

public import proofs.«01_k».proof.Proof.PointIdeal
public import Idealize.ShloMosaic.Lib.StableHlo.Run
public import Idealize.ShloMosaic.Lib.Pipeline.Frame
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.ShloMosaic.Pipeline (Dat Cfg Window BodyObligation BodyObligationLoose)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the launch. -/
local notation "𝕄" => MT nD τ sig Unit (Elt F) ℕ (UR sig nD τ) ℕ

variable (m : (ℓ : Loc nD τ sig) → Buf (Elt F) ℓ) (ρ : Dev nD → PrngReg)

/-- The host operations before the region, by stretch. -/
abbrev lines : List (List (HloOp τ sig (Elt F))) :=
  [hostOps0, hostOps0_1, hostOps0_2, hostOps0_3, hostOps0_4, hostOps0_5, hostOps0_6, hostOps0_7, hostOps0_8, hostOps0_9, hostOps0_10,
    hostOps0_11, hostOps0_12, hostOps0_13, hostOps0_14]

/-- What every buffer holds where the region begins. -/
def V (c : Dev nD) (b : Ref sig .tc) : Buf (Elt F) ((c : Thread nD τ).loc b) :=
  StableHlo.after lines.flatten (fun b => m (c, b)) b

/-- The prefetched tables' contents at the region, which are always admissible. -/
def adm (_ : Fin 1) : (pcfg0 (F := F)).Adm := ⟨fun k => V m 0 (pre0.ref k), trivial⟩

/-- The pipeline at those contents. -/
abbrev cfg : Cfg sig Λ₀ := Pipeline.pin (pcfgs (F := F)) (adm m) 0

/-- Window `w`'s staging buffer at point `t`. -/
abbrev st (w : Fin 13) (t : Fin grid0.N) := (spec0 w).stage ((cfg m).slots t w)

/-- A filler for the part of a staging buffer that no fetch reaches. -/
def spare (w : Fin 13) : ((cfg m).win w).block.Idx → Elt F ((cfg m).win w).elt := fun _ => Classical.choice inferInstance

/-- Window `w`'s block at point `t`, off its array as the region finds it. -/
def blk (c : Dev nD) (w : Fin 13) (t : Fin grid0.N) : ((cfg m).win w).block.Idx → Elt F ((cfg m).win w).elt :=
  ((cfg m).win w).fill (grid0.coords t) (spare m w) ((((cfg m).win w).blk t).view.read (Elt F) (V m c (Pipeline.arrRef spec0 w)))

/-- The four tables. -/
abbrev tab1 : S392.Idx → BitVec 32 := V m 0 main_v20
abbrev tab2 : S2560.Idx → BitVec 32 := V m 0 main_v41
abbrev tab3 : S391.Idx → BitVec 32 := V m 0 main_v77
abbrev tab4 : S391.Idx → BitVec 32 := V m 0 main_v93

/-- The block's sums by slot at point `t`. -/
def cAt (c : Dev nD) (t : Fin grid0.N) : Vec F S256x1536 .f32 :=
  cVal (grid0.coords t) (blk m c 0 t) (blk m c 2 t) (blk m c 3 t) (blk m c 1 t)

/-- The accumulator before point `n`: cleared, then one step a point. -/
def molAt (c : Dev nD) : ℕ → Vec F S2024x1536 .f32
  | 0 => k0_pay30 (F := F)
  | n + 1 => if h : n < grid0.N then stepMol (grid0.coords ⟨n, h⟩) (tab1 m) (tab2 m) (tab3 m) (tab4 m) (cAt m c ⟨n, h⟩) (molAt c n) else molAt c n

/-- The twelve heads of the last accumulator. -/
def outVal (c : Dev nD) (t : Fin grid0.N) : Vec F S2000x12 .f32 :=
  headsOut (molAt m c 391) (blk m c 4 t) (blk m c 5 t) (blk m c 6 t) (blk m c 7 t) (blk m c 8 t) (blk m c 9 t) (blk m c 10 t) (blk m c 11 t)

/-- What is held between points: the accumulator (after the first point at `molAt`), the block's sums and the generator's
    register at any contents, and the tables' half for the body. -/
def Inv (c : Dev nD) (n : ℕ) : sProp 𝕄 :=
  iprop((∃ M : Vec F S2024x1536 .f32, ⌜n ≠ 0 → M = molAt m c n⌝ ∗ owns (c : Thread nD τ) (Memref.whole cc0_scratch0) fullShare M)
    ∗ (∃ C : Vec F S256x1536 .f32, owns (c : Thread nD τ) (Memref.whole cc0_scratch1) fullShare C) ∗ (∃ r, prngReg c r)
    ∗ (owns (c : Thread nD τ) (Memref.whole main_v20) fullShare.right (tab1 m) ∗ owns (c : Thread nD τ) (Memref.whole main_v41) fullShare.right (tab2 m)
      ∗ owns (c : Thread nD τ) (Memref.whole main_v77) fullShare.right (tab3 m) ∗ owns (c : Thread nD τ) (Memref.whole main_v93) fullShare.right (tab4 m)))

/-- The proof data: the arrays as the region finds them, every input left at its block, the output at the heads. -/
def dats (p : Fin 1) (c : Dev nD) : Dat τ (Elt F) Unit ℕ (UR sig nD τ) ℕ (Pipeline.pin (pcfgs (F := F)) (adm m) p) c where
  A w := V m c (Pipeline.arrRef spec0 w)
  after w t := if h : w = (12 : Fin 13) then h ▸ outVal m c t else blk m c w t
  Φ t := Inv m c t.val
  q _ := fullShare
  owed _ := 0

theorem after_in (c : Dev nD) (w : Fin 13) (hw : w ≠ 12) (t : Fin grid0.N) : (dats m 0 c).after w t = blk m c w t := dif_neg hw
theorem after_out (c : Dev nD) (t : Fin grid0.N) : (dats m 0 c).after (12 : Fin 13) t = outVal m c t := by
  unfold dats; dsimp only; exact (dif_pos (c := (12 : Fin 13) = 12) rfl :)

/-- Every staging buffer is a whole buffer. -/
theorem hst (w : Fin 13) (t : Fin grid0.N) : (st m w t).IsWhole := hstage0 w _

/-- An input's staging buffer holds, when the body runs, its block filled over what was there. -/
theorem before_in (c : Dev nD) (w : Fin 13) (hw : w ≠ 12) (ho : ((cfg m).win w).isOut = false) (hi : ∀ i, (cfg m).idle w i = false)
    (hclip : ∀ t t' : Fin grid0.N, ((cfg m).win w).index t = ((cfg m).win w).index t' → ((cfg m).win w).clip (grid0.coords t) = ((cfg m).win w).clip (grid0.coords t'))
    (t : Fin grid0.N) (d) :
    (dats m 0 c).before w t d = ((cfg m).win w).fill (grid0.coords t) d ((((cfg m).win w).blk t).view.read (Elt F) (V m c (Pipeline.arrRef spec0 w))) :=
  (dats m 0 c).before_in_eq_fetched w ho hi hclip
    (fun t => by
      rw [after_in m c w hw t]; unfold blk
      exact ((cfg m).win w).cut_fill _ _ _) t d

/-- For a window that no transfer cuts this is its block. -/
theorem before_whole (c : Dev nD) (w : Fin 13) (hw : w ≠ 12) (ho : ((cfg m).win w).isOut = false) (hi : ∀ i, (cfg m).idle w i = false)
    (hclip : ∀ (i : grid0.Coords) a, ((cfg m).win w).clip i a = none) (t : Fin grid0.N) (d) : (dats m 0 c).before w t d = blk m c w t := by
  rw [before_in m c w hw ho hi (fun t t' _ => funext fun a => (hclip _ a).trans (hclip _ a).symm) t d]
  unfold blk
  funext j
  have hm : ((cfg m).win w).moved (grid0.coords t) j = true :=
    (((cfg m).win w).moved_iff _ j).mpr fun a => by
      have e : ((cfg m).win w).xsize (grid0.coords t) a = ((cfg m).win w).size a := by unfold Pipeline.Window.xsize; rw [hclip]
      rw [e]; exact (j a).isLt
  unfold Pipeline.Window.fill
  rw [dif_pos hm, dif_pos hm]

/-- The point's coordinate is the point. -/
theorem coord_val (t : Fin grid0.N) : (grid0.coords t 0).val = t.val := by
  have h : t.val < 391 := lt_of_lt_of_eq t.isLt N_0
  rw [Pipeline.Grid.coords_val t 0 (S := 1) (B := 391) (by decide) rfl]; omega

/-- The block's sums read only the rows of the nodes: the others are masked. -/
theorem cVal_congr (i : grid0.Coords) (X X' : Vec F S256x128 .f32) (A : Vec F S128x16 .f32) (B : Vec F S1x16 .f32) (R : Vec F S1x1x256 .i32)
    (h : ∀ y : S256x128.Idx, 256 * (i 0).val + (y 0).val < 100000 → X y = X' y) : cVal i X A B R = cVal i X' A B R := by
  have e : k0_pay32 i X = k0_pay32 i X' := by
    funext y
    have hi : (i 0).val < 391 := (i 0).isLt
    have hy : (y 0).val < 256 := (y 0).isLt
    by_cases hr : 256 * (i 0).val + (y 0).val < 100000
    · unfold k0_pay32; simp only [select]; rw [h y hr]
    · have hm : (BitVec.ofNat 32 (i 0).val * 256#32 + BitVec.ofNat 32 (y 0).val).slt 100000#32 = false := by
        rw [BitVec.slt_eq_decide, decide_eq_false_iff_not]
        have e1 : (BitVec.ofNat 32 (i 0).val * 256#32 + BitVec.ofNat 32 (y 0).val) = BitVec.ofNat 32 (256 * (i 0).val + (y 0).val) := by
          apply BitVec.eq_of_toNat_eq; simp [BitVec.toNat_add, BitVec.toNat_mul, BitVec.toNat_ofNat]; omega
        rw [e1, BitVec.toInt_eq_toNat_of_lt (by rw [BitVec.toNat_ofNat]; omega), BitVec.toNat_ofNat]
        have : (100000#32 : BitVec 32).toInt = 100000 := by decide
        rw [this]; omega
      unfold k0_pay32 k0_pay31
      rw [shapeCast_self]
      simp only [select, broadcastTo, cmpi, addi, broadcast]
      have hc : ∀ u v : F .f32, Scalar.select (BitVec.ofBool ((BitVec.ofNat 32 (i 0).val * 256#32 + BitVec.ofNat 32 (0 * 256 + (y 0).val)).slt 100000#32)) u v = v := by
        intro u v
        rw [show 0 * 256 + (y 0).val = (y 0).val by omega, hm]; rfl
      exact (hc _ _).trans (hc _ _).symm
  unfold cVal k0_pay33 k0_pay34 k0_pay35 k0_pay36 k0_pay37 k0_pay38 k0_pay39
  simp only [k0_pay33, e]

/-- The output is stored at the last point and nowhere else, and written back there and nowhere else. -/
theorem idle_out (t : Fin grid0.N) : (cfg m).idle (12 : Fin 13) (grid0.coords t) = !decide (t.val = 390) := by
  show (!(k0_cond4 (grid0.coords t) == 1#1)) = _
  have := cond4_iff (grid0.coords t)
  rw [coord_val] at this
  by_cases h : t.val = 390
  · rw [this.2 h]; simp [h]
  · have h' : ¬ (k0_cond4 (grid0.coords t) = 1#1) := fun e => h (this.1 e)
    simp [h, h']
theorem flush_out (t : Fin grid0.N) (h : t.val ≠ 390) : ((cfg m).win (12 : Fin 13)).flush t = false := by
  have hN := N_0
  have ht := t.isLt
  unfold Pipeline.Window.flush
  have h1 : ¬ (t.val + 1 = grid0.N) := by omega
  have h2 : ¬ (∃ h : t.val + 1 < grid0.N, ((cfg m).win (12 : Fin 13)).index ⟨t.val + 1, h⟩ ≠ ((cfg m).win (12 : Fin 13)).index t) := by
    rintro ⟨_, hne⟩; exact hne rfl
  simp [h1, h2]

/-- What the body is called with at point `t`, window by window, -/
def bodyPre (c : Dev nD) (t : Fin grid0.N) : sProp 𝕄 :=
  iprop((dats m 0 c).Φ t.castSucc ∗ (dats m 0 c).owesAt () t.castSucc
    ∗ (∃ d, owns (c : Thread nD τ) (st m 0 t) fullShare ((dats m 0 c).before 0 t d))
    ∗ (∃ d, owns (c : Thread nD τ) (st m 1 t) fullShare ((dats m 0 c).before 1 t d))
    ∗ (∃ d, owns (c : Thread nD τ) (st m 2 t) fullShare ((dats m 0 c).before 2 t d))
    ∗ (∃ d, owns (c : Thread nD τ) (st m 3 t) fullShare ((dats m 0 c).before 3 t d))
    ∗ (∃ d, owns (c : Thread nD τ) (st m 4 t) fullShare ((dats m 0 c).before 4 t d))
    ∗ (∃ d, owns (c : Thread nD τ) (st m 5 t) fullShare ((dats m 0 c).before 5 t d))
    ∗ (∃ d, owns (c : Thread nD τ) (st m 6 t) fullShare ((dats m 0 c).before 6 t d))
    ∗ (∃ d, owns (c : Thread nD τ) (st m 7 t) fullShare ((dats m 0 c).before 7 t d))
    ∗ (∃ d, owns (c : Thread nD τ) (st m 8 t) fullShare ((dats m 0 c).before 8 t d))
    ∗ (∃ d, owns (c : Thread nD τ) (st m 9 t) fullShare ((dats m 0 c).before 9 t d))
    ∗ (∃ d, owns (c : Thread nD τ) (st m 10 t) fullShare ((dats m 0 c).before 10 t d))
    ∗ (∃ d, owns (c : Thread nD τ) (st m 11 t) fullShare ((dats m 0 c).before 11 t d))
    ∗ (∃ d, owns (c : Thread nD τ) (st m 12 t) fullShare ((dats m 0 c).before 12 t d)))
/-- what it leaves in the output's buffer, -/
def outPost (c : Dev nD) (t : Fin grid0.N) : sProp 𝕄 :=
  if t.val = 390 then owns (c : Thread nD τ) (st m 12 t) fullShare ((dats m 0 c).after (12 : Fin 13) t)
  else iprop(∃ d, owns (c : Thread nD τ) (st m 12 t) fullShare ((dats m 0 c).before (12 : Fin 13) t d))
/-- and what it returns. -/
def bodyPost (c : Dev nD) (t : Fin grid0.N) : sProp 𝕄 :=
  iprop((dats m 0 c).Φ t.succ ∗ (dats m 0 c).owesAt () t.succ
    ∗ (∃ d, owns (c : Thread nD τ) (st m 0 t) fullShare (((cfg m).win 0).fill (grid0.coords t) d (((cfg m).win 0).cut (grid0.coords t) ((dats m 0 c).after 0 t))))
    ∗ owns (c : Thread nD τ) (st m 1 t) fullShare ((dats m 0 c).after 1 t)
    ∗ owns (c : Thread nD τ) (st m 2 t) fullShare ((dats m 0 c).after 2 t)
    ∗ owns (c : Thread nD τ) (st m 3 t) fullShare ((dats m 0 c).after 3 t)
    ∗ owns (c : Thread nD τ) (st m 4 t) fullShare ((dats m 0 c).after 4 t)
    ∗ owns (c : Thread nD τ) (st m 5 t) fullShare ((dats m 0 c).after 5 t)
    ∗ owns (c : Thread nD τ) (st m 6 t) fullShare ((dats m 0 c).after 6 t)
    ∗ owns (c : Thread nD τ) (st m 7 t) fullShare ((dats m 0 c).after 7 t)
    ∗ owns (c : Thread nD τ) (st m 8 t) fullShare ((dats m 0 c).after 8 t)
    ∗ owns (c : Thread nD τ) (st m 9 t) fullShare ((dats m 0 c).after 9 t)
    ∗ owns (c : Thread nD τ) (st m 10 t) fullShare ((dats m 0 c).after 10 t)
    ∗ owns (c : Thread nD τ) (st m 11 t) fullShare ((dats m 0 c).after 11 t)
    ∗ outPost m c t)

/-- The body at point `t`, on its memrefs. -/
def bodyAt (t : Fin grid0.N) : Prog (TpuEff nD τ sig (Elt F) Λ₀ .tc) PUnit :=
  cc0__body (F := F) (grid0.coords t) (Memref.whole main_v20) (Memref.isWhole_whole _) (Memref.whole main_v41) (Memref.isWhole_whole _) (Memref.whole main_v77) (Memref.isWhole_whole _) (Memref.whole main_v93) (Memref.isWhole_whole _) (st m 0 t) (hst m 0 t) (st m 1 t) (hst m 1 t) (st m 2 t) (hst m 2 t) (st m 3 t) (hst m 3 t) (st m 4 t) (hst m 4 t) (st m 5 t) (hst m 5 t) (st m 6 t) (hst m 6 t) (st m 7 t) (hst m 7 t) (st m 8 t) (hst m 8 t) (st m 9 t) (hst m 9 t) (st m 10 t) (hst m 10 t) (st m 11 t) (hst m 11 t) (st m 12 t) (hst m 12 t) (Memref.whole cc0_scratch0) (Memref.isWhole_whole _) (Memref.whole cc0_scratch1) (Memref.isWhole_whole _)

theorem defs₀_row (t : Fin grid0.N) : defs₀ (F := F) .tc (cfg m).body ((cfg m).bodyArgs t ((cfg m).slots t)) = bodyAt m t := by
  unfold defs₀; rw [Defs.onTc_tc]; rfl

/-- Where a fetch fills a buffer, what was there before does not matter. -/
theorem fill_of_moved {G : Pipeline.Grid} (W : Window sig G) {α : Type} (i : G.Coords) (d d' : W.block.Idx → α) (g : (W.xblock i).Idx → α)
    (y : W.block.Idx) (h : W.moved i y = true) : W.fill i d g y = W.fill i d' g y := by
  unfold Pipeline.Window.fill; rw [dif_pos h, dif_pos h]

/-- A buffer owned at equal contents. -/
theorem owns_of_eq {sp : Space} {s : Shape} {e : EltTy} (c : Dev nD) (M : Memref sig .tc sp s e) {X Y : s.Idx → Elt F e} (h : X = Y) :
    (owns (c : Thread nD τ) M fullShare X : sProp 𝕄) ⊢ owns (c : Thread nD τ) M fullShare Y := h ▸ .rfl

/-- The rows of the nodes in the block's buffer, whatever the rest of the buffer holds. -/
theorem rows_of_nodes (c : Dev nD) (t : Fin grid0.N) (d : ((cfg m).win 0).block.Idx → Elt F ((cfg m).win 0).elt) (y : S256x128.Idx)
    (h : 256 * (grid0.coords t 0).val + (y 0).val < 100000) :
    ((cfg m).win 0).fill (grid0.coords t) d ((((cfg m).win 0).blk t).view.read (Elt F) (V m c (Pipeline.arrRef spec0 0))) y = blk m c 0 t y := by
  have hm : ((cfg m).win 0).moved (grid0.coords t) y = true := by
    refine (((cfg m).win 0).moved_iff _ y).mpr fun a => ?_
    have hy0 : (y 0).val < 256 := (y 0).isLt
    have hy1 : (y 1).val < 128 := (y 1).isLt
    have hi : (grid0.coords t 0).val < 391 := (grid0.coords t 0).isLt
    match a with
    | ⟨0, _⟩ =>
      show (y 0).val < (Pipeline.Clip.of (BitVec.ofNat 32 (grid0.coords t 0).val).toNat 256 100000).extent 256
      rw [BitVec.toNat_ofNat, Nat.mod_eq_of_lt (by omega)]
      unfold Pipeline.Clip.of
      split
      · exact hy0
      · show (y 0).val < 100000 - _; omega
    | ⟨1, _⟩ => exact hy1
  exact fill_of_moved ((cfg m).win 0) _ _ _ _ y hm

/-- The accumulator after point `t` is the step from whatever is held before it. -/
theorem molAt_succ (c : Dev nD) (t : Fin grid0.N) (M : Vec F S2024x1536 .f32) (h : t.val ≠ 0 → M = molAt m c t.val) :
    stepMol (grid0.coords t) (tab1 m) (tab2 m) (tab3 m) (tab4 m) (cAt m c t) M = molAt m c (t.val + 1) := by
  rw [molAt, dif_pos t.isLt]
  by_cases h0 : t.val = 0
  · unfold stepMol cleared
    rw [if_pos ((coord_val t).trans h0), if_pos ((coord_val t).trans h0)]
  · rw [h h0]

set_option maxHeartbeats 4000000 in
/-- The body's triple at the point, window by window. -/
theorem sound_body (hT : TablesOk (tab1 m) (tab2 m) (tab3 m) (tab4 m)) (c : Dev nD) (t : Fin grid0.N) :
    bodyPre m c t ⊢ wp frame (wpE (defs₀ (F := F)) Variants.none c none) Set.univ (bodyAt m t) (fun _ => bodyPost m c t) := by
  have b0 : ∀ d, (dats m 0 c).before (0 : Fin 13) t d
      = ((cfg m).win 0).fill (grid0.coords t) d ((((cfg m).win 0).blk t).view.read (Elt F) (V m c (Pipeline.arrRef spec0 0))) :=
    before_in m c 0 (by decide) rfl (fun _ => rfl) (fun t t' h => funext fun a =>
      congrArg (fun n => Pipeline.Clip.of n (S256x128.size a) (S100000x128.size a)) (congrFun h a)) t
  have b1 : ∀ d, (dats m 0 c).before (1 : Fin 13) t d = blk m c 1 t := before_whole m c 1 (by decide) rfl (fun _ => rfl) (fun _ _ => rfl) t
  have b2 : ∀ d, (dats m 0 c).before (2 : Fin 13) t d = blk m c 2 t := before_whole m c 2 (by decide) rfl (fun _ => rfl) (fun _ _ => rfl) t
  have b3 : ∀ d, (dats m 0 c).before (3 : Fin 13) t d = blk m c 3 t := before_whole m c 3 (by decide) rfl (fun _ => rfl) (fun _ _ => rfl) t
  have b4 : ∀ d, (dats m 0 c).before (4 : Fin 13) t d = blk m c 4 t := before_whole m c 4 (by decide) rfl (fun _ => rfl) (fun _ _ => rfl) t
  have b5 : ∀ d, (dats m 0 c).before (5 : Fin 13) t d = blk m c 5 t := before_whole m c 5 (by decide) rfl (fun _ => rfl) (fun _ _ => rfl) t
  have b6 : ∀ d, (dats m 0 c).before (6 : Fin 13) t d = blk m c 6 t := before_whole m c 6 (by decide) rfl (fun _ => rfl) (fun _ _ => rfl) t
  have b7 : ∀ d, (dats m 0 c).before (7 : Fin 13) t d = blk m c 7 t := before_whole m c 7 (by decide) rfl (fun _ => rfl) (fun _ _ => rfl) t
  have b8 : ∀ d, (dats m 0 c).before (8 : Fin 13) t d = blk m c 8 t := before_whole m c 8 (by decide) rfl (fun _ => rfl) (fun _ _ => rfl) t
  have b9 : ∀ d, (dats m 0 c).before (9 : Fin 13) t d = blk m c 9 t := before_whole m c 9 (by decide) rfl (fun _ => rfl) (fun _ _ => rfl) t
  have b10 : ∀ d, (dats m 0 c).before (10 : Fin 13) t d = blk m c 10 t := before_whole m c 10 (by decide) rfl (fun _ => rfl) (fun _ _ => rfl) t
  have b11 : ∀ d, (dats m 0 c).before (11 : Fin 13) t d = blk m c 11 t := before_whole m c 11 (by decide) rfl (fun _ => rfl) (fun _ _ => rfl) t
  unfold bodyPre bodyPost bodyAt
  rw [show (dats m 0 c).Φ t.castSucc = Inv m c t.val from rfl, show (dats m 0 c).Φ t.succ = Inv m c (t.val + 1) from rfl]
  unfold Inv Dat.owesAt Pipeline.owesWithin
  iintro ⟨⟨⟨%M, %hM, HM⟩, ⟨%C₀, HC⟩, Hg, HT1, HT2, HT3, HT4⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  have eC : cVal (grid0.coords t) (((cfg m).win 0).fill (grid0.coords t) d0 ((((cfg m).win 0).blk t).view.read (Elt F) (V m c (Pipeline.arrRef spec0 0))))
      (blk m c 2 t) (blk m c 3 t) (blk m c 1 t) = cAt m c t :=
    cVal_congr (grid0.coords t) _ _ _ _ _ (rows_of_nodes m c t d0)
  have h := body_run c (grid0.coords t) (Memref.whole main_v20) (Memref.isWhole_whole _) (Memref.whole main_v41) (Memref.isWhole_whole _) (Memref.whole main_v77) (Memref.isWhole_whole _) (Memref.whole main_v93) (Memref.isWhole_whole _) (st m 0 t) (hst m 0 t) (st m 1 t) (hst m 1 t) (st m 2 t) (hst m 2 t) (st m 3 t) (hst m 3 t) (st m 4 t) (hst m 4 t) (st m 5 t) (hst m 5 t) (st m 6 t) (hst m 6 t) (st m 7 t) (hst m 7 t) (st m 8 t) (hst m 8 t) (st m 9 t) (hst m 9 t) (st m 10 t) (hst m 10 t) (st m 11 t) (hst m 11 t) (st m 12 t) (hst m 12 t) (Memref.whole cc0_scratch0) (Memref.isWhole_whole _) (Memref.whole cc0_scratch1) (Memref.isWhole_whole _) fullShare.right (tab1 m) (tab2 m) (tab3 m) (tab4 m) hT
    (((cfg m).win 0).fill (grid0.coords t) d0 ((((cfg m).win 0).blk t).view.read (Elt F) (V m c (Pipeline.arrRef spec0 0))))
    (blk m c 1 t) (blk m c 2 t) (blk m c 3 t) (blk m c 4 t) (blk m c 5 t) (blk m c 6 t) (blk m c 7 t) (blk m c 8 t) (blk m c 9 t) (blk m c 10 t) (blk m c 11 t) ((dats m 0 c).before (12 : Fin 13) t d12) M C₀
  rw [eC, molAt_succ m c t M hM] at h
  iapply (wp_wand_r Idealize.ShloMosaic.frame (wpE (defs₀ (F := F)) Variants.none (c : Thread nD τ) none) Set.univ)
  isplitl [HM HC HT1 HT2 HT3 HT4 H0 H1 H2 H3 H4 H5 H6 H7 H8 H9 H10 H11 H12]
  · iapply h
    isplitl [HT1]; · iexact HT1
    isplitl [HT2]; · iexact HT2
    isplitl [HT3]; · iexact HT3
    isplitl [HT4]; · iexact HT4
    isplitl [H0]; · iapply (owns_of_eq c (st m 0 t) (b0 d0)); iexact H0
    isplitl [H1]; · iapply (owns_of_eq c (st m 1 t) (b1 d1)); iexact H1
    isplitl [H2]; · iapply (owns_of_eq c (st m 2 t) (b2 d2)); iexact H2
    isplitl [H3]; · iapply (owns_of_eq c (st m 3 t) (b3 d3)); iexact H3
    isplitl [H4]; · iapply (owns_of_eq c (st m 4 t) (b4 d4)); iexact H4
    isplitl [H5]; · iapply (owns_of_eq c (st m 5 t) (b5 d5)); iexact H5
    isplitl [H6]; · iapply (owns_of_eq c (st m 6 t) (b6 d6)); iexact H6
    isplitl [H7]; · iapply (owns_of_eq c (st m 7 t) (b7 d7)); iexact H7
    isplitl [H8]; · iapply (owns_of_eq c (st m 8 t) (b8 d8)); iexact H8
    isplitl [H9]; · iapply (owns_of_eq c (st m 9 t) (b9 d9)); iexact H9
    isplitl [H10]; · iapply (owns_of_eq c (st m 10 t) (b10 d10)); iexact H10
    isplitl [H11]; · iapply (owns_of_eq c (st m 11 t) (b11 d11)); iexact H11
    isplitl [H12]; · iexact H12
    isplitl [HM]; · iexact HM
    iexact HC
  iintro %r ⟨HT1, HT2, HT3, HT4, H0, H1, H2, H3, H4, H5, H6, H7, H8, H9, H10, H11, H12, HM, HC⟩
  isplitl [HM HC Hg HT1 HT2 HT3 HT4]
  · isplitl [HM]
    · iexists _; isplitr; · ipureintro; exact fun _ => rfl
      iexact HM
    isplitl [HC]; · iexists _; iexact HC
    isplitl [Hg]; · iexact Hg
    isplitl [HT1]; · iexact HT1
    isplitl [HT2]; · iexact HT2
    isplitl [HT3]; · iexact HT3
    iexact HT4
  isplitl [HO]
  · iexists W; isplitr; · ipureintro; exact fun _ _ => Or.inl trivial
    iexact HO
  isplitl [H0]
  · iexists d0
    iapply (owns_of_eq c (st m 0 t) (congrArg (((cfg m).win 0).fill (grid0.coords t) d0)
      ((congrArg (((cfg m).win 0).cut (grid0.coords t)) (after_in m c 0 (by decide) t)).trans (((cfg m).win 0).cut_fill _ _ _)).symm)); iexact H0
  isplitl [H1]; · iapply (owns_of_eq c (st m 1 t) (after_in m c 1 (by decide) t).symm); iexact H1
  isplitl [H2]; · iapply (owns_of_eq c (st m 2 t) (after_in m c 2 (by decide) t).symm); iexact H2
  isplitl [H3]; · iapply (owns_of_eq c (st m 3 t) (after_in m c 3 (by decide) t).symm); iexact H3
  isplitl [H4]; · iapply (owns_of_eq c (st m 4 t) (after_in m c 4 (by decide) t).symm); iexact H4
  isplitl [H5]; · iapply (owns_of_eq c (st m 5 t) (after_in m c 5 (by decide) t).symm); iexact H5
  isplitl [H6]; · iapply (owns_of_eq c (st m 6 t) (after_in m c 6 (by decide) t).symm); iexact H6
  isplitl [H7]; · iapply (owns_of_eq c (st m 7 t) (after_in m c 7 (by decide) t).symm); iexact H7
  isplitl [H8]; · iapply (owns_of_eq c (st m 8 t) (after_in m c 8 (by decide) t).symm); iexact H8
  isplitl [H9]; · iapply (owns_of_eq c (st m 9 t) (after_in m c 9 (by decide) t).symm); iexact H9
  isplitl [H10]; · iapply (owns_of_eq c (st m 10 t) (after_in m c 10 (by decide) t).symm); iexact H10
  isplitl [H11]; · iapply (owns_of_eq c (st m 11 t) (after_in m c 11 (by decide) t).symm); iexact H11
  unfold outPost
  by_cases h390 : t.val = 390
  · rw [if_pos h390, after_out]
    have eo : outAt (grid0.coords t) (molAt m c (t.val + 1)) (blk m c 4 t) (blk m c 5 t) (blk m c 6 t) (blk m c 7 t) (blk m c 8 t) (blk m c 9 t) (blk m c 10 t) (blk m c 11 t) ((dats m 0 c).before (12 : Fin 13) t d12) = outVal m c t := by
      unfold outAt outVal
      rw [if_pos ((coord_val t).trans h390), h390]
    iapply (owns_of_eq c (st m 12 t) eo)
    iexact H12
  · rw [if_neg h390]
    iexists d12
    iapply (owns_of_eq c (st m 12 t) (if_neg (fun e => h390 ((coord_val t).symm.trans e)) : outAt (grid0.coords t) _ _ _ _ _ _ _ _ _ _ = _))
    iexact H12

end Cert.Proof.KernelIdeal

end
-- ==== Proof.RegionIdeal.lean ====
/-
  The program's run: the body obligation at every point, the run of the launch from any memory whose tables are in order,
  and the arguments it leaves unchanged.
-/
module

public import proofs.«01_k».proof.Proof.RunIdeal
public import Idealize.ShloMosaic.Lib.Pipeline.FrameBody

@[expose] public section

noncomputable section

namespace Cert.Proof.KernelIdeal

open Cert.KernelIdeal Cert.KernelIdeal.Gen
open Idealize.ShloMosaic Idealize.ShloMosaic.TcCoe Idealize.ShloMosaic.Tactic
open Idealize.ShloMosaic.Pipeline (Dat Cfg Window BodyObligation BodyObligationLoose FramePost)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the launch. -/
local notation "𝕄" => MT nD τ sig Unit (Elt F) ℕ (UR sig nD τ) ℕ

variable (m : (ℓ : Loc nD τ sig) → Buf (Elt F) ℓ) (ρ : Dev nD → PrngReg)

/-- What the body leaves in the output's buffer, as the pipeline asks it: the heads at the last point, where the buffer is
    written back, and elsewhere what was there. -/
theorem outPost_asked (c : Dev nD) (t : Fin grid0.N) :
    outPost m c t ⊢ (match (cfg m).idle (12 : Fin 13) (grid0.coords t) with
      | true => match ((cfg m).win (12 : Fin 13)).flush t with
        | false => iprop(∃ d, owns (c : Thread nD τ) (st m 12 t) fullShare ((dats m 0 c).before (12 : Fin 13) t d))
        | true => owns (c : Thread nD τ) (st m 12 t) fullShare ((dats m 0 c).after (12 : Fin 13) t)
      | false => owns (c : Thread nD τ) (st m 12 t) fullShare ((dats m 0 c).after (12 : Fin 13) t) : sProp 𝕄) := by
  unfold outPost
  rw [idle_out]
  by_cases h : t.val = 390
  · simp only [h, if_true, decide_true, Bool.not_true]; exact .rfl
  · simp only [h, if_false, decide_false, Bool.not_false, flush_out m t h]; exact .rfl

set_option maxHeartbeats 1600000 in
/-- The body obligation at every point. -/
theorem body_obligation (hT : TablesOk (tab1 m) (tab2 m) (tab3 m) (tab4 m)) (c : Dev nD) :
    BodyObligationLoose (dats m 0 c) (defs₀ (F := F)) Variants.none () Set.univ := fun t => by
  rw [bigSep_W0, bigSep_W0, defs₀_row]
  refine triple_restated (sound_body m hT c t) rfl .rfl fun _ => ?_
  unfold bodyPost
  exact sep_mono .rfl (sep_mono .rfl (sep_mono .rfl (sep_mono .rfl (sep_mono .rfl (sep_mono .rfl (sep_mono .rfl (sep_mono .rfl (sep_mono .rfl (sep_mono .rfl (sep_mono .rfl (sep_mono .rfl (sep_mono .rfl (sep_mono .rfl (outPost_asked m c t))))))))))))))

/-- The four tables, one by one. -/
theorem tables_four {M : Type} [URA M] (Φ : Fin 4 → sProp M) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

/-- Every table is whole in the invariant before the first point. -/
theorem inv_first (c : Dev nD) :
    (iprop(Pipeline.ΦA (cfg m).spec c ∗ Pipeline.ΦT (pcfgs (F := F) 0).pre (adm m 0).1 c) : sProp 𝕄) ⊢ (dats m 0 c).Φ 0 := by
  rw [show (dats m 0 c).Φ 0 = Inv m c 0 from rfl]
  unfold Inv Pipeline.ΦA Pipeline.ΦT Pipeline.prefHeld
  rw [show (Pipeline.scopedRest (Ix := Unit) (Name := ℕ) (U := UR sig nD τ) (Lvl := ℕ) (Val := Elt F) (cfg m).spec c : sProp 𝕄) = _ from scopedRest0_eq c,
    tables_four]
  simp only [owns_whole]
  iintro ⟨⟨⟨⟨%M, HM⟩, ⟨%C, HC⟩⟩, Hg⟩, H1, H2, H3, H4⟩
  isplitl [HM]
  · iexists M; isplitr; · ipureintro; exact fun h => absurd rfl h
    iexact HM
  isplitl [HC]; · iexists C; iexact HC
  isplitl [Hg]; · iexact Hg
  isplitl [H1]; · iexact H1
  isplitl [H2]; · iexact H2
  isplitl [H3]; · iexact H3
  iexact H4

/-- After the last point the scratch buffers and the generator's register are what is left of it. -/
theorem inv_last (c : Dev nD) : (dats m 0 c).Φ (Fin.last (cfg m).N) ⊢ Pipeline.ΦA (cfg m).spec c := by
  rw [show (dats m 0 c).Φ (Fin.last (cfg m).N) = Inv m c (cfg m).N from rfl]
  unfold Inv Pipeline.ΦA
  rw [show (Pipeline.scopedRest (Ix := Unit) (Name := ℕ) (U := UR sig nD τ) (Lvl := ℕ) (Val := Elt F) (cfg m).spec c : sProp 𝕄) = _ from scopedRest0_eq c]
  simp only [owns_whole]
  iintro ⟨⟨%M, -, HM⟩, ⟨%C, HC⟩, Hg, -⟩
  isplitl [HM HC]
  · isplitl [HM]
    · iexists M; iexact HM
    · iexists C; iexact HC
  · iexact Hg

/-- No host operation makes a buffer of its own. -/
theorem lines_fresh : (lines (F := F)).Forall fun ops => ops.Forall fun op => op.fresh = ∅ := by
  refine ⟨?_, ?_, ?_, ?_, ?_, ?_, ?_, ?_, ?_, ?_, ?_, ?_, ?_, ?_, ?_⟩ <;> repeat' apply And.intro
  all_goals rfl

/-- The program is its host operations and then the region. -/
theorem hmain : Pipeline.HMainP (Ix := Unit) (Name := ℕ) (U := UR sig nD τ) (Lvl := ℕ) (pcfgs (F := F)) 0 defs₀ Variants.none m (main (F := F)) (V m) :=
  Pipeline.hmainP_prefixes _ 0 defs₀ Variants.none m (main (F := F)) lines
    ⟨hostOps0_sub, hostOps0_1_sub, hostOps0_2_sub, hostOps0_3_sub, hostOps0_4_sub, hostOps0_5_sub, hostOps0_6_sub, hostOps0_7_sub,
      hostOps0_8_sub, hostOps0_9_sub, hostOps0_10_sub, hostOps0_11_sub, hostOps0_12_sub, hostOps0_13_sub, hostOps0_14_sub⟩
    lines_fresh (fun c => (main_chain c).trans rfl)

/-- The program runs from any memory whose tables are in order: it ends with the arrays at what the blocks' write-backs
    make of them, every other buffer as the region finds it, and every counter at zero. -/
theorem run (hT : TablesOk (tab1 m) (tab2 m) (tab3 m) (tab4 m)) :
    θ_run (defs (F := F)) (onTc (τ := τ) (main (F := F))) ⟨m, fun _ => 0, ρ⟩
      (fun r => FramePost (Pipeline.pin (pcfgs (F := F)) (adm m)) (dats m) 0 (V m) r ∧ r.2.sem = fun _ => 0) :=
  Pipeline.θ_run_frameP_track (pcfgs (F := F)) (adm m) (dats m) 0 launch0 defs₀ Variants.none m ρ (main (F := F))
    (fun c => body_obligation m hT c) (fun c => (dats m 0 c).share_full fun _ => rfl) (fun _ _ => rfl) (V m) (hmain m)
    (fun _ _ => rfl) (fun c k => by rw [Subsingleton.elim c 0]; rfl) (inv_first m) (inv_last m)
    (Q' := fun r => FramePost (Pipeline.pin (pcfgs (F := F)) (adm m)) (dats m) 0 (V m) r ∧ r.2.sem = fun _ => 0)
    (hQ' := fun _ h => h)

end Cert.Proof.KernelIdeal

end
-- ==== Proof.TablesIdeal.lean ====
/-
  The prefetched tables as the region finds them, in terms of the nodes' graphs: the slots that open before each block,
  the graphs of the slots, and the groups of eight rows. From graphs in order they are tables that the body can follow.
-/
module

public import proofs.«01_k».proof.Proof.RunIdeal
public import proofs.«01_k».proof.Proof.Slots
public import Idealize.ShloMosaic.Lib.StableHlo.ReadAt
public import Idealize.ShloMosaic.Lib.StableHlo.RunRead
public import Idealize.ShloMosaic.Lib.Routing.Ops
public import Idealize.ShloMosaic.Lib.Routing.OpsSet
public import Idealize.ShloMosaic.Lib.Routing.OpsSearch

@[expose] public section

noncomputable section

namespace Cert.Proof.KernelIdeal

open Cert.KernelIdeal Cert.KernelIdeal.Gen
open Idealize.ShloMosaic Idealize.ShloMosaic.TcCoe Idealize.ShloMosaic.Tactic

variable {F : FTy → Type} [FloatOps F]
variable (m : (ℓ : Loc nD τ sig) → Buf (Elt F) ℓ)

/-- The contents after the first `j` stretches of host operations. -/
abbrev Vat (j : ℕ) (c : Dev nD) : (b : DevRef τ sig) → b.ty.Contents (Elt F) :=
  StableHlo.after ((lines (F := F)).take j).flatten (fun b => m (c, b))

/-- What the region finds is what the rest of the stretches makes of those contents. -/
theorem V_cut (j : ℕ) (c : Dev nD) (b : Ref sig .tc) : V m c b = StableHlo.after ((lines (F := F)).drop j).flatten (Vat m j c) b := by
  unfold V Vat
  rw [← StableHlo.after_append, ← List.flatten_append, List.take_append_drop]

/-- The graph of node `n`. -/
def graph (c : Dev nD) (n : ℕ) : ℕ :=
  if h : n < 100000 then ((m (c, Proc.devRef .tc main_arg2) : S100000.Idx → BitVec 32) (ValueIdx.ix1 ⟨n, h⟩)).toNat else 0

/-- The nodes' graphs are below 2000 and ascend. -/
structure InOrder (c : Dev nD) : Prop where
  lt : ∀ n < 100000, graph m c n < 2000
  asc : ∀ n, n + 1 < 100000 → graph m c n ≤ graph m c (n + 1)

theorem graph_word (c : Dev nD) (n : ℕ) (h : n < 100000) :
    (m (c, Proc.devRef .tc main_arg2) : S100000.Idx → BitVec 32) (ValueIdx.ix1 ⟨n, h⟩) = BitVec.ofNat 32 (graph m c n) := by
  unfold graph; rw [dif_pos h, BitVec.ofNat_toNat, BitVec.setWidth_eq]

theorem graph_ne (c : Dev nD) (n k : ℕ) (hn : n < 100000) (hk : k < 100000) :
    (m (c, Proc.devRef .tc main_arg2) : S100000.Idx → BitVec 32) (ValueIdx.ix1 ⟨n, hn⟩) ≠
      (m (c, Proc.devRef .tc main_arg2) : S100000.Idx → BitVec 32) (ValueIdx.ix1 ⟨k, hk⟩) ↔ graph m c n ≠ graph m c k := by
  unfold graph; rw [dif_pos hn, dif_pos hk, ne_eq, ne_eq, ← BitVec.toNat_inj]

theorem cmpi_ne_word (x y : BitVec 32) (h : x ≠ y) : BitVec.setWidth 32 (IntOp.cmpi CmpIPredicate.ne x y) = BitVec.ofNat 32 1 := by
  show BitVec.setWidth 32 (BitVec.ofBool (x != y)) = _
  rw [bne_iff_ne.2 h]; rfl

theorem cmpi_eq_word (x y : BitVec 32) (h : x = y) : BitVec.setWidth 32 (IntOp.cmpi CmpIPredicate.ne x y) = BitVec.ofNat 32 0 := by
  subst h; unfold IntOp.cmpi; simp

/-- The flags, block by block. -/
theorem v12_at (c : Dev nD) (p : Fin 391) (k : Fin 256) :
    (V m c main_v12 : S391x256.Idx → BitVec 32) (ValueIdx.ix2 p k) = BitVec.ofNat 32 (if flag (graph m c) (256 * p.val + k.val) then 1 else 0) := by
  have hp := p.isLt
  have hk := k.isLt
  unfold V
  after_reads_at
  after_reads_at
  have e0 : ((ValueIdx.ix2 p k : S391x256.Idx) 0).val = p.val := rfl
  have e1 : ((ValueIdx.ix2 p k : S391x256.Idx) 1).val = k.val := rfl
  simp only [e0, e1]
  have ho1 : ∀ x : BitVec 1, BitVec.setWidth 32 (IntOp.ori x 1#1) = BitVec.ofNat 32 1 := by decide
  have ho0 : ∀ x : BitVec 1, IntOp.ori x 0#1 = x := by decide
  by_cases hk0 : k.val = 0
  · have hf : flag (graph m c) (256 * p.val + k.val) := Or.inl (by omega)
    have hc : IntOp.cmpi CmpIPredicate.eq (BitVec.ofNat 32 k.val) 0#32 = 1#1 := by rw [hk0]; rfl
    rw [if_pos hf, hc, ho1]
  · have hc : IntOp.cmpi CmpIPredicate.eq (BitVec.ofNat 32 k.val) 0#32 = 0#1 := by
      have hne : BitVec.ofNat 32 k.val ≠ 0#32 := fun e => hk0 (by
        have := congrArg BitVec.toNat e
        rw [BitVec.toNat_ofNat, BitVec.toNat_ofNat] at this; omega)
      unfold IntOp.cmpi; simp only [beq_eq_false_iff_ne.2 hne]; rfl
    simp only [hc, ho0]
    by_cases hN : p.val * 256 + k.val < 100000
    · rw [dif_pos hN, dif_neg (by omega)]
      have hg := graph_ne m c (1 + (p.val * 256 + k.val - 1)) (p.val * 256 + k.val - 1) (by omega) (by omega)
      have ef : flag (graph m c) (256 * p.val + k.val) ↔ graph m c (1 + (p.val * 256 + k.val - 1)) ≠ graph m c (p.val * 256 + k.val - 1) := by
        unfold flag
        rw [show 256 * p.val + k.val = 1 + (p.val * 256 + k.val - 1) by omega, show 1 + (p.val * 256 + k.val - 1) - 1 = p.val * 256 + k.val - 1 by omega]
        constructor
        · rintro (h | h)
          · omega
          · exact h.2
        · exact fun h => Or.inr ⟨by omega, h⟩
      by_cases hq : graph m c (1 + (p.val * 256 + k.val - 1)) ≠ graph m c (p.val * 256 + k.val - 1)
      · exact (cmpi_ne_word _ _ (hg.2 hq)).trans (congrArg (BitVec.ofNat 32) (if_pos (ef.2 hq)).symm)
      · exact (cmpi_eq_word _ _ (not_not.1 fun h => hq (hg.1 h))).trans (congrArg (BitVec.ofNat 32) (if_neg (fun h => hq (ef.1 h))).symm)
    · rw [dif_neg hN, if_neg]
      · rfl
      · rintro (h | h) <;> omega

/-- Their running sums along the block. -/
theorem v13_at (c : Dev nD) (p : Fin 391) (k : Fin 256) :
    (V m c main_v13 : S391x256.Idx → BitVec 32) (ValueIdx.ix2 p k)
      = BitVec.ofNat 32 (cnt (graph m c) (256 * p.val + (k.val + 1)) - cnt (graph m c) (256 * p.val)) := by
  have h1 : V m c main_v12 = _ := V_cut m 1 c main_v12
  have h2 : V m c main_v13 = _ := V_cut m 1 c main_v13
  have hx := v12_at m c p
  rw [h2]
  generalize Vat m 1 c = W at h1 h2
  have h3 : V m c main_v12 = W main_v12 := h1.trans (by after_reads_simp)
  have hx' : ∀ k : Fin 256, (W main_v12 : S391x256.Idx → BitVec 32) (ValueIdx.ix2 p k) = BitVec.ofNat 32 (if flag (graph m c) (256 * p.val + k.val) then 1 else 0) :=
    fun k => (congrFun h3 (ValueIdx.ix2 p k)).symm.trans (hx k)
  clear h1 h2 h3 hx
  after_reads_at
  rw [← sum_flags]
  exact cumsum_row rfl (W main_v12 : S391x256.Idx → BitVec 32) p (fun i => if flag (graph m c) (256 * p.val + i) then 1 else 0) hx' _ rfl _ _ (by decide) k

/-- The slots a block opens. -/
theorem v17_at (c : Dev nD) (p : Fin 391) :
    (V m c main_v17 : S391.Idx → BitVec 32) (ValueIdx.ix1 p)
      = BitVec.ofNat 32 (cnt (graph m c) (256 * (p.val + 1)) - cnt (graph m c) (256 * p.val)) := by
  have h1 : V m c main_v13 = _ := V_cut m 2 c main_v13
  have h2 : V m c main_v17 = _ := V_cut m 2 c main_v17
  have hx := v13_at m c p ⟨255, by decide⟩
  rw [h2]
  generalize Vat m 2 c = W at h1 h2
  have h3 : V m c main_v13 = W main_v13 := h1.trans (by after_reads_simp)
  have hx' := (congrFun h3 (ValueIdx.ix2 p ⟨255, by decide⟩)).symm.trans hx
  clear h1 h2 h3 hx
  after_reads_at
  exact hx'

/-- The slots opened up to and with a block. -/
theorem v19_at (c : Dev nD) (p : Fin 391) :
    (V m c main_v19 : S391.Idx → BitVec 32) (ValueIdx.ix1 p) = BitVec.ofNat 32 (cnt (graph m c) (256 * (p.val + 1))) := by
  have h1 : V m c main_v17 = _ := V_cut m 3 c main_v17
  have h2 : V m c main_v19 = _ := V_cut m 3 c main_v19
  have hx := v17_at m c
  rw [h2]
  generalize Vat m 3 c = W at h1 h2
  have h3 : V m c main_v17 = W main_v17 := h1.trans (by after_reads_simp)
  have hx' : ∀ p : Fin 391, (W main_v17 : S391.Idx → BitVec 32) (ValueIdx.ix1 p) = BitVec.ofNat 32 (cnt (graph m c) (256 * (p.val + 1)) - cnt (graph m c) (256 * p.val)) :=
    fun p => (congrFun h3 (ValueIdx.ix1 p)).symm.trans (hx p)
  clear h1 h2 h3 hx
  after_reads_at
  refine (Routing.cumsum1 rfl (W main_v17 : S391.Idx → BitVec 32) (fun i => cnt (graph m c) (256 * (i + 1)) - cnt (graph m c) (256 * i)) hx' _ rfl _ _ p).trans (congrArg _ ?_)
  exact (sum_steps (fun i => cnt (graph m c) (256 * i)) (fun a b h => cnt_mono (by omega)) _).trans (Nat.sub_zero _)

theorem v18_at (c : Dev nD) (x : S1.Idx) : (V m c main_v18 : S1.Idx → BitVec 32) x = 0#32 := by
  have h3 : V m c main_v18 = _ := V_cut m 2 c main_v18
  rw [h3]
  generalize Vat m 2 c = W
  after_reads_at

/-- The first table: the slots opened before a block. -/
theorem v20_at (c : Dev nD) (p : Fin 392) :
    (V m c main_v20 : S392.Idx → BitVec 32) (ValueIdx.ix1 p) = BitVec.ofNat 32 (cnt (graph m c) (256 * p.val)) := by
  have h1 : V m c main_v19 = _ := V_cut m 4 c main_v19
  have h0 : V m c main_v18 = _ := V_cut m 4 c main_v18
  have h2 : V m c main_v20 = _ := V_cut m 4 c main_v20
  have hx := v19_at m c
  have hz := v18_at m c
  rw [h2]
  generalize Vat m 4 c = W at h1 h2 h0
  have h3 : V m c main_v19 = W main_v19 := h1.trans (by after_reads_simp)
  have h4 : V m c main_v18 = W main_v18 := h0.trans (by after_reads_simp)
  have hx' : ∀ p : Fin 391, (W main_v19 : S391.Idx → BitVec 32) (ValueIdx.ix1 p) = BitVec.ofNat 32 (cnt (graph m c) (256 * (p.val + 1))) :=
    fun p => (congrFun h3 (ValueIdx.ix1 p)).symm.trans (hx p)
  have hz' : ∀ x, (W main_v18 : S1.Idx → BitVec 32) x = 0#32 := fun x => (congrFun h4 x).symm.trans (hz x)
  clear h1 h2 h3 h4 h0 hx hz
  after_reads_at
  have hp := p.isLt
  by_cases h : p.val < 1
  · refine (dif_pos h).trans ((hz' _).trans ?_)
    rw [show p.val = 0 by omega]; rfl
  · refine (dif_neg h).trans ((hx' ⟨p.val - 1, by omega⟩).trans (congrArg _ (congrArg _ ?_)))
    show 256 * (p.val - 1 + 1) = 256 * p.val
    omega

/-- Every graph of a slot is a node's, -/
theorem v41_mem (c : Dev nD) (j : S2560.Idx) : ∃ n < 100000, (V m c main_v41 : S2560.Idx → BitVec 32) j = BitVec.ofNat 32 (graph m c n) := by
  have h2 : V m c main_v41 = _ := V_cut m 6 c main_v41
  have h1 : V m c main_arg2 = _ := V_cut m 6 c main_arg2
  have h0 : V m c main_arg2 = m (c, Proc.devRef .tc main_arg2) := by unfold V; after_reads_simp
  rw [h2]
  generalize Vat m 6 c = W at h1 h2
  have h3 : V m c main_arg2 = W main_arg2 := h1.trans (by after_reads_simp)
  have hx : ∀ n h, (W main_arg2 : S100000.Idx → BitVec 32) (ValueIdx.ix1 ⟨n, h⟩) = BitVec.ofNat 32 (graph m c n) :=
    fun n h => (congrFun (h3.symm.trans h0) (ValueIdx.ix1 ⟨n, h⟩)).trans (graph_word m c n h)
  clear h1 h2 h3 h0
  after_reads_at
  unfold Host.gather
  have hm : ∀ x : S100000.Idx, ∃ n < 100000, (W main_arg2 : S100000.Idx → BitVec 32) x = BitVec.ofNat 32 (graph m c n) := fun x =>
    ⟨(x 0).val, (x 0).isLt, Eq.trans (congrArg (W main_arg2 : S100000.Idx → BitVec 32) (ValueIdx.eq_ix1 x)) (hx _ (x 0).isLt)⟩
  exact hm _

/-- and so is the one a block begins with. -/
theorem v85_mem (c : Dev nD) (j : S391.Idx) : ∃ n < 100000, (V m c main_v85 : S391.Idx → BitVec 32) j = BitVec.ofNat 32 (graph m c n) := by
  have h2 : V m c main_v85 = _ := V_cut m 8 c main_v85
  have h1 : V m c main_v41 = _ := V_cut m 8 c main_v41
  have hx := v41_mem m c
  rw [h2]
  generalize Vat m 8 c = W at h1 h2
  have h3 : V m c main_v41 = W main_v41 := h1.trans (by after_reads_simp)
  have hx' : ∀ j, ∃ n < 100000, (W main_v41 : S2560.Idx → BitVec 32) j = BitVec.ofNat 32 (graph m c n) :=
    fun j => (hx j).imp fun n h => ⟨h.1, (congrFun h3 j).symm.trans h.2⟩
  clear h1 h2 h3 hx
  after_reads_at
  unfold Host.gather
  exact hx' _

theorem c20_at (c : Dev nD) (x : S_.Idx) : (V m c main_c_20 : S_.Idx → BitVec 32) x = BitVec.ofNat 32 8 := by
  have h3 : V m c main_c_20 = _ := V_cut m 8 c main_c_20
  rw [h3]
  generalize Vat m 8 c = W
  after_reads_at

theorem c24_at (c : Dev nD) (x : S_.Idx) : (V m c main_c_24 : S_.Idx → BitVec 32) x = BitVec.ofNat 32 8 := by
  have h3 : V m c main_c_24 = _ := V_cut m 12 c main_c_24
  rw [h3]
  generalize Vat m 12 c = W
  after_reads_at

/-- The group of eight rows of that graph, -/
theorem v86_at (c : Dev nD) (j : S391.Idx) (a : ℕ) (ha : a < 2000) (h : (V m c main_v85 : S391.Idx → BitVec 32) j = BitVec.ofNat 32 a) :
    (V m c main_v86 : S391.Idx → BitVec 32) j = BitVec.ofNat 32 (a / 8) := by
  have h2 : V m c main_v86 = _ := V_cut m 9 c main_v86
  have h1 : V m c main_v85 = _ := V_cut m 9 c main_v85
  have h0 : V m c main_c_20 = _ := V_cut m 9 c main_c_20
  have hc := c20_at m c ValueIdx.ix0
  rw [h2]
  generalize Vat m 9 c = W at h1 h2 h0
  have h3 : V m c main_v85 = W main_v85 := h1.trans (by after_reads_simp)
  have h4 : V m c main_c_20 = W main_c_20 := h0.trans (by after_reads_simp)
  have hx : (W main_v85 : S391.Idx → BitVec 32) j = BitVec.ofNat 32 a := (congrFun h3 j).symm.trans h
  have hc' : (W main_c_20 : S_.Idx → BitVec 32) ValueIdx.ix0 = BitVec.ofNat 32 8 := (congrFun h4 _).symm.trans hc
  clear h0 h1 h2 h3 h4 hc
  after_reads_at
  exact Routing.pyDiv0_ap (fun _ => (W main_v85 : S391.Idx → BitVec 32) j) (W main_c_20 : S_.Idx → BitVec 32) hx hc' (by omega) (by decide) (by decide)

/-- its first row, -/
theorem v88_at (c : Dev nD) (j : S391.Idx) (a : ℕ) (ha : a < 2000) (h : (V m c main_v85 : S391.Idx → BitVec 32) j = BitVec.ofNat 32 a) :
    (V m c main_v88 : S391.Idx → BitVec 32) j = BitVec.ofNat 32 (a / 8 * 8) := by
  have h2 : V m c main_v88 = _ := V_cut m 10 c main_v88
  have h1 : V m c main_v86 = _ := V_cut m 10 c main_v86
  have h := v86_at m c j a ha h
  rw [h2]
  generalize Vat m 10 c = W at h1 h2
  have h3 : V m c main_v86 = W main_v86 := h1.trans (by after_reads_simp)
  have hx : (W main_v86 : S391.Idx → BitVec 32) j = BitVec.ofNat 32 (a / 8) := (congrFun h3 j).symm.trans h
  clear h1 h2 h3 h
  after_reads_at
  rw [hx]
  exact (BitVec.ofNat_mul _ _).symm

/-- and the fourth table, the group again. -/
theorem v93_at (c : Dev nD) (j : S391.Idx) (a : ℕ) (ha : a < 2000) (h : (V m c main_v85 : S391.Idx → BitVec 32) j = BitVec.ofNat 32 a) :
    (V m c main_v93 : S391.Idx → BitVec 32) j = BitVec.ofNat 32 (a / 8) := by
  have h2 : V m c main_v93 = _ := V_cut m 13 c main_v93
  have h1 : V m c main_v88 = _ := V_cut m 13 c main_v88
  have h0 : V m c main_c_24 = _ := V_cut m 13 c main_c_24
  have hc := c24_at m c ValueIdx.ix0
  have h := v88_at m c j a ha h
  rw [h2]
  generalize Vat m 13 c = W at h1 h2 h0
  have h3 : V m c main_v88 = W main_v88 := h1.trans (by after_reads_simp)
  have h4 : V m c main_c_24 = W main_c_24 := h0.trans (by after_reads_simp)
  have hx : (W main_v88 : S391.Idx → BitVec 32) j = BitVec.ofNat 32 (a / 8 * 8) := (congrFun h3 j).symm.trans h
  have hc' : (W main_c_24 : S_.Idx → BitVec 32) ValueIdx.ix0 = BitVec.ofNat 32 8 := (congrFun h4 _).symm.trans hc
  clear h0 h1 h2 h3 h4 hc
  after_reads_at
  refine Eq.trans (Routing.pyDiv0_ap (fun _ => (W main_v88 : S391.Idx → BitVec 32) j) (W main_c_24 : S_.Idx → BitVec 32) hx hc' (by omega) (by decide) (by decide)) ?_
  rw [Nat.mul_div_cancel _ (by decide : 0 < 8)]

/-- Graphs in order make tables that the body can follow. -/
theorem tablesOk (h : InOrder m 0) : TablesOk (tab1 m) (tab2 m) (tab3 m) (tab4 m) := by
  have hle : ∀ p ≤ 391, cnt (graph m 0) (256 * p) ≤ 2390 := fun p hp => cnt_le h.asc h.lt _ (by omega)
  have hlo : ∀ i : grid0.Coords, (lo i (tab1 m)).toNat = cnt (graph m 0) (256 * (i 0).val) := fun i => by
    have hi : (i 0).val < 391 := (i 0).isLt
    have := hle (i 0).val (by omega)
    refine (congrArg BitVec.toNat (v20_at m 0 _)).trans ?_
    rw [BitVec.toNat_ofNat]
    exact Nat.mod_eq_of_lt (lt_of_le_of_lt this (by decide))
  have hhi : ∀ i : grid0.Coords, (hi i (tab1 m)).toNat = cnt (graph m 0) (256 * ((i 0).val + 1)) := fun i => by
    have hi : (i 0).val < 391 := (i 0).isLt
    have := hle ((i 0).val + 1) (by omega)
    refine (congrArg BitVec.toNat (v20_at m 0 _)).trans ?_
    rw [BitVec.toNat_ofNat]
    exact Nat.mod_eq_of_lt (lt_of_le_of_lt this (by decide))
  refine ⟨fun i => ?_, fun i => ?_, fun i => ?_, fun j => ?_, fun i _ => ?_⟩
  · rw [hlo, hhi]; exact cnt_mono (by omega)
  · have hi : (i 0).val < 391 := (i 0).isLt
    rw [hhi]; have := hle ((i 0).val + 1) (by omega); omega
  · rw [hlo, hhi]; have := cnt_add_le (g := graph m 0) (256 * (i 0).val) 256
    rw [show 256 * (i 0).val + 256 = 256 * ((i 0).val + 1) by omega] at this; omega
  · obtain ⟨n, hn, e⟩ := v41_mem m 0 j
    have := h.lt n hn
    refine (congrArg BitVec.toNat e).trans_lt ?_
    rw [BitVec.toNat_ofNat]; omega
  · obtain ⟨n, hn, e⟩ := v85_mem m 0 (ValueIdx.ix1 ⟨(i 0).val, (i 0).isLt⟩)
    have hl := h.lt n hn
    refine (congrArg BitVec.toNat (v93_at m 0 _ _ hl e)).trans_le ?_
    rw [BitVec.toNat_ofNat]; omega

end Cert.Proof.KernelIdeal

end
-- ==== Proof.ArgsIdeal.lean ====
/-
  The program's arguments end as they began, from graphs in order; and what the precondition says of the graphs.
-/
module

public import proofs.«01_k».proof.Proof.RegionIdeal
public import proofs.«01_k».proof.Proof.TablesIdeal
public import proofs.«01_k».proof.Pre_graphs_in_order
public import Idealize.ShloMosaic.Lib.StableHlo.Predicate

@[expose] public section

noncomputable section

namespace Cert.Proof.KernelIdeal

open Cert.KernelIdeal Cert.KernelIdeal.Gen
open Idealize.ShloMosaic Idealize.ShloMosaic.TcCoe Idealize.ShloMosaic.Tactic

variable {F : FTy → Type} [FloatOps F]
variable (m : (ℓ : Loc nD τ sig) → Buf (Elt F) ℓ) (ρ : Dev nD → PrngReg)

/-- The precondition says that the graphs are below 2000 and ascend. -/
theorem inOrder_of_pre [Cert.Pre_graphs_in_order.Facts] (c : Dev nD) (a0 : FVec F S100000x128 .f32) (a1 : IVec S1600000 32)
    (a3 : FVec F S12x128x1 .f32) (a4 : FVec F S12x1 .f32) (a5 : FVec F S12x128x128 .f32) (a6 : FVec F S12x128 .f32) (a7 : FVec F S12x128x128 .f32)
    (a8 : FVec F S12x128 .f32) (a9 : FVec F S12x128x128 .f32) (a10 : FVec F S12x128 .f32) (a11 : FVec F S12x128x1 .f32) (a12 : FVec F S12x1 .f32)
    (h : Cert.Pre_graphs_in_order.fn (F := F) a0 a1 (m ((c.tc : Thread nD τ).loc main_arg2)) a3 a4 a5 a6 a7 a8 a9 a10 a11 a12 = fun _ => 1#1) :
    InOrder m c := by
  have key : ∀ n (hn : n < 100000), graph m c n < 2000 ∧ (0 < n → graph m c (n - 1) ≤ graph m c n) := by
    intro n hn
    have e := congrFun h (ValueIdx.ix1 ⟨n, hn⟩)
    simp only [Cert.Pre_graphs_in_order.fn] at e
    revert e
    pointwise
    intro e
    rw [IntOp.andi_eq_one, IntOp.andi_eq_one] at e
    obtain ⟨⟨h0, h2⟩, h1⟩ := e
    have lt : ∀ A : BitVec 32, IntOp.cmpi CmpIPredicate.sge A 0#32 = 1#1 → IntOp.cmpi CmpIPredicate.slt A 2000#32 = 1#1 → A.toNat < 2000 := by
      intro A h0 h2
      have h3 : A.toNat < 2 ^ 31 := by
        refine Routing.toNat_lt_of_toInt_nonneg A ?_
        have : (0#32).sle A = true := by
          unfold IntOp.cmpi at h0; exact (StableHlo.Predicate.ofBool_eq_one_iff _).1 h0
        rw [BitVec.sle, decide_eq_true_eq] at this; exact this
      exact (StableHlo.Predicate.slt_iff_toNat h3 (by decide)).1 h2
    have hl := lt _ h0 h2
    have hg : graph m c n = (m (c, Proc.devRef .tc main_arg2) (ValueIdx.ix1 ⟨n, hn⟩) : BitVec 32).toNat := dif_pos hn
    refine ⟨hg ▸ hl, fun hp => ?_⟩
    have hg' : graph m c (n - 1) = (m (c, Proc.devRef .tc main_arg2) (ValueIdx.ix1 ⟨n - 1, by omega⟩) : BitVec 32).toNat := dif_pos (show n - 1 < 100000 by omega)
    have h1' := (congrArg (fun z => IntOp.cmpi CmpIPredicate.sle z (m (c, Proc.devRef .tc main_arg2) (ValueIdx.ix1 ⟨n, hn⟩) : BitVec 32))
      (dif_neg (show ¬ n < 1 by omega))).symm.trans h1
    rw [hg, hg']
    have e' := congrFun h (ValueIdx.ix1 ⟨n - 1, by omega⟩)
    simp only [Cert.Pre_graphs_in_order.fn] at e'
    revert e'
    pointwise
    intro e'
    rw [IntOp.andi_eq_one, IntOp.andi_eq_one] at e'
    exact (StableHlo.Predicate.sle_iff_toNat ((lt _ e'.1.1 e'.1.2).trans (by decide)) (hl.trans (by decide))).1 h1'
  exact ⟨fun n hn => (key n hn).1, fun n hn => (key (n + 1) hn).2 (Nat.succ_pos n)⟩

/-! No host operation writes an argument. -/

theorem V_arg0 (c : Dev nD) : V m c main_arg0 = m (c, Proc.devRef .tc main_arg0) := by unfold V; after_reads_simp

theorem V_arg1 (c : Dev nD) : V m c main_arg1 = m (c, Proc.devRef .tc main_arg1) := by unfold V; after_reads_simp

theorem V_arg2 (c : Dev nD) : V m c main_arg2 = m (c, Proc.devRef .tc main_arg2) := by unfold V; after_reads_simp

theorem V_arg3 (c : Dev nD) : V m c main_arg3 = m (c, Proc.devRef .tc main_arg3) := by unfold V; after_reads_simp

theorem V_arg4 (c : Dev nD) : V m c main_arg4 = m (c, Proc.devRef .tc main_arg4) := by unfold V; after_reads_simp

theorem V_arg5 (c : Dev nD) : V m c main_arg5 = m (c, Proc.devRef .tc main_arg5) := by unfold V; after_reads_simp

theorem V_arg6 (c : Dev nD) : V m c main_arg6 = m (c, Proc.devRef .tc main_arg6) := by unfold V; after_reads_simp

theorem V_arg7 (c : Dev nD) : V m c main_arg7 = m (c, Proc.devRef .tc main_arg7) := by unfold V; after_reads_simp

theorem V_arg8 (c : Dev nD) : V m c main_arg8 = m (c, Proc.devRef .tc main_arg8) := by unfold V; after_reads_simp

theorem V_arg9 (c : Dev nD) : V m c main_arg9 = m (c, Proc.devRef .tc main_arg9) := by unfold V; after_reads_simp

theorem V_arg10 (c : Dev nD) : V m c main_arg10 = m (c, Proc.devRef .tc main_arg10) := by unfold V; after_reads_simp

theorem V_arg11 (c : Dev nD) : V m c main_arg11 = m (c, Proc.devRef .tc main_arg11) := by unfold V; after_reads_simp

theorem V_arg12 (c : Dev nD) : V m c main_arg12 = m (c, Proc.devRef .tc main_arg12) := by unfold V; after_reads_simp

set_option maxHeartbeats 2000000 in
/-- The arguments end as they began. -/
theorem args (r : PUnit × MemSt nD τ sig (Elt F)) (h : Pipeline.FramePost (Pipeline.pin (pcfgs (F := F)) (adm m)) (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) := by
  obtain ⟨hw, hr⟩ := h c
  refine ⟨(hw 0).trans (((dats m 0 c).arrAt_in 0 rfl _).trans ?_), (hr main_arg1 (Pipeline.mem_restRefs_of _ (by decide) (show ∀ w : Fin 13, (spec0 w).arr.view.ref ≠ main_arg1 by decide))).trans ?_,
    (hr main_arg2 (Pipeline.mem_restRefs_of _ (by decide) (show ∀ w : Fin 13, (spec0 w).arr.view.ref ≠ main_arg2 by decide))).trans ?_, (hr main_arg3 (Pipeline.mem_restRefs_of _ (by decide) (show ∀ w : Fin 13, (spec0 w).arr.view.ref ≠ main_arg3 by decide))).trans ?_,
    (hr main_arg4 (Pipeline.mem_restRefs_of _ (by decide) (show ∀ w : Fin 13, (spec0 w).arr.view.ref ≠ main_arg4 by decide))).trans ?_,
    (hw 4).trans (((dats m 0 c).arrAt_in 4 rfl _).trans ?_), (hw 5).trans (((dats m 0 c).arrAt_in 5 rfl _).trans ?_),
    (hw 6).trans (((dats m 0 c).arrAt_in 6 rfl _).trans ?_), (hw 7).trans (((dats m 0 c).arrAt_in 7 rfl _).trans ?_),
    (hw 8).trans (((dats m 0 c).arrAt_in 8 rfl _).trans ?_), (hw 9).trans (((dats m 0 c).arrAt_in 9 rfl _).trans ?_),
    (hr main_arg11 (Pipeline.mem_restRefs_of _ (by decide) (show ∀ w : Fin 13, (spec0 w).arr.view.ref ≠ main_arg11 by decide))).trans ?_, (hr main_arg12 (Pipeline.mem_restRefs_of _ (by decide) (show ∀ w : Fin 13, (spec0 w).arr.view.ref ≠ main_arg12 by decide))).trans ?_⟩
  · show V m c main_arg0 = _
    exact V_arg0 m c
  · show V m c main_arg1 = _
    exact V_arg1 m c
  · show V m c main_arg2 = _
    exact V_arg2 m c
  · show V m c main_arg3 = _
    exact V_arg3 m c
  · show V m c main_arg4 = _
    exact V_arg4 m c
  · show V m c main_arg5 = _
    exact V_arg5 m c
  · show V m c main_arg6 = _
    exact V_arg6 m c
  · show V m c main_arg7 = _
    exact V_arg7 m c
  · show V m c main_arg8 = _
    exact V_arg8 m c
  · show V m c main_arg9 = _
    exact V_arg9 m c
  · show V m c main_arg10 = _
    exact V_arg10 m c
  · show V m c main_arg11 = _
    exact V_arg11 m c
  · show V m c main_arg12 = _
    exact V_arg12 m c

/-- The program runs from graphs in order: the arrays and the other buffers end as the run says, the arguments as they
    began, every counter at zero. -/
theorem runs (h : InOrder m 0) :
    θ_run (defs (F := F)) (onTc (τ := τ) (main (F := F))) ⟨m, fun _ => 0, ρ⟩
      (fun r => Pipeline.FramePost (Pipeline.pin (pcfgs (F := F)) (adm m)) (dats m) 0 (V m) r ∧ r.2.sem = fun _ => 0) :=
  run m ρ (tablesOk m h)

end Cert.Proof.KernelIdeal

end
-- ==== Proof.LinksIdeal.lean ====
/-
  What the region finds in the buffers of the host code, each in terms of those that its operation reads.
-/
module

public import proofs.«01_k».proof.Proof.TablesIdeal

@[expose] public section

noncomputable section

namespace Cert.Proof.KernelIdeal

open Cert.KernelIdeal Cert.KernelIdeal.Gen
open Idealize.ShloMosaic Idealize.ShloMosaic.TcCoe Idealize.ShloMosaic.Tactic

variable {F : FTy → Type} [FloatOps F]
variable (m : (ℓ : Loc nD τ sig) → Buf (Elt F) ℓ)

theorem v15_eq (c : Dev nD) : (V m c main_v15 : S391x256.Idx → BitVec 32)
    = subi (V m c main_v13 : S391x256.Idx → BitVec 32) (broadcastInDim S391x256 ![] bcast_S_S391x256 (constantI S_ 32 1#32)) := by
  rw [V_cut m 2 c main_v15, V_cut m 2 c main_v13]
  generalize Vat m 2 c = W
  after_reads_simp

theorem v25_eq (c : Dev nD) : (V m c main_v25 : S100096.Idx → BitVec 32)
    = shapeCast S100096 (addi (V m c main_v15 : S391x256.Idx → BitVec 32) (broadcastInDim S391x256 ![0, 1] bcast_S391x1_S391x256_0_1
        (broadcastInDim S391x1 ![0] bcast_S391_S391x1_0 (extractStridedSlice S391 ![0] (V m c main_v20 : S392.Idx → BitVec 32) slices_S392_S391_0)))) shapeCasts_S391x256_S100096 := by
  rw [V_cut m 4 c main_v25, V_cut m 4 c main_v15, V_cut m 4 c main_v20]
  generalize Vat m 4 c = W
  after_reads_simp
  rfl

theorem v33_eq (c : Dev nD) : (V m c main_v33 : S2560.Idx → BitVec 32)
    = Host.reduce IntOp.addi (extui 32 (cmpi .slt (broadcastInDim S2560x100096 ![0, 1] bcast_S1x100096_S2560x100096_0_1
          (broadcastInDim S1x100096 ![1] bcast_S100096_S1x100096_1 (V m c main_v25 : S100096.Idx → BitVec 32)))
        (broadcastInDim S2560x100096 ![0, 1] bcast_S2560x1_S2560x100096_0_1 (broadcastInDim S2560x1 ![0] bcast_S2560_S2560x1_0 (iotaInDim S2560 32 0)))) natLt_1_32)
        (constantI S_ 32 0#32) reducesTo_S2560x100096_S2560_d1 h_S_ := by
  rw [V_cut m 4 c main_v33, V_cut m 4 c main_v25]
  generalize Vat m 4 c = W
  after_reads_simp

theorem c5_at (c : Dev nD) : (V m c main_c_5 : S_.Idx → BitVec 32) = constantI S_ 32 0#32 := by
  rw [V_cut m 4 c main_c_5]
  generalize Vat m 4 c = W
  after_reads_simp

theorem c6_at (c : Dev nD) : (V m c main_c_6 : S_.Idx → BitVec 32) = constantI S_ 32 99999#32 := by
  rw [V_cut m 4 c main_c_6]
  generalize Vat m 4 c = W
  after_reads_simp

theorem v34_eq (c : Dev nD) : (V m c main_v34 : S2560.Idx → BitVec 32)
    = minsi (broadcastInDim S2560 ![] bcast_S_S2560 (V m c main_c_6 : S_.Idx → BitVec 32)) (maxsi (broadcastInDim S2560 ![] bcast_S_S2560 (V m c main_c_5 : S_.Idx → BitVec 32))
        (V m c main_v33 : S2560.Idx → BitVec 32)) := by
  rw [V_cut m 5 c main_v34, V_cut m 5 c main_v33, V_cut m 5 c main_c_5, V_cut m 5 c main_c_6]
  generalize Vat m 5 c = W
  refine funext fun x => ?_
  after_reads_at
  rfl

theorem v41_eq (c : Dev nD) : (V m c main_v41 : S2560.Idx → BitVec 32)
    = Host.gather gather_S100000_S2560x1_S2560_n_0_n_n_0_1_1 (V m c main_arg2 : S100000.Idx → BitVec 32) (broadcastInDim S2560x1 ![0] bcast_S2560_S2560x1_0
        (select (cmpi .slt (V m c main_v34 : S2560.Idx → BitVec 32) (broadcastInDim S2560 ![] bcast_S_S2560 (constantI S_ 32 0#32)))
          (addi (V m c main_v34 : S2560.Idx → BitVec 32) (broadcastInDim S2560 ![] bcast_S_S2560 (constantI S_ 32 100000#32))) (V m c main_v34 : S2560.Idx → BitVec 32))) := by
  rw [V_cut m 6 c main_v41, V_cut m 6 c main_v34, V_cut m 6 c main_arg2]
  generalize Vat m 6 c = W
  after_reads_simp

theorem v48_eq (c : Dev nD) : (V m c main_v48 : S2559.Idx → BitVec 32)
    = extui 32 (cmpi .ne (subi (extractStridedSlice S2559 ![1] (V m c main_v41 : S2560.Idx → BitVec 32) slices_S2560_S2559_1)
        (extractStridedSlice S2559 ![0] (V m c main_v41 : S2560.Idx → BitVec 32) slices_S2560_S2559_0)) (broadcastInDim S2559 ![] bcast_S_S2559 (constantI S_ 32 1#32))) natLt_1_32 := by
  rw [V_cut m 6 c main_v48, V_cut m 6 c main_v41]
  generalize Vat m 6 c = W
  after_reads_simp

theorem v47_eq (c : Dev nD) : (V m c main_v47 : S1.Idx → BitVec 32) = broadcastInDim S1 ![] bcast_S_S1 (constantI S_ 32 0#32) := by
  rw [V_cut m 6 c main_v47]
  generalize Vat m 6 c = W
  after_reads_simp

theorem v49_eq (c : Dev nD) : (V m c main_v49 : S2559.Idx → BitVec 32)
    = Host.reduceWindow IntOp.addi ![2559] ![1] ![2558] ![0] (V m c main_v48 : S2559.Idx → BitVec 32) (broadcastInDim S_ ![] bcast_S_S_ (constantI S_ 32 0#32))
        reduceWindows_S2559_S2559_w2559s1p2558_0 h_S_ := by
  rw [V_cut m 7 c main_v49, V_cut m 7 c main_v48]
  generalize Vat m 7 c = W
  refine funext fun x => ?_
  after_reads_at

theorem v50_eq (c : Dev nD) : (V m c main_v50 : S2560.Idx → BitVec 32)
    = concatenate S2560 0 [⟨S1, (V m c main_v47 : S1.Idx → BitVec 32)⟩, ⟨S2559, (V m c main_v49 : S2559.Idx → BitVec 32)⟩] concatenates_S1_S2559_S2560_d0 := by
  have h1 : V m c main_v47 = _ := V_cut m 8 c main_v47
  have h2 : V m c main_v49 = _ := V_cut m 8 c main_v49
  have h3 : V m c main_v50 = _ := V_cut m 8 c main_v50
  generalize Vat m 8 c = W at h1 h2 h3
  have h1' : V m c main_v47 = W main_v47 := h1.trans (by after_reads_simp)
  have h2' : V m c main_v49 = W main_v49 := h2.trans (by after_reads_simp)
  rw [h3, h1', h2']
  after_reads_simp
  rfl

theorem v55_eq (c : Dev nD) : (V m c main_v55 : S391.Idx → BitVec 32)
    = maxsi (subi (extractStridedSlice S391 ![1] (V m c main_v20 : S392.Idx → BitVec 32) slices_S392_S391_1) (broadcastInDim S391 ![] bcast_S_S391 (constantI S_ 32 1#32)))
        (extractStridedSlice S391 ![0] (V m c main_v20 : S392.Idx → BitVec 32) slices_S392_S391_0) := by
  rw [V_cut m 8 c main_v55, V_cut m 8 c main_v20]
  generalize Vat m 8 c = W
  after_reads_simp

/-- The lookups by block: from each table, wrapping a negative index. -/
theorem v62_eq (c : Dev nD) : (V m c main_v62 : S391.Idx → BitVec 32)
    = Host.gather gather_S2560_S391x1_S391_n_0_n_n_0_1_1 (V m c main_v50 : S2560.Idx → BitVec 32) (broadcastInDim S391x1 ![0] bcast_S391_S391x1_0
        (select (cmpi .slt (V m c main_v55 : S391.Idx → BitVec 32) (broadcastInDim S391 ![] bcast_S_S391 (constantI S_ 32 0#32)))
          (addi (V m c main_v55 : S391.Idx → BitVec 32) (broadcastInDim S391 ![] bcast_S_S391 (constantI S_ 32 2560#32))) (V m c main_v55 : S391.Idx → BitVec 32))) := by
  rw [V_cut m 8 c main_v62, V_cut m 8 c main_v50, V_cut m 8 c main_v55]
  generalize Vat m 8 c = W
  after_reads_simp

theorem v70_eq (c : Dev nD) : (V m c main_v70 : S391.Idx → BitVec 32)
    = Host.gather gather_S2560_S391x1_S391_n_0_n_n_0_1_1 (V m c main_v50 : S2560.Idx → BitVec 32) (broadcastInDim S391x1 ![0] bcast_S391_S391x1_0
        (select (cmpi .slt (extractStridedSlice S391 ![0] (V m c main_v20 : S392.Idx → BitVec 32) slices_S392_S391_0) (broadcastInDim S391 ![] bcast_S_S391 (constantI S_ 32 0#32)))
          (addi (extractStridedSlice S391 ![0] (V m c main_v20 : S392.Idx → BitVec 32) slices_S392_S391_0) (broadcastInDim S391 ![] bcast_S_S391 (constantI S_ 32 2560#32)))
          (extractStridedSlice S391 ![0] (V m c main_v20 : S392.Idx → BitVec 32) slices_S392_S391_0))) := by
  rw [V_cut m 8 c main_v70, V_cut m 8 c main_v50, V_cut m 8 c main_v20]
  generalize Vat m 8 c = W
  after_reads_simp

theorem v85_eq (c : Dev nD) : (V m c main_v85 : S391.Idx → BitVec 32)
    = Host.gather gather_S2560_S391x1_S391_n_0_n_n_0_1_1 (V m c main_v41 : S2560.Idx → BitVec 32) (broadcastInDim S391x1 ![0] bcast_S391_S391x1_0
        (select (cmpi .slt (extractStridedSlice S391 ![0] (V m c main_v20 : S392.Idx → BitVec 32) slices_S392_S391_0) (broadcastInDim S391 ![] bcast_S_S391 (constantI S_ 32 0#32)))
          (addi (extractStridedSlice S391 ![0] (V m c main_v20 : S392.Idx → BitVec 32) slices_S392_S391_0) (broadcastInDim S391 ![] bcast_S_S391 (constantI S_ 32 2560#32)))
          (extractStridedSlice S391 ![0] (V m c main_v20 : S392.Idx → BitVec 32) slices_S392_S391_0))) := by
  rw [V_cut m 8 c main_v85, V_cut m 8 c main_v41, V_cut m 8 c main_v20]
  generalize Vat m 8 c = W
  after_reads_simp

theorem v77_eq (c : Dev nD) : (V m c main_v77 : S391.Idx → BitVec 32)
    = extui 32 (andi (cmpi .eq (subi (V m c main_v62 : S391.Idx → BitVec 32) (V m c main_v70 : S391.Idx → BitVec 32)) (broadcastInDim S391 ![] bcast_S_S391 (constantI S_ 32 0#32)))
        (cmpi .sle (V m c main_v17 : S391.Idx → BitVec 32) (broadcastInDim S391 ![] bcast_S_S391 (constantI S_ 32 16#32)))) natLt_1_32 := by
  rw [V_cut m 8 c main_v77, V_cut m 8 c main_v62, V_cut m 8 c main_v70, V_cut m 8 c main_v17]
  generalize Vat m 8 c = W
  after_reads_simp

theorem v90_eq (c : Dev nD) : (V m c main_v90 : S391.Idx → BitVec 1)
    = cmpi .eq (V m c main_v77 : S391.Idx → BitVec 32) (broadcastInDim S391 ![] bcast_S_S391 (constantI S_ 32 1#32)) := by
  rw [V_cut m 10 c main_v90, V_cut m 10 c main_v77]
  generalize Vat m 10 c = W
  after_reads_simp

theorem v91_eq (c : Dev nD) : (V m c main_v91 : S391.Idx → BitVec 32) = subi (V m c main_v85 : S391.Idx → BitVec 32) (V m c main_v88 : S391.Idx → BitVec 32) := by
  rw [V_cut m 10 c main_v91, V_cut m 10 c main_v85, V_cut m 10 c main_v88]
  generalize Vat m 10 c = W
  after_reads_simp

theorem c23_at (c : Dev nD) : (V m c main_c_23 : S_.Idx → BitVec 32) = constantI S_ 32 0#32 := by
  rw [V_cut m 10 c main_c_23]
  generalize Vat m 10 c = W
  after_reads_simp

theorem v92_eq (c : Dev nD) : (V m c main_v92 : S391.Idx → BitVec 32)
    = select (V m c main_v90 : S391.Idx → BitVec 1) (V m c main_v91 : S391.Idx → BitVec 32) (broadcastInDim S391 ![] bcast_S_S391 (V m c main_c_23 : S_.Idx → BitVec 32)) := by
  rw [V_cut m 11 c main_v92, V_cut m 11 c main_v90, V_cut m 11 c main_v91, V_cut m 11 c main_c_23]
  generalize Vat m 11 c = W
  refine funext fun x => ?_
  after_reads_at
  rfl

theorem v97_eq (c : Dev nD) : (V m c main_v97 : S391x1x256.Idx → BitVec 32)
    = shapeCast S391x1x256 (addi (V m c main_v15 : S391x256.Idx → BitVec 32) (broadcastInDim S391x256 ![0, 1] bcast_S391x1_S391x256_0_1
        (broadcastInDim S391x1 ![0] bcast_S391_S391x1_0 (V m c main_v92 : S391.Idx → BitVec 32)))) shapeCasts_S391x256_S391x1x256 := by
  rw [V_cut m 14 c main_v97, V_cut m 14 c main_v15, V_cut m 14 c main_v92]
  generalize Vat m 14 c = W
  after_reads_simp
  rfl

theorem v102_eq (c : Dev nD) : (V m c main_v102 : S128x16.Idx → F .f32)
    = Host.scatter scatter_S128x16_S1_S128x12_01_n_1_0 (fun _ b => b) (broadcastInDim S128x16 ![] bcast_S_S128x16 (constant S_ .f32 0x00000000#32))
        (broadcastInDim S1 ![] bcast_S_S1 (constantI S_ 32 0#32))
        (transpose S128x12 [1, 0] (shapeCast S12x128 (V m c main_arg3 : S12x128x1.Idx → F .f32) shapeCasts_S12x128x1_S12x128) transposes_S12x128_S128x12_1_0) := by
  rw [V_cut m 14 c main_v102, V_cut m 14 c main_arg3]
  generalize Vat m 14 c = W
  after_reads_simp
  rfl

theorem v108_eq (c : Dev nD) : (V m c main_v108 : S1x16.Idx → F .f32)
    = Host.scatter scatter_S1x16_S2_S12_0_0_01_0 (fun _ b => b) (broadcastInDim S1x16 ![] bcast_S_S1x16 (constant S_ .f32 0x00000000#32))
        (V m c main_v107 : S2.Idx → BitVec 32) (shapeCast S12 (V m c main_arg4 : S12x1.Idx → F .f32) shapeCasts_S12x1_S12) := by
  rw [V_cut m 14 c main_v108, V_cut m 14 c main_v107, V_cut m 14 c main_arg4]
  generalize Vat m 14 c = W
  after_reads_simp
  rfl

theorem v107_eq (c : Dev nD) (x : S2.Idx) : (V m c main_v107 : S2.Idx → BitVec 32) x = 0#32 := by
  rw [V_cut m 14 c main_v107]
  generalize Vat m 14 c = W
  after_reads_at
  pointwise
  simp

theorem v110_eq (c : Dev nD) : (V m c main_v110 : S128x12.Idx → F .f32)
    = transpose S128x12 [1, 0] (shapeCast S12x128 (V m c main_arg11 : S12x128x1.Idx → F .f32) shapeCasts_S12x128x1_S12x128) transposes_S12x128_S128x12_1_0 := by
  rw [V_cut m 14 c main_v110, V_cut m 14 c main_arg11]
  generalize Vat m 14 c = W
  after_reads_simp
  rfl

theorem v112_eq (c : Dev nD) : (V m c main_v112 : S1x12.Idx → F .f32)
    = broadcastInDim S1x12 ![1] bcast_S12_S1x12_1 (shapeCast S12 (V m c main_arg12 : S12x1.Idx → F .f32) shapeCasts_S12x1_S12) := by
  rw [V_cut m 14 c main_v112, V_cut m 14 c main_arg12]
  generalize Vat m 14 c = W
  after_reads_simp
  rfl

end Cert.Proof.KernelIdeal

end
-- ==== Proof.Spec.lean ====
/-
  The problem's mathematics at an index, over the extended reals: the sums by graph, the three dense layers and the
  output column.
-/
module

public import Idealize.ShloMosaic.Lib.Pipeline.Frame
public import Idealize.ShloMosaic.PureOps.Ideal

@[expose] public section

noncomputable section

namespace Cert.Proof

open Idealize.ShloMosaic

/-- The sum over the first `N` nodes that lie in graph `d`. -/
def segSum (g : ℕ → ℕ) (N d : ℕ) (y : ℕ → EReal) : EReal := ∑ n ∈ Finset.range N, if g n = d then y n else 0

/-- A dense layer with the positive part taken, at one output. -/
def dense (h : Fin 128 → EReal) (w : Fin 128 → Fin 128 → EReal) (b : Fin 128 → EReal) (k : Fin 128) : EReal :=
  max ((∑ d : Fin 128, h d * w d k) + b k) 0

/-- The three layers and the output column of a row of sums. -/
def head (s : Fin 128 → EReal) (w1 : Fin 128 → Fin 128 → EReal) (b1 : Fin 128 → EReal) (w2 : Fin 128 → Fin 128 → EReal) (b2 : Fin 128 → EReal)
    (w3 : Fin 128 → Fin 128 → EReal) (b3 : Fin 128 → EReal) (wo : Fin 128 → EReal) (bo : EReal) : EReal :=
  (∑ d : Fin 128, dense (dense (dense s w1 b1) w2 b2) w3 b3 d * wo d) + bo

end Cert.Proof

end
-- ==== Proof.Dest.lean ====
/-
  The graph of a slot, and the sums over a block's slots, over the natural numbers.
-/
module

public import proofs.«01_k».proof.Proof.Slots
public import proofs.«01_k».proof.Proof.Spec

@[expose] public section

noncomputable section

namespace Cert.Proof

open Idealize.ShloMosaic

variable {g : ℕ → ℕ}

/-- How many nodes of the padded list have a slot below `j`. -/
def below (g : ℕ → ℕ) (j : ℕ) : ℕ := ((Finset.range 100096).filter fun n => slot g n < j).card

/-- The graph of slot `j`: that of the first node whose slot is not below `j`. -/
def dst (g : ℕ → ℕ) (j : ℕ) : ℕ := g (min (below g j) 99999)

theorem cnt_pos (n : ℕ) : 1 ≤ cnt g (n + 1) :=
  le_trans (by rw [cnt_succ, cnt_zero, if_pos (show flag g 0 from Or.inl rfl)]) (cnt_mono (g := g) (Nat.succ_le_succ (Nat.zero_le n)))

theorem slot_mono {a b : ℕ} (h : a ≤ b) : slot g a ≤ slot g b := Nat.sub_le_sub_right (cnt_mono (Nat.succ_le_succ h)) 1

/-- Slot `n` is node `n`'s graph. -/
theorem dst_slot (n : ℕ) (hn : n < 100000) : dst g (slot g n) = g n := by
  have hex : ∃ m, ¬ slot g m < slot g n := ⟨n, lt_irrefl _⟩
  obtain ⟨m0, h0, hlt⟩ : ∃ m0, ¬ slot g m0 < slot g n ∧ ∀ m < m0, slot g m < slot g n := ⟨Nat.find hex, Nat.find_spec hex, fun m hm => not_not.1 (Nat.find_min hex hm)⟩
  have hle : m0 ≤ n := by
    by_contra h
    exact absurd (hlt n (by omega)) (lt_irrefl _)
  have hset : (Finset.range 100096).filter (fun m => slot g m < slot g n) = Finset.range m0 := by
    ext m
    rw [Finset.mem_filter, Finset.mem_range, Finset.mem_range]
    constructor
    · rintro ⟨_, h⟩
      by_contra hm
      have := slot_mono (g := g) (show m0 ≤ m by omega)
      omega
    · intro h; exact ⟨by omega, hlt m h⟩
  have hb : below g (slot g n) = m0 := by unfold below; rw [hset, Finset.card_range]
  unfold dst
  rw [hb, min_eq_left (by omega)]
  have hs : cnt g (m0 + 1) = cnt g (n + 1) := by
    have h1 : slot g m0 ≤ slot g n := slot_mono hle
    have h2 := cnt_pos (g := g) m0
    have h3 := cnt_pos (g := g) n
    unfold slot at h0 h1
    omega
  have key : ∀ k, m0 + k ≤ n → g m0 = g (m0 + k) := by
    intro k
    induction k with
    | zero => intro _; rfl
    | succ k ih =>
      intro hk
      rw [ih (by omega)]
      have ha : cnt g (m0 + 1) ≤ cnt g (m0 + (k + 1)) := cnt_mono (by omega)
      have hb : cnt g (m0 + (k + 1) + 1) ≤ cnt g (n + 1) := cnt_mono (by omega)
      have hc := cnt_succ (g := g) (m0 + (k + 1))
      by_contra hne
      rw [if_pos (show flag g (m0 + (k + 1)) from Or.inr ⟨by omega, fun e => hne e.symm⟩)] at hc
      omega
  have := key (n - m0) (by omega)
  rwa [Nat.add_sub_cancel' hle] at this

/-- The slots a block opens: its nodes' slots, counted from the block's first. -/
theorem slot_range (b k : ℕ) (hk : k < 256) :
    cnt g (256 * b) < cnt g (256 * b + k + 1) ∧ cnt g (256 * b + k + 1) ≤ cnt g (256 * (b + 1)) := by
  refine ⟨?_, cnt_mono (by omega)⟩
  have h := cnt_succ (g := g) (256 * b)
  rw [if_pos (show flag g (256 * b) from Or.inl (Nat.mul_mod_right _ _))] at h
  have h2 : cnt g (256 * b + 1) ≤ cnt g (256 * b + k + 1) := cnt_mono (by omega)
  omega

/-- A block's sums by slot, added at the slots' graphs, are its sums by graph. -/
theorem slots_sum (b d : ℕ) (y : ℕ → EReal) (hy : ∀ k, 100000 ≤ 256 * b + k → y k = 0) :
    (∑ j ∈ Finset.range (cnt g (256 * (b + 1)) - cnt g (256 * b)), if dst g (cnt g (256 * b) + j) = d then
        (∑ k : Fin 256, if cnt g (256 * b + k.val + 1) - 1 - cnt g (256 * b) = j then y k.val else 0) else 0)
      = ∑ k : Fin 256, if g (256 * b + k.val) = d then y k.val else 0 := by
  have h1 : ∀ j, (if dst g (cnt g (256 * b) + j) = d then
        (∑ k : Fin 256, if cnt g (256 * b + k.val + 1) - 1 - cnt g (256 * b) = j then y k.val else 0) else 0)
      = ∑ k : Fin 256, if cnt g (256 * b + k.val + 1) - 1 - cnt g (256 * b) = j then (if dst g (cnt g (256 * b) + j) = d then y k.val else 0) else 0 := by
    intro j
    by_cases h : dst g (cnt g (256 * b) + j) = d
    · rw [if_pos h]; refine Finset.sum_congr rfl fun k _ => ?_; rw [if_pos h]
    · rw [if_neg h]; refine (Finset.sum_eq_zero fun k _ => ?_).symm; rw [if_neg h, ite_self]
  rw [Finset.sum_congr rfl fun j _ => h1 j, Finset.sum_comm]
  refine Finset.sum_congr rfl fun k _ => ?_
  obtain ⟨ha, hb⟩ := slot_range (g := g) b k.val k.isLt
  rw [Finset.sum_ite_eq, if_pos (Finset.mem_range.2 (by omega))]
  by_cases hk : 256 * b + k.val < 100000
  · rw [show cnt g (256 * b) + (cnt g (256 * b + k.val + 1) - 1 - cnt g (256 * b)) = slot g (256 * b + k.val) from by unfold slot; omega, dst_slot _ hk]
  · rw [hy k.val (by omega), ite_self, ite_self]

/-- Where a block's slots are consecutive graphs and at most 16, its sums by slot, shifted by the first graph's place in its eight rows, are its sums
    by graph in the 24 rows from there on, and it has none elsewhere. -/
theorem window_sum (b d : ℕ) (y : ℕ → EReal) (hy : ∀ k, 100000 ≤ 256 * b + k → y k = 0)
    (hn : cnt g (256 * (b + 1)) - cnt g (256 * b) ≤ 16)
    (hc : ∀ j, cnt g (256 * b) + j + 1 < cnt g (256 * (b + 1)) → dst g (cnt g (256 * b) + j + 1) = dst g (cnt g (256 * b) + j) + 1) :
    (if 8 * (dst g (cnt g (256 * b)) / 8) ≤ d ∧ d < 8 * (dst g (cnt g (256 * b)) / 8) + 24 then
        (∑ k : Fin 256, if cnt g (256 * b + k.val + 1) - 1 - cnt g (256 * b) + dst g (cnt g (256 * b)) % 8 = d - 8 * (dst g (cnt g (256 * b)) / 8) then y k.val else 0)
      else 0) = ∑ k : Fin 256, if g (256 * b + k.val) = d then y k.val else 0 := by
  have hstep : ∀ j, cnt g (256 * b) + j < cnt g (256 * (b + 1)) → dst g (cnt g (256 * b) + j) = dst g (cnt g (256 * b)) + j := by
    intro j
    induction j with
    | zero => intro _; rfl
    | succ j ih => intro h; rw [← Nat.add_assoc, hc j (by omega), ih (by omega), Nat.add_assoc]
  have hg : ∀ k < 256, 256 * b + k < 100000 → g (256 * b + k) = dst g (cnt g (256 * b)) + (cnt g (256 * b + k + 1) - 1 - cnt g (256 * b)) := by
    intro k hk hk'
    obtain ⟨ha, hb⟩ := slot_range (g := g) b k hk
    rw [← hstep _ (by omega), show cnt g (256 * b) + (cnt g (256 * b + k + 1) - 1 - cnt g (256 * b)) = slot g (256 * b + k) from by unfold slot; omega, dst_slot _ hk']
  have hterm : ∀ k : Fin 256, (if g (256 * b + k.val) = d then y k.val else 0)
      = if 8 * (dst g (cnt g (256 * b)) / 8) ≤ d ∧ d < 8 * (dst g (cnt g (256 * b)) / 8) + 24 then
        (if cnt g (256 * b + k.val + 1) - 1 - cnt g (256 * b) + dst g (cnt g (256 * b)) % 8 = d - 8 * (dst g (cnt g (256 * b)) / 8) then y k.val else 0) else 0 := by
    intro k
    obtain ⟨ha, hb⟩ := slot_range (g := g) b k.val k.isLt
    by_cases hk : 256 * b + k.val < 100000
    · rw [hg k.val k.isLt hk]
      by_cases he : dst g (cnt g (256 * b)) + (cnt g (256 * b + k.val + 1) - 1 - cnt g (256 * b)) = d
      · rw [if_pos he, if_pos (by omega), if_pos (by omega)]
      · rw [if_neg he]
        by_cases hw : 8 * (dst g (cnt g (256 * b)) / 8) ≤ d ∧ d < 8 * (dst g (cnt g (256 * b)) / 8) + 24
        · rw [if_pos hw, if_neg (by omega)]
        · rw [if_neg hw]
    · rw [hy k.val (by omega), ite_self, ite_self, ite_self]
  rw [Finset.sum_congr rfl fun k _ => hterm k]
  split
  · rfl
  · exact (Finset.sum_const_zero).symm

/-- The blocks' sums together are the sum over the nodes. -/
theorem blocks_sum (f : ℕ → EReal) (n : ℕ) : ∑ i ∈ Finset.range (256 * (n + 1)), f i = (∑ i ∈ Finset.range (256 * n), f i) + ∑ k : Fin 256, f (256 * n + k.val) := by
  rw [Nat.mul_succ, Finset.sum_range_add, ← Finset.sum_range (fun k => f (256 * n + k))]

end Cert.Proof

end
-- ==== Proof.SlotTablesIdeal.lean ====
/-
  The rest of the tables as the region finds them: the slot of every node, the graph of every slot, and when a block's
  slots go to consecutive graphs.
-/
module

public import proofs.«01_k».proof.Proof.LinksIdeal
public import proofs.«01_k».proof.Proof.Dest
public import Idealize.ShloMosaic.Lib.Pointwise

@[expose] public section

noncomputable section

namespace Cert.Proof.KernelIdeal

open Cert.KernelIdeal Cert.KernelIdeal.Gen
open Idealize.ShloMosaic Idealize.ShloMosaic.TcCoe Idealize.ShloMosaic.Tactic

variable {F : FTy → Type} [FloatOps F]
variable (m : (ℓ : Loc nD τ sig) → Buf (Elt F) ℓ)

/-- A difference of words that does not go below zero. -/
theorem sub_word (a b : ℕ) (h : b ≤ a) : IntOp.subi (BitVec.ofNat 32 a) (BitVec.ofNat 32 b) = BitVec.ofNat 32 (a - b) := by
  have e : BitVec.ofNat 32 a = BitVec.ofNat 32 (a - b) + BitVec.ofNat 32 b := by rw [← BitVec.ofNat_add, Nat.sub_add_cancel h]
  show BitVec.ofNat 32 a - BitVec.ofNat 32 b = _
  rw [e, BitVec.add_sub_cancel]

/-- A wrapped index that is not negative. -/
theorem wrap_word (a : ℕ) (ha : a < 2 ^ 31) (z : BitVec 32) : Scalar.select (IntOp.cmpi .slt (BitVec.ofNat 32 a) 0#32) z (BitVec.ofNat 32 a) = BitVec.ofNat 32 a :=
  Routing.wrap_of_lt _ _ (by rw [BitVec.toNat_ofNat]; omega)

/-- A vector of indices as a lookup takes them, wrapping those that are negative, where one is not. -/
theorem wrapped_slots (x z : S2560.Idx → BitVec 32) (j : Fin 2560) (a : ℕ) (hx : x (ValueIdx.ix1 j) = BitVec.ofNat 32 a) (ha : a < 2 ^ 31) :
    (broadcastInDim S2560x1 ![0] bcast_S2560_S2560x1_0 (select (cmpi .slt x (broadcastInDim S2560 ![] bcast_S_S2560 (constantI S_ 32 0#32))) z x) : S2560x1.Idx → BitVec 32)
      (ValueIdx.ix2 j 0) = BitVec.ofNat 32 a := by
  pointwise
  show Scalar.select (IntOp.cmpi .slt (x (ValueIdx.ix1 j)) 0#32) (z (ValueIdx.ix1 j)) (x (ValueIdx.ix1 j)) = _
  rw [hx]
  exact wrap_word a ha _

theorem wrapped_blocks (x z : S391.Idx → BitVec 32) (j : Fin 391) (a : ℕ) (hx : x (ValueIdx.ix1 j) = BitVec.ofNat 32 a) (ha : a < 2 ^ 31) :
    (broadcastInDim S391x1 ![0] bcast_S391_S391x1_0 (select (cmpi .slt x (broadcastInDim S391 ![] bcast_S_S391 (constantI S_ 32 0#32))) z x) : S391x1.Idx → BitVec 32)
      (ValueIdx.ix2 j 0) = BitVec.ofNat 32 a := by
  pointwise
  show Scalar.select (IntOp.cmpi .slt (x (ValueIdx.ix1 j)) 0#32) (z (ValueIdx.ix1 j)) (x (ValueIdx.ix1 j)) = _
  rw [hx]
  exact wrap_word a ha _

/-- A node's slot within its block. -/
theorem v15_at (c : Dev nD) (p : Fin 391) (k : Fin 256) :
    (V m c main_v15 : S391x256.Idx → BitVec 32) (ValueIdx.ix2 p k)
      = BitVec.ofNat 32 (cnt (graph m c) (256 * p.val + k.val + 1) - 1 - cnt (graph m c) (256 * p.val)) := by
  refine (congrFun (v15_eq m c) _).trans ?_
  show IntOp.subi ((V m c main_v13 : S391x256.Idx → BitVec 32) (ValueIdx.ix2 p k)) (BitVec.ofNat 32 1) = _
  have h := slot_range (g := graph m c) p.val k.val k.isLt
  rw [v13_at, sub_word _ _ (by rw [← Nat.add_assoc]; omega)]
  exact congrArg _ (by rw [← Nat.add_assoc]; omega)

/-- A node's slot. -/
theorem v25_at (c : Dev nD) (q : Fin 100096) : (V m c main_v25 : S100096.Idx → BitVec 32) (ValueIdx.ix1 q) = BitVec.ofNat 32 (slot (graph m c) q.val) := by
  have hq := q.isLt
  rw [v25_eq]
  pointwise
  have h := slot_range (g := graph m c) (q.val / 256) (q.val % 256) (Nat.mod_lt _ (by decide))
  rw [show 256 * (q.val / 256) + q.val % 256 = q.val by omega] at h
  refine (congrArg₂ IntOp.addi (v15_at m c ⟨q.val / 256, by omega⟩ ⟨q.val % 256, Nat.mod_lt _ (by decide)⟩) (v20_at m c ⟨q.val / 256, by omega⟩)).trans ?_
  refine (BitVec.ofNat_add _ _).symm.trans (congrArg _ ?_)
  show cnt (graph m c) (256 * (q.val / 256) + q.val % 256 + 1) - 1 - cnt (graph m c) (256 * (q.val / 256)) + cnt (graph m c) (256 * (q.val / 256)) = cnt (graph m c) (q.val + 1) - 1
  rw [show 256 * (q.val / 256) + q.val % 256 = q.val by omega]
  omega

theorem slot_lt (c : Dev nD) (h : InOrder m c) (n : ℕ) (hn : n < 100096) : slot (graph m c) n < 2390 := by
  have h1 := cnt_le h.asc h.lt (n + 1) (by omega)
  have h2 := cnt_pos (g := graph m c) n
  unfold slot; omega

/-- How many nodes have a lower slot. -/
theorem v33_at (c : Dev nD) (h : InOrder m c) (j : Fin 2560) : (V m c main_v33 : S2560.Idx → BitVec 32) (ValueIdx.ix1 j) = BitVec.ofNat 32 (below (graph m c) j.val) := by
  rw [v33_eq]
  refine (Routing.reduce_count (by decide) _ _ _ _ j (fun n => slot (graph m c) n < j.val) fun q => ?_).trans (congrArg _ ?_)
  · pointwise
    have hj := j.isLt
    have hq := q.isLt
    have hs := slot_lt m c h q.val hq
    show BitVec.ofBool (((V m c main_v25 : S100096.Idx → BitVec 32) (ValueIdx.ix1 q)).slt (BitVec.ofNat 32 j.val)) = 1#1 ↔ _
    rw [v25_at, Routing.slt_ofNat32 (by omega) (by omega)]
    by_cases hlt : slot (graph m c) q.val < j.val <;> simp [hlt]
  · unfold below
    exact Nat.count_eq_card_filter_range _ _

theorem below_le (g : ℕ → ℕ) (j : ℕ) : below g j ≤ 100096 :=
  le_trans (Finset.card_filter_le _ _) (by rw [Finset.card_range])

/-- The same, clipped to the nodes. -/
theorem v34_at (c : Dev nD) (h : InOrder m c) (j : Fin 2560) :
    (V m c main_v34 : S2560.Idx → BitVec 32) (ValueIdx.ix1 j) = BitVec.ofNat 32 (min (below (graph m c) j.val) 99999) := by
  refine (congrFun (v34_eq m c) _).trans ?_
  have hb := below_le (graph m c) j.val
  rw [c5_at, c6_at]
  show IntOp.minsi (BitVec.ofNat 32 99999) (IntOp.maxsi (BitVec.ofNat 32 0) ((V m c main_v33 : S2560.Idx → BitVec 32) (ValueIdx.ix1 j))) = _
  rw [v33_at m c h, Routing.clip_word (by omega) (by omega) (by omega), Nat.max_eq_left (Nat.zero_le _)]

theorem V_graph (c : Dev nD) : (V m c main_arg2 : S100000.Idx → BitVec 32) = m (c, Proc.devRef .tc main_arg2) := by
  unfold V; after_reads_simp

/-- The second table: the graph of a slot. -/
theorem v41_at (c : Dev nD) (h : InOrder m c) (j : Fin 2560) : (V m c main_v41 : S2560.Idx → BitVec 32) (ValueIdx.ix1 j) = BitVec.ofNat 32 (dst (graph m c) j.val) := by
  refine (congrFun (v41_eq m c) _).trans ?_
  refine (Routing.gather_take1 _ rfl rfl rfl rfl _ _ j ⟨min (below (graph m c) j.val) 99999, by omega⟩ ?_ (by decide)).trans ?_
  · exact wrapped_slots _ _ j _ (v34_at m c h j) (lt_of_le_of_lt (Nat.min_le_right _ _) (by decide))
  · rw [V_graph]
    exact graph_word m c _ _

theorem dst_lt (c : Dev nD) (h : InOrder m c) (j : ℕ) : dst (graph m c) j < 2000 := h.lt _ (by omega)

/-- The graph of slot `j + 1` does not follow that of slot `j`. -/
def bad (g : ℕ → ℕ) (j : ℕ) : Prop := dst g (j + 1) ≠ dst g j + 1

instance (g : ℕ → ℕ) : DecidablePred (bad g) := fun j => by unfold bad; infer_instance

theorem v48_at (c : Dev nD) (h : InOrder m c) (i : Fin 2559) :
    (V m c main_v48 : S2559.Idx → BitVec 32) (ValueIdx.ix1 i) = BitVec.ofNat 32 (if bad (graph m c) i.val then 1 else 0) := by
  refine (congrFun (v48_eq m c) _).trans ?_
  have e1 : (V m c main_v41 : S2560.Idx → BitVec 32) (fun b => ⟨(![1] : Fin 1 → ℕ) b + (ValueIdx.ix1 i b).val, by have := i.isLt; match b with | ⟨0, _⟩ => show 1 + i.val < 2560; omega⟩)
      = BitVec.ofNat 32 (dst (graph m c) (i.val + 1)) := by
    rw [← v41_at m c h ⟨i.val + 1, by omega⟩]
    exact congrArg (V m c main_v41 : S2560.Idx → BitVec 32) (funext fun b => Fin.ext (by match b with | ⟨0, _⟩ => exact Nat.add_comm _ _))
  have e0 : (V m c main_v41 : S2560.Idx → BitVec 32) (fun b => ⟨(![0] : Fin 1 → ℕ) b + (ValueIdx.ix1 i b).val, by have := i.isLt; match b with | ⟨0, _⟩ => show 0 + i.val < 2560; omega⟩)
      = BitVec.ofNat 32 (dst (graph m c) i.val) := by
    rw [← v41_at m c h ⟨i.val, by omega⟩]
    exact congrArg (V m c main_v41 : S2560.Idx → BitVec 32) (funext fun b => Fin.ext (by match b with | ⟨0, _⟩ => exact Nat.zero_add _))
  refine (congrArg (fun z => BitVec.setWidth 32 (IntOp.cmpi .ne z 1#32)) (congrArg₂ IntOp.subi e1 e0)).trans ?_
  have d1 := dst_lt m c h (i.val + 1)
  have d0 := dst_lt m c h i.val
  have key : IntOp.subi (BitVec.ofNat 32 (dst (graph m c) (i.val + 1))) (BitVec.ofNat 32 (dst (graph m c) i.val)) = 1#32 ↔ ¬ bad (graph m c) i.val := by
    unfold bad
    rw [not_not]
    generalize dst (graph m c) (i.val + 1) = a at *
    generalize dst (graph m c) i.val = b at *
    constructor
    · intro e
      have e' : BitVec.ofNat 32 a = BitVec.ofNat 32 (b + 1) := by
        have := congrArg (· + BitVec.ofNat 32 b) e
        simp only [IntOp.subi, BitVec.sub_add_cancel] at this
        rw [this, Nat.add_comm, BitVec.ofNat_add]
      have := congrArg BitVec.toNat e'
      rw [BitVec.toNat_ofNat, BitVec.toNat_ofNat] at this
      omega
    · rintro rfl
      rw [sub_word _ _ (by omega), Nat.add_sub_cancel_left]
  by_cases hb : bad (graph m c) i.val
  · rw [if_pos hb]
    exact cmpi_ne_word _ _ fun e => key.1 e hb
  · rw [if_neg hb]
    exact cmpi_eq_word _ _ (key.2 hb)

/-- How many slots below `j` are not followed by the next graph. -/
def bads (g : ℕ → ℕ) (j : ℕ) : ℕ := Nat.count (bad g) j

theorem v49_at (c : Dev nD) (h : InOrder m c) (i : Fin 2559) :
    (V m c main_v49 : S2559.Idx → BitVec 32) (ValueIdx.ix1 i) = BitVec.ofNat 32 (bads (graph m c) (i.val + 1)) := by
  refine (congrFun (v49_eq m c) _).trans ?_
  refine (Routing.cumsum1 rfl _ (fun i => if bad (graph m c) i then 1 else 0) (v48_at m c h) _ rfl _ _ i).trans (congrArg _ ?_)
  unfold bads
  generalize i.val + 1 = n
  induction n with
  | zero => rfl
  | succ n ih => rw [List.range_succ, List.map_append, List.sum_append, ih, Nat.count_succ]; simp

theorem v50_at (c : Dev nD) (h : InOrder m c) (i : Fin 2560) :
    (V m c main_v50 : S2560.Idx → BitVec 32) (ValueIdx.ix1 i) = BitVec.ofNat 32 (bads (graph m c) i.val) := by
  rw [v50_eq]
  pointwise
  have hi := i.isLt
  by_cases h0 : i.val < 1
  · refine (dif_pos h0).trans ?_
    refine (congrFun (v47_eq m c) _).trans ?_
    show BitVec.ofNat 32 0 = _
    rw [show i.val = 0 by omega]; rfl
  · refine (dif_neg h0).trans ((v49_at m c h ⟨i.val - 1, by omega⟩).trans (congrArg _ (congrArg _ ?_)))
    show i.val - 1 + 1 = i.val
    omega

theorem cnt_small (c : Dev nD) (h : InOrder m c) (p : ℕ) (hp : p ≤ 391) : cnt (graph m c) (256 * p) ≤ 2390 := cnt_le h.asc h.lt _ (by omega)

theorem off_lo (c : Dev nD) (p : Fin 391) :
    (extractStridedSlice S391 ![0] (V m c main_v20 : S392.Idx → BitVec 32) slices_S392_S391_0 : S391.Idx → BitVec 32) (ValueIdx.ix1 p)
      = BitVec.ofNat 32 (cnt (graph m c) (256 * p.val)) := by
  pointwise
  refine Eq.trans (congrArg (V m c main_v20 : S392.Idx → BitVec 32) (funext fun b => Fin.ext ?_)) (v20_at m c ⟨p.val, by omega⟩)
  match b with
  | ⟨0, _⟩ => rfl

theorem off_hi (c : Dev nD) (p : Fin 391) :
    (extractStridedSlice S391 ![1] (V m c main_v20 : S392.Idx → BitVec 32) slices_S392_S391_1 : S391.Idx → BitVec 32) (ValueIdx.ix1 p)
      = BitVec.ofNat 32 (cnt (graph m c) (256 * (p.val + 1))) := by
  pointwise
  refine Eq.trans (congrArg (V m c main_v20 : S392.Idx → BitVec 32) (funext fun b => Fin.ext ?_)) (v20_at m c ⟨p.val + 1, by omega⟩)
  match b with
  | ⟨0, _⟩ => exact Nat.add_comm 1 p.val

/-- The last slot of a block. -/
theorem v55_at (c : Dev nD) (h : InOrder m c) (p : Fin 391) :
    (V m c main_v55 : S391.Idx → BitVec 32) (ValueIdx.ix1 p) = BitVec.ofNat 32 (cnt (graph m c) (256 * (p.val + 1)) - 1) := by
  refine (congrFun (v55_eq m c) _).trans ?_
  have hr := slot_range (g := graph m c) p.val 0 (by decide)
  have h1 := cnt_small m c h (p.val + 1) (by omega)
  refine (congrArg₂ (fun a b => IntOp.maxsi (IntOp.subi a (BitVec.ofNat 32 1)) b) (off_hi m c p) (off_lo m c p)).trans ?_
  show IntOp.maxsi (IntOp.subi (BitVec.ofNat 32 (cnt (graph m c) (256 * (p.val + 1)))) (BitVec.ofNat 32 1)) (BitVec.ofNat 32 (cnt (graph m c) (256 * p.val))) = _
  rw [sub_word _ _ (by omega)]
  unfold IntOp.maxsi
  rw [Routing.slt_ofNat32 (by omega) (by omega)]
  by_cases hlt : cnt (graph m c) (256 * p.val) < cnt (graph m c) (256 * (p.val + 1)) - 1
  · rw [if_pos (decide_eq_true hlt)]
  · rw [if_neg fun e => hlt (of_decide_eq_true e)]
    exact congrArg _ (by omega)

theorem v62_at (c : Dev nD) (h : InOrder m c) (p : Fin 391) :
    (V m c main_v62 : S391.Idx → BitVec 32) (ValueIdx.ix1 p) = BitVec.ofNat 32 (bads (graph m c) (cnt (graph m c) (256 * (p.val + 1)) - 1)) := by
  have h1 := cnt_small m c h (p.val + 1) (by omega)
  refine (congrFun (v62_eq m c) _).trans ?_
  exact (Routing.gather_take1 _ rfl rfl rfl rfl _ _ p ⟨cnt (graph m c) (256 * (p.val + 1)) - 1, by omega⟩
    (wrapped_blocks _ _ p _ (v55_at m c h p) (by omega)) (by decide)).trans (v50_at m c h _)

theorem v70_at (c : Dev nD) (h : InOrder m c) (p : Fin 391) :
    (V m c main_v70 : S391.Idx → BitVec 32) (ValueIdx.ix1 p) = BitVec.ofNat 32 (bads (graph m c) (cnt (graph m c) (256 * p.val))) := by
  have h1 := cnt_small m c h p.val (by omega)
  refine (congrFun (v70_eq m c) _).trans ?_
  exact (Routing.gather_take1 _ rfl rfl rfl rfl _ _ p ⟨cnt (graph m c) (256 * p.val), by omega⟩
    (wrapped_blocks _ _ p _ (off_lo m c p) (by omega)) (by decide)).trans (v50_at m c h _)

/-- The graph of a block's first slot. -/
theorem v85_at (c : Dev nD) (h : InOrder m c) (p : Fin 391) :
    (V m c main_v85 : S391.Idx → BitVec 32) (ValueIdx.ix1 p) = BitVec.ofNat 32 (dst (graph m c) (cnt (graph m c) (256 * p.val))) := by
  have h1 := cnt_small m c h p.val (by omega)
  refine (congrFun (v85_eq m c) _).trans ?_
  exact (Routing.gather_take1 _ rfl rfl rfl rfl _ _ p ⟨cnt (graph m c) (256 * p.val), by omega⟩
    (wrapped_blocks _ _ p _ (off_lo m c p) (by omega)) (by decide)).trans (v41_at m c h _)

/-- A block's slots go to consecutive graphs and are at most 16. -/
def fast (g : ℕ → ℕ) (p : ℕ) : Prop := bads g (cnt g (256 * (p + 1)) - 1) = bads g (cnt g (256 * p)) ∧ cnt g (256 * (p + 1)) - cnt g (256 * p) ≤ 16

instance (g : ℕ → ℕ) : DecidablePred (fast g) := fun p => by unfold fast; infer_instance

/-- As many bad slots below `b` as below `a` leave none between. -/
theorem good_between (g : ℕ → ℕ) (a b : ℕ) (h : bads g b = bads g a) (i : ℕ) (ha : a ≤ i) (hb : i < b) : dst g (i + 1) = dst g i + 1 := by
  by_contra hc
  have h1 : bads g a ≤ bads g i := Nat.count_monotone _ ha
  have h2 : bads g (i + 1) ≤ bads g b := Nat.count_monotone _ hb
  have h3 : bads g (i + 1) = bads g i + 1 := (Nat.count_succ _ _).trans (by rw [if_pos (show bad g i from hc)]; rfl)
  omega

theorem bads_le (g : ℕ → ℕ) (j : ℕ) : bads g j ≤ j := Nat.count_le _

/-- The third table: whether they are. -/
theorem v77_at (c : Dev nD) (h : InOrder m c) (p : Fin 391) :
    (V m c main_v77 : S391.Idx → BitVec 32) (ValueIdx.ix1 p) = if fast (graph m c) p.val then 1#32 else 0#32 := by
  refine (congrFun (v77_eq m c) _).trans ?_
  have h0 := cnt_small m c h p.val (by omega)
  have h1 := cnt_small m c h (p.val + 1) (by omega)
  have b0 := bads_le (graph m c) (cnt (graph m c) (256 * p.val))
  have b1 := bads_le (graph m c) (cnt (graph m c) (256 * (p.val + 1)) - 1)
  have hm : bads (graph m c) (cnt (graph m c) (256 * p.val)) ≤ bads (graph m c) (cnt (graph m c) (256 * (p.val + 1)) - 1) := Nat.count_monotone _ (by
    have := slot_range (g := graph m c) p.val 0 (by decide)
    omega)
  show BitVec.setWidth 32 (IntOp.andi (IntOp.cmpi .eq (IntOp.subi ((V m c main_v62 : S391.Idx → BitVec 32) (ValueIdx.ix1 p)) ((V m c main_v70 : S391.Idx → BitVec 32) (ValueIdx.ix1 p))) 0#32)
    (BitVec.ofBool (((V m c main_v17 : S391.Idx → BitVec 32) (ValueIdx.ix1 p)).sle (BitVec.ofNat 32 16)))) = _
  rw [v62_at m c h, v70_at m c h, v17_at, sub_word _ _ hm, Routing.sle_ofNat32 (by omega) (by omega)]
  have hf : fast (graph m c) p.val ↔ bads (graph m c) (cnt (graph m c) (256 * (p.val + 1)) - 1) = bads (graph m c) (cnt (graph m c) (256 * p.val)) ∧
      cnt (graph m c) (256 * (p.val + 1)) - cnt (graph m c) (256 * p.val) ≤ 16 := Iff.rfl
  generalize bads (graph m c) (cnt (graph m c) (256 * (p.val + 1)) - 1) = B1 at *
  generalize bads (graph m c) (cnt (graph m c) (256 * p.val)) = B0 at *
  generalize cnt (graph m c) (256 * (p.val + 1)) - cnt (graph m c) (256 * p.val) = n at *
  by_cases hB : B1 = B0
  · subst hB
    rw [Nat.sub_self]
    by_cases hn : n ≤ 16
    · rw [if_pos (hf.2 ⟨rfl, hn⟩), decide_eq_true hn]; rfl
    · rw [if_neg fun e => hn (hf.1 e).2, decide_eq_false hn]; rfl
  · rw [if_neg fun e => hB (hf.1 e).1]
    have e : IntOp.cmpi .eq (BitVec.ofNat 32 (B1 - B0)) 0#32 = 0#1 := by
      have hne : BitVec.ofNat 32 (B1 - B0) ≠ 0#32 := fun e => by
        have := congrArg BitVec.toNat e
        rw [BitVec.toNat_ofNat, BitVec.toNat_ofNat] at this; omega
      unfold IntOp.cmpi; simp only [beq_eq_false_iff_ne.2 hne]; rfl
    rw [e]
    generalize BitVec.ofBool (decide (n ≤ 16)) = z
    revert z
    decide

/-- The shift of a block's slots: from the multiple of eight below the first slot's graph, if the block is fast. -/
def shift (g : ℕ → ℕ) (p : ℕ) : ℕ := if fast g p then dst g (cnt g (256 * p)) % 8 else 0

theorem v92_at (c : Dev nD) (h : InOrder m c) (p : Fin 391) : (V m c main_v92 : S391.Idx → BitVec 32) (ValueIdx.ix1 p) = BitVec.ofNat 32 (shift (graph m c) p.val) := by
  refine (congrFun (v92_eq m c) _).trans ?_
  have hd := dst_lt m c h (cnt (graph m c) (256 * p.val))
  rw [c23_at]
  show Scalar.select ((V m c main_v90 : S391.Idx → BitVec 1) (ValueIdx.ix1 p)) ((V m c main_v91 : S391.Idx → BitVec 32) (ValueIdx.ix1 p)) (BitVec.ofNat 32 0) = _
  have e90 : (V m c main_v90 : S391.Idx → BitVec 1) (ValueIdx.ix1 p) = IntOp.cmpi .eq (if fast (graph m c) p.val then 1#32 else 0#32) 1#32 :=
    (congrFun (v90_eq m c) _).trans (congrArg (fun z => IntOp.cmpi .eq z 1#32) (v77_at m c h p))
  have e91 : (V m c main_v91 : S391.Idx → BitVec 32) (ValueIdx.ix1 p) = BitVec.ofNat 32 (dst (graph m c) (cnt (graph m c) (256 * p.val)) % 8) := by
    refine (congrFun (v91_eq m c) _).trans ((congrArg₂ IntOp.subi (v85_at m c h p) (v88_at m c _ _ hd (v85_at m c h p))).trans ?_)
    rw [sub_word _ _ (Nat.div_mul_le_self _ _)]
    exact congrArg _ (by omega)
  rw [e90, e91]
  unfold shift
  by_cases hf : fast (graph m c) p.val
  · rw [if_pos hf, if_pos hf]; rfl
  · rw [if_neg hf, if_neg hf]; rfl

/-- The slot row of a block. -/
theorem v97_at (c : Dev nD) (h : InOrder m c) (p : Fin 391) (k : Fin 256) :
    (V m c main_v97 : S391x1x256.Idx → BitVec 32) (ValueIdx.ix3 p 0 k)
      = BitVec.ofNat 32 (cnt (graph m c) (256 * p.val + k.val + 1) - 1 - cnt (graph m c) (256 * p.val) + shift (graph m c) p.val) := by
  have hp := p.isLt
  have hk := k.isLt
  rw [v97_eq]
  pointwise
  refine Eq.trans ?_ (BitVec.ofNat_add _ _).symm
  refine (congrArg₂ IntOp.addi (Eq.trans (congrArg (V m c main_v15 : S391x256.Idx → BitVec 32) ?_) (v15_at m c p k))
    (Eq.trans (congrArg (V m c main_v92 : S391.Idx → BitVec 32) ?_) (v92_at m c h p)))
  · refine funext fun b => Fin.ext ?_
    match b with
    | ⟨0, _⟩ => simp
    | ⟨1, _⟩ => simp
  · refine funext fun b => Fin.ext ?_
    match b with
    | ⟨0, _⟩ => simp

end Cert.Proof.KernelIdeal

end
-- ==== Proof.ParamsIdeal.lean ====
/-
  The padded and transposed parameters as the region finds them, at an index, in terms of the arguments.
-/
module

public import proofs.«01_k».proof.Proof.LinksIdeal
public import proofs.«01_k».proof.Proof.ArgsIdeal
public import Idealize.ShloMosaic.Lib.Routing.OpsPair
public import Idealize.ShloMosaic.Lib.Pointwise

@[expose] public section

noncomputable section

namespace Cert.Proof.KernelIdeal

open Cert.KernelIdeal Cert.KernelIdeal.Gen
open Idealize.ShloMosaic Idealize.ShloMosaic.TcCoe Idealize.ShloMosaic.Tactic

variable {F : FTy → Type} [FloatOps F]
variable (m : (ℓ : Loc nD τ sig) → Buf (Elt F) ℓ)

/-- Where an entry of the gates' weights lands in the padded matrix: at its own place. -/
theorem weight_lands (idx : IVec S1 32) (h : ∀ x, idx x = 0#32) (d : Fin 128) (t : Fin 12) (r : Fin 128) (c : Fin 16) :
    (scatter_S128x16_S1_S128x12_01_n_1_0).resultIdx? (ValueIdx.ix2 d t) idx = some (ValueIdx.ix2 r c) ↔ d = r ∧ t.val = c.val := by
  refine (Routing.resultIdx?_ix2 _ _ _ r c).trans ?_
  have s0 : (scatter_S128x16_S1_S128x12_01_n_1_0).start (ValueIdx.ix2 d t) idx 0 = 0 := rfl
  have s1 : (scatter_S128x16_S1_S128x12_01_n_1_0).start (ValueIdx.ix2 d t) idx 1 = 0 := by
    unfold ScatterDims.start
    rw [dif_pos (by decide), h]; rfl
  have w0 : (scatter_S128x16_S1_S128x12_01_n_1_0).window (ValueIdx.ix2 d t) 0 = d.val := rfl
  have w1 : (scatter_S128x16_S1_S128x12_01_n_1_0).window (ValueIdx.ix2 d t) 1 = t.val := rfl
  rw [s0, s1, w0, w1]
  constructor
  · rintro ⟨a, b⟩; exact ⟨Fin.ext (by omega), by omega⟩
  · rintro ⟨rfl, b⟩; exact ⟨by omega, by omega⟩

/-- Where a gate's bias lands in the padded row. -/
theorem bias_lands (idx : IVec S2 32) (h : ∀ x, idx x = 0#32) (t : Fin 12) (r : Fin 1) (c : Fin 16) :
    (scatter_S1x16_S2_S12_0_0_01_0).resultIdx? (ValueIdx.ix1 t) idx = some (ValueIdx.ix2 r c) ↔ t.val = c.val := by
  refine (Routing.resultIdx?_ix2 _ _ _ r c).trans ?_
  have s0 : (scatter_S1x16_S2_S12_0_0_01_0).start (ValueIdx.ix1 t) idx 0 = 0 := by
    unfold ScatterDims.start
    rw [dif_pos (by decide), h]; rfl
  have s1 : (scatter_S1x16_S2_S12_0_0_01_0).start (ValueIdx.ix1 t) idx 1 = 0 := by
    unfold ScatterDims.start
    rw [dif_pos (by decide), h]; rfl
  have w0 : (scatter_S1x16_S2_S12_0_0_01_0).window (ValueIdx.ix1 t) 0 = 0 := rfl
  have w1 : (scatter_S1x16_S2_S12_0_0_01_0).window (ValueIdx.ix1 t) 1 = t.val := rfl
  rw [s0, s1, w0, w1]
  have hr := r.isLt
  constructor
  · rintro ⟨a, b⟩; omega
  · rintro b; exact ⟨by omega, by omega⟩

/-- A transposed parameter of one column a task. -/
theorem column_at (x : S12x128x1.Idx → F .f32) (d : Fin 128) (t : Fin 12) :
    (transpose S128x12 [1, 0] (shapeCast S12x128 x shapeCasts_S12x128x1_S12x128) transposes_S12x128_S128x12_1_0 : S128x12.Idx → F .f32) (ValueIdx.ix2 d t)
      = x (ValueIdx.ix3 t d 0) := by
  have ht := t.isLt
  have hd := d.isLt
  pointwise
  refine congrArg x (funext fun a => Fin.ext ?_)
  fin_cases a <;> simp <;> omega

/-- The gates' weights. -/
theorem v102_at (c : Dev nD) (d : Fin 128) (t : Fin 12) :
    (V m c main_v102 : S128x16.Idx → F .f32) (ValueIdx.ix2 d ⟨t.val, by omega⟩) = (m (c, Proc.devRef .tc main_arg3) : S12x128x1.Idx → F .f32) (ValueIdx.ix3 t d 0) := by
  rw [v102_eq, V_arg3]
  refine Routing.scatter_set_hit _ _ _ _ _ _ (fun k hk => ?_) (ValueIdx.ix2 d t) ((weight_lands _ (fun _ => rfl) _ _ _ _).2 ⟨rfl, rfl⟩)
  rw [ValueIdx.eq_ix2 k] at hk ⊢
  obtain ⟨h1, h2⟩ := (weight_lands _ (fun _ => rfl) _ _ _ _).1 hk
  refine (column_at _ _ _).trans ?_
  rw [h1, show k 1 = t from Fin.ext h2]

/-- The gates' biases. -/
theorem v108_at (c : Dev nD) (t : Fin 12) :
    (V m c main_v108 : S1x16.Idx → F .f32) (ValueIdx.ix2 0 ⟨t.val, by omega⟩) = (m (c, Proc.devRef .tc main_arg4) : S12x1.Idx → F .f32) (ValueIdx.ix2 t 0) := by
  have key : ∀ k : Fin 12, (shapeCast S12 (m (c, Proc.devRef .tc main_arg4) : S12x1.Idx → F .f32) shapeCasts_S12x1_S12 : S12.Idx → F .f32) (ValueIdx.ix1 k)
      = (m (c, Proc.devRef .tc main_arg4) : S12x1.Idx → F .f32) (ValueIdx.ix2 k 0) := fun k => by
    have hk := k.isLt
    pointwise
    refine congrArg (m (c, Proc.devRef .tc main_arg4) : S12x1.Idx → F .f32) (funext fun a => Fin.ext ?_)
    fin_cases a <;> simp <;> omega
  rw [v108_eq, V_arg4]
  refine Routing.scatter_set_hit _ _ _ _ _ _ (fun k hk => ?_) (ValueIdx.ix1 t) ((bias_lands _ (v107_eq m c) _ _ _).2 rfl)
  rw [ValueIdx.eq_ix1 k] at hk ⊢
  have h2 := (bias_lands _ (v107_eq m c) _ _ _).1 hk
  refine (key _).trans ?_
  rw [show k 0 = t from Fin.ext h2]

/-- The output weights. -/
theorem v110_at (c : Dev nD) (d : Fin 128) (t : Fin 12) :
    (V m c main_v110 : S128x12.Idx → F .f32) (ValueIdx.ix2 d t) = (m (c, Proc.devRef .tc main_arg11) : S12x128x1.Idx → F .f32) (ValueIdx.ix3 t d 0) := by
  rw [v110_eq, V_arg11]
  exact column_at _ d t

/-- The output biases. -/
theorem v112_at (c : Dev nD) (t : Fin 12) :
    (V m c main_v112 : S1x12.Idx → F .f32) (ValueIdx.ix2 0 t) = (m (c, Proc.devRef .tc main_arg12) : S12x1.Idx → F .f32) (ValueIdx.ix2 t 0) := by
  have ht := t.isLt
  rw [v112_eq, V_arg12]
  pointwise
  refine congrArg (m (c, Proc.devRef .tc main_arg12) : S12x1.Idx → F .f32) (funext fun a => Fin.ext ?_)
  fin_cases a <;> simp <;> omega

end Cert.Proof.KernelIdeal

end
-- ==== Proof.BlocksIdeal.lean ====
/-
  The blocks that the pipeline fetches, at an index, in terms of the arrays as the region finds them.
-/
module

public import proofs.«01_k».proof.Proof.RunIdeal

@[expose] public section

noncomputable section

namespace Cert.Proof.KernelIdeal

open Cert.KernelIdeal Cert.KernelIdeal.Gen
open Idealize.ShloMosaic Idealize.ShloMosaic.TcCoe Idealize.ShloMosaic.Tactic

variable {F : FTy → Type} [FloatOps F]
variable (m : (ℓ : Loc nD τ sig) → Buf (Elt F) ℓ)

/-- A window that no transfer cuts moves every element. -/
theorem moved_whole (w : Fin 13) (t : Fin grid0.N) (hclip : ∀ a, ((cfg m).win w).clip (grid0.coords t) a = none) (y : ((cfg m).win w).block.Idx) :
    ((cfg m).win w).moved (grid0.coords t) y = true :=
  (((cfg m).win w).moved_iff _ y).mpr fun a => by
    have e : ((cfg m).win w).xsize (grid0.coords t) a = ((cfg m).win w).size a := by unfold Pipeline.Window.xsize; rw [hclip]
    rw [e]; exact (y a).isLt

/-- The slot row. -/
theorem blk1_at (c : Dev nD) (t : Fin grid0.N) (k : Fin 256) :
    (blk m c 1 t : S1x1x256.Idx → BitVec 32) (ValueIdx.ix3 0 0 k)
      = (V m c main_v97 : S391x1x256.Idx → BitVec 32) (ValueIdx.ix3 ⟨t.val, lt_of_lt_of_eq t.isLt N_0⟩ 0 k) := by
  have ht : t.val < 391 := lt_of_lt_of_eq t.isLt N_0
  unfold blk Pipeline.Window.fill
  rw [dif_pos (moved_whole m 1 t (fun _ => rfl) _), View.read_apply]
  refine congrArg (V m c main_v97 : S391x1x256.Idx → BitVec 32) (funext fun a => Fin.ext ?_)
  match a with
  | ⟨0, _⟩ =>
    show (BitVec.ofNat 32 (grid0.coords t 0).val).toNat * 1 + 1 * 0 = t.val
    rw [coord_val, BitVec.toNat_ofNat]; omega
  | ⟨1, _⟩ => rfl
  | ⟨2, _⟩ => show 0 * 256 + 1 * k.val = k.val; omega

/-- The rows of the nodes. -/
theorem blk0_at (c : Dev nD) (t : Fin grid0.N) (k : Fin 256) (d : Fin 128) (h : 256 * t.val + k.val < 100000) :
    (blk m c 0 t : S256x128.Idx → F .f32) (ValueIdx.ix2 k d) = (V m c main_arg0 : S100000x128.Idx → F .f32) (ValueIdx.ix2 ⟨256 * t.val + k.val, h⟩ d) := by
  have ht : t.val < 391 := lt_of_lt_of_eq t.isLt N_0
  have hm : ((cfg m).win 0).moved (grid0.coords t) (ValueIdx.ix2 k d) = true := by
    refine (((cfg m).win 0).moved_iff _ _).mpr fun a => ?_
    match a with
    | ⟨0, _⟩ =>
      show k.val < (Pipeline.Clip.of (BitVec.ofNat 32 (grid0.coords t 0).val).toNat 256 100000).extent 256
      rw [coord_val, BitVec.toNat_ofNat, Nat.mod_eq_of_lt (by omega)]
      unfold Pipeline.Clip.of
      split
      · exact k.isLt
      · show k.val < 100000 - _; omega
    | ⟨1, _⟩ => exact d.isLt
  unfold blk Pipeline.Window.fill
  refine (dif_pos hm).trans ?_
  rw [View.read_apply]
  refine congrArg (V m c main_arg0 : S100000x128.Idx → F .f32) (funext fun a => Fin.ext ?_)
  match a with
  | ⟨0, _⟩ =>
    show (BitVec.ofNat 32 (grid0.coords t 0).val).toNat * 256 + 1 * k.val = 256 * t.val + k.val
    rw [coord_val, BitVec.toNat_ofNat]; omega
  | ⟨1, _⟩ => show 0 * 128 + 1 * d.val = d.val; omega

/-- A coordinate of a block at the origin. -/
theorem origin (s n : ℕ) : 0 * s + 1 * n = n := by omega

/-- The other inputs are fetched whole. -/
theorem blk2_eq (c : Dev nD) (t : Fin grid0.N) : (blk m c 2 t : S128x16.Idx → F .f32) = (V m c main_v102 : S128x16.Idx → F .f32) := by
  refine funext fun y => ?_
  unfold blk Pipeline.Window.fill
  rw [dif_pos (moved_whole m 2 t (fun _ => rfl) _), View.read_apply]
  refine congrArg (V m c main_v102 : S128x16.Idx → F .f32) (funext fun a => Fin.ext ?_)
  fin_cases a <;> exact origin _ _

theorem blk3_eq (c : Dev nD) (t : Fin grid0.N) : (blk m c 3 t : S1x16.Idx → F .f32) = (V m c main_v108 : S1x16.Idx → F .f32) := by
  refine funext fun y => ?_
  unfold blk Pipeline.Window.fill
  rw [dif_pos (moved_whole m 3 t (fun _ => rfl) _), View.read_apply]
  refine congrArg (V m c main_v108 : S1x16.Idx → F .f32) (funext fun a => Fin.ext ?_)
  fin_cases a <;> exact origin _ _

theorem blk4_eq (c : Dev nD) (t : Fin grid0.N) : (blk m c 4 t : S12x128x128.Idx → F .f32) = (V m c main_arg5 : S12x128x128.Idx → F .f32) := by
  refine funext fun y => ?_
  unfold blk Pipeline.Window.fill
  rw [dif_pos (moved_whole m 4 t (fun _ => rfl) _), View.read_apply]
  refine congrArg (V m c main_arg5 : S12x128x128.Idx → F .f32) (funext fun a => Fin.ext ?_)
  fin_cases a <;> exact origin _ _

theorem blk5_eq (c : Dev nD) (t : Fin grid0.N) : (blk m c 5 t : S12x128.Idx → F .f32) = (V m c main_arg6 : S12x128.Idx → F .f32) := by
  refine funext fun y => ?_
  unfold blk Pipeline.Window.fill
  rw [dif_pos (moved_whole m 5 t (fun _ => rfl) _), View.read_apply]
  refine congrArg (V m c main_arg6 : S12x128.Idx → F .f32) (funext fun a => Fin.ext ?_)
  fin_cases a <;> exact origin _ _

theorem blk6_eq (c : Dev nD) (t : Fin grid0.N) : (blk m c 6 t : S12x128x128.Idx → F .f32) = (V m c main_arg7 : S12x128x128.Idx → F .f32) := by
  refine funext fun y => ?_
  unfold blk Pipeline.Window.fill
  rw [dif_pos (moved_whole m 6 t (fun _ => rfl) _), View.read_apply]
  refine congrArg (V m c main_arg7 : S12x128x128.Idx → F .f32) (funext fun a => Fin.ext ?_)
  fin_cases a <;> exact origin _ _

theorem blk7_eq (c : Dev nD) (t : Fin grid0.N) : (blk m c 7 t : S12x128.Idx → F .f32) = (V m c main_arg8 : S12x128.Idx → F .f32) := by
  refine funext fun y => ?_
  unfold blk Pipeline.Window.fill
  rw [dif_pos (moved_whole m 7 t (fun _ => rfl) _), View.read_apply]
  refine congrArg (V m c main_arg8 : S12x128.Idx → F .f32) (funext fun a => Fin.ext ?_)
  fin_cases a <;> exact origin _ _

theorem blk8_eq (c : Dev nD) (t : Fin grid0.N) : (blk m c 8 t : S12x128x128.Idx → F .f32) = (V m c main_arg9 : S12x128x128.Idx → F .f32) := by
  refine funext fun y => ?_
  unfold blk Pipeline.Window.fill
  rw [dif_pos (moved_whole m 8 t (fun _ => rfl) _), View.read_apply]
  refine congrArg (V m c main_arg9 : S12x128x128.Idx → F .f32) (funext fun a => Fin.ext ?_)
  fin_cases a <;> exact origin _ _

theorem blk9_eq (c : Dev nD) (t : Fin grid0.N) : (blk m c 9 t : S12x128.Idx → F .f32) = (V m c main_arg10 : S12x128.Idx → F .f32) := by
  refine funext fun y => ?_
  unfold blk Pipeline.Window.fill
  rw [dif_pos (moved_whole m 9 t (fun _ => rfl) _), View.read_apply]
  refine congrArg (V m c main_arg10 : S12x128.Idx → F .f32) (funext fun a => Fin.ext ?_)
  fin_cases a <;> exact origin _ _

theorem blk10_eq (c : Dev nD) (t : Fin grid0.N) : (blk m c 10 t : S128x12.Idx → F .f32) = (V m c main_v110 : S128x12.Idx → F .f32) := by
  refine funext fun y => ?_
  unfold blk Pipeline.Window.fill
  rw [dif_pos (moved_whole m 10 t (fun _ => rfl) _), View.read_apply]
  refine congrArg (V m c main_v110 : S128x12.Idx → F .f32) (funext fun a => Fin.ext ?_)
  fin_cases a <;> exact origin _ _

theorem blk11_eq (c : Dev nD) (t : Fin grid0.N) : (blk m c 11 t : S1x12.Idx → F .f32) = (V m c main_v112 : S1x12.Idx → F .f32) := by
  refine funext fun y => ?_
  unfold blk Pipeline.Window.fill
  rw [dif_pos (moved_whole m 11 t (fun _ => rfl) _), View.read_apply]
  refine congrArg (V m c main_v112 : S1x12.Idx → F .f32) (funext fun a => Fin.ext ?_)
  fin_cases a <;> exact origin _ _

end Cert.Proof.KernelIdeal

end
-- ==== Proof.PiecesIdeal.lean ====
/-
  The twelve weighted copies of the block side by side, at an index.
-/
module

public import proofs.«01_k».proof.Proof.Gen.KernelIdeal.Skeleton
public import Idealize.ShloMosaic.Lib.Pointwise

@[expose] public section

noncomputable section

namespace Cert.Proof.KernelIdeal

open Cert.KernelIdeal Cert.KernelIdeal.Gen
open Idealize.ShloMosaic

set_option maxHeartbeats 4000000 in
/-- Twelve pieces side by side, at a column of piece `t`. -/
theorem pieces_at {φ : FTy} (p : Fin 12 → FVec Ideal S256x128 φ) (k : Fin 256) (t : Fin 12) (e : Fin 128) :
    concatenate S256x1536 1 [⟨S256x128, p 0⟩, ⟨S256x128, p 1⟩, ⟨S256x128, p 2⟩, ⟨S256x128, p 3⟩, ⟨S256x128, p 4⟩, ⟨S256x128, p 5⟩, ⟨S256x128, p 6⟩,
        ⟨S256x128, p 7⟩, ⟨S256x128, p 8⟩, ⟨S256x128, p 9⟩, ⟨S256x128, p 10⟩, ⟨S256x128, p 11⟩]
        concatenates_S256x128_S256x128_S256x128_S256x128_S256x128_S256x128_S256x128_S256x128_S256x128_S256x128_S256x128_S256x128_S256x1536_d1
        (ValueIdx.ix2 k ⟨128 * t.val + e.val, by omega⟩) = p t (ValueIdx.ix2 k e) := by
  have he := e.isLt
  fin_cases t
  iterate 2
    · pointwise
      rfl
  all_goals
    pointwise
    repeat' first | rw [dif_pos (by omega)] | rw [dif_neg (by omega)]
    exact congrArg (p _) (congrArg (ValueIdx.ix2 k) (Fin.ext (by show (_ : ℕ) = e.val; simp only; omega)))

/-- The same of twelve named pieces. -/
theorem pieces_eq {φ : FTy} (v0 v1 v2 v3 v4 v5 v6 v7 v8 v9 v10 v11 : FVec Ideal S256x128 φ) (p : Fin 12 → FVec Ideal S256x128 φ) (h0 : v0 = p 0) (h1 : v1 = p 1)
    (h2 : v2 = p 2) (h3 : v3 = p 3) (h4 : v4 = p 4) (h5 : v5 = p 5) (h6 : v6 = p 6) (h7 : v7 = p 7) (h8 : v8 = p 8) (h9 : v9 = p 9) (h10 : v10 = p 10)
    (h11 : v11 = p 11) (k : Fin 256) (t : Fin 12) (e : Fin 128) :
    concatenate S256x1536 1 [⟨S256x128, v0⟩, ⟨S256x128, v1⟩, ⟨S256x128, v2⟩, ⟨S256x128, v3⟩, ⟨S256x128, v4⟩, ⟨S256x128, v5⟩, ⟨S256x128, v6⟩,
        ⟨S256x128, v7⟩, ⟨S256x128, v8⟩, ⟨S256x128, v9⟩, ⟨S256x128, v10⟩, ⟨S256x128, v11⟩]
        concatenates_S256x128_S256x128_S256x128_S256x128_S256x128_S256x128_S256x128_S256x128_S256x128_S256x128_S256x128_S256x128_S256x1536_d1
        (ValueIdx.ix2 k ⟨128 * t.val + e.val, by omega⟩) = p t (ValueIdx.ix2 k e) := by
  subst h0 h1 h2 h3 h4 h5 h6 h7 h8 h9 h10 h11
  exact pieces_at p k t e

end Cert.Proof.KernelIdeal

end
-- ==== Proof.CValIdeal.lean ====
/-
  The block's sums by slot at an index.
-/
module

public import proofs.«01_k».proof.Proof.StepIdeal
public import proofs.«01_k».proof.Proof.Spec
public import proofs.«01_k».proof.Proof.PiecesIdeal
public import Idealize.ShloMosaic.Lib.Pointwise

@[expose] public section

noncomputable section

namespace Cert.Proof.KernelIdeal

open Cert.KernelIdeal Cert.KernelIdeal.Gen
open Idealize.ShloMosaic

/-- The comparison of a row's number with the number of nodes. -/
theorem row_word {α : Type} (i k : ℕ) (hi : i < 391) (hk : k < 256) (x y : α) :
    Scalar.select (IntOp.cmpi .slt (IntOp.addi (Scalar.muli (BitVec.ofNat 32 i) 256#32) (BitVec.ofNat 32 k)) 100000#32) x y
      = if 256 * i + k < 100000 then x else y := by
  have hw : IntOp.addi (Scalar.muli (BitVec.ofNat 32 i) 256#32) (BitVec.ofNat 32 k) = BitVec.ofNat 32 (256 * i + k) := by
    show BitVec.ofNat 32 i * BitVec.ofNat 32 256 + BitVec.ofNat 32 k = _
    rw [← BitVec.ofNat_mul, ← BitVec.ofNat_add, Nat.mul_comm]
  rw [hw]
  have hs : (BitVec.ofNat 32 (256 * i + k)).slt 100000#32 = decide (256 * i + k < 100000) := by
    rw [BitVec.slt_eq_decide, BitVec.toInt_eq_toNat_of_lt (by rw [BitVec.toNat_ofNat]; omega), BitVec.toNat_ofNat, Nat.mod_eq_of_lt (by omega)]
    exact decide_eq_decide.2 (by rw [show (100000#32 : BitVec 32).toInt = 100000 from by decide]; omega)
  show Scalar.select (BitVec.ofBool ((BitVec.ofNat 32 (256 * i + k)).slt 100000#32)) x y = _
  rw [hs]
  by_cases h : 256 * i + k < 100000
  · rw [if_pos h, decide_eq_true h]; rfl
  · rw [if_neg h, decide_eq_false h]; rfl

/-- The masked block at an index. -/
theorem pay32_at (i : grid0.Coords) (X : Vec Ideal S256x128 .f32) (k : Fin 256) (e : Fin 128) :
    k0_pay32 i X (ValueIdx.ix2 k e) = if 256 * (i 0).val + k.val < 100000 then X (ValueIdx.ix2 k e) else 0 := by
  have hi : (i 0).val < 391 := (i 0).isLt
  pointwise [k0_pay32, k0_pay31]
  exact row_word (i 0).val k.val hi k.isLt _ _

/-- The gates of the block at an index. -/
theorem pay33_at (i : grid0.Coords) (X : Vec Ideal S256x128 .f32) (A : Vec Ideal S128x16 .f32) (B : Vec Ideal S1x16 .f32) (k : Fin 256) (t : Fin 16) :
    k0_pay33 i X A B (ValueIdx.ix2 k t)
      = if 256 * (i 0).val + k.val < 100000 then Ideal.logistic ((∑ d : Fin 128, X (ValueIdx.ix2 k d) * A (ValueIdx.ix2 d t)) + B (ValueIdx.ix2 0 t)) else 0 := by
  have hi : (i 0).val < 391 := (i 0).isLt
  pointwise [k0_pay33, k0_pay31]
  refine (row_word (i 0).val k.val hi k.isLt _ _).trans ?_
  by_cases h : 256 * (i 0).val + k.val < 100000
  · rw [if_pos h, if_pos h]
    refine congrArg (fun z => Ideal.logistic (z + B (ValueIdx.ix2 0 t))) (Finset.sum_congr rfl fun d _ => ?_)
    exact congrArg (· * A (ValueIdx.ix2 d t)) ((pay32_at i X k d).trans (if_pos h))
  · rw [if_neg h, if_neg h]

/-- The one-hot product at an index: row `j` sums the rows whose slot word is `j`. -/
theorem onehot_at (L : FVec Ideal S256x1536 .bf16) (R : Vec Ideal S1x1x256 .i32) (j : Fin 256) (c : Fin 1536) :
    (matmul dot_S256x256_S256x1536_S256x1536_1_0_0_1_n_n none
        (truncf .bf16 (sitofp .f32 (extui 32 (cmpi .eq (broadcastTo S256x256 (iota .tc S256x1 32 [0] iota_S256x1_d0_w32) broadcasts_S256x1_S256x256)
          (broadcastTo S256x256 (shapeCast S1x256 R shapeCasts_S1x1x256_S1x256) broadcasts_S1x256_S256x256)) natLt_1_32)) bitsLt_bf16_f32)
        L (constant S256x1536 .f32 0x00000000#32) : FVec Ideal S256x1536 .f32) (ValueIdx.ix2 j c)
      = ∑ k : Fin 256, if (R (ValueIdx.ix3 0 0 k)).toNat = j.val then L (ValueIdx.ix2 k c) else 0 := by
  pointwise
  refine Finset.sum_congr rfl fun k _ => ?_
  show (((BitVec.setWidth 32 (BitVec.ofBool (BitVec.ofNat 32 j.val == R (ValueIdx.ix3 0 0 k)))).toInt : ℝ) : EReal) * L (ValueIdx.ix2 k c) = _
  have hj := j.isLt
  by_cases h : (R (ValueIdx.ix3 0 0 k)).toNat = j.val
  · have e : BitVec.ofNat 32 j.val = R (ValueIdx.ix3 0 0 k) := BitVec.eq_of_toNat_eq (by rw [BitVec.toNat_ofNat, h]; omega)
    rw [if_pos h, e, beq_self_eq_true, show (BitVec.setWidth 32 (BitVec.ofBool true)).toInt = 1 from by decide, Int.cast_one, EReal.coe_one, one_mul]
  · have e : (BitVec.ofNat 32 j.val == R (ValueIdx.ix3 0 0 k)) = false := by
      rw [beq_eq_false_iff_ne]
      intro e
      exact h (by rw [← e, BitVec.toNat_ofNat]; omega)
    rw [if_neg h, e, show (BitVec.setWidth 32 (BitVec.ofBool false)).toInt = 0 from by decide, Int.cast_zero, EReal.coe_zero, zero_mul]

/-- Task `t`'s weighted copy of the block. -/
def weighted (i : grid0.Coords) (X : Vec Ideal S256x128 .f32) (A : Vec Ideal S128x16 .f32) (B : Vec Ideal S1x16 .f32) (t : Fin 12) : FVec Ideal S256x128 .f32 := fun y =>
  k0_pay33 i X A B (ValueIdx.ix2 (y 0) ⟨t.val, by omega⟩) * k0_pay32 i X y

/-- The same as the kernel writes it: a column of the gates times the block. -/
def piece (i : grid0.Coords) (X : Vec Ideal S256x128 .f32) (A : Vec Ideal S128x16 .f32) (B : Vec Ideal S1x16 .f32) (c : ℕ) (h : S256x16.Slices ![0, c] S256x1) :
    FVec Ideal S256x128 .f32 :=
  mulf (broadcastTo S256x128 (extractStridedSlice S256x1 ![0, c] (k0_pay33 i X A B) h) broadcasts_S256x1_S256x128) (k0_pay32 i X)

theorem piece_eq (i : grid0.Coords) (X : Vec Ideal S256x128 .f32) (A : Vec Ideal S128x16 .f32) (B : Vec Ideal S1x16 .f32) (t : Fin 12) (c : ℕ) (hc : t.val = c)
    (h : S256x16.Slices ![0, c] S256x1) : piece i X A B c h = weighted i X A B t := by
  subst hc
  funext y
  refine congrArg (· * k0_pay32 i X y) (congrArg (k0_pay33 i X A B) (funext fun b => Fin.ext ?_))
  match b with
  | ⟨0, _⟩ => exact Nat.zero_add _
  | ⟨1, _⟩ => rfl

/-- The product at an index, over the pieces. -/
theorem pay40_at (v13 : Vec Ideal S256x128 .f32) (v27 : FVec Ideal S256x16 .f32) (v30 v33 v36 v39 v42 : FVec Ideal S256x128 .f32) (v43 : FVec Ideal S256x1 .f32)
    (R : Vec Ideal S1x1x256 .i32) (j : Fin 256) (c : Fin 1536) :
    k0_pay40 v13 v27 v30 v33 v36 v39 v42 v43 R (ValueIdx.ix2 j c) = ∑ k : Fin 256, if (R (ValueIdx.ix3 0 0 k)).toNat = j.val then
      concatenate S256x1536 1 [⟨S256x128, v30⟩, ⟨S256x128, v33⟩, ⟨S256x128, v36⟩, ⟨S256x128, v39⟩, ⟨S256x128, v42⟩,
        ⟨S256x128, (mulf (broadcastTo S256x128 v43 broadcasts_S256x1_S256x128) v13 : FVec Ideal S256x128 .f32)⟩,
        ⟨S256x128, (mulf (broadcastTo S256x128 (extractStridedSlice S256x1 ![0, 6] v27 slices_S256x16_o0_6_S256x1) broadcasts_S256x1_S256x128) v13 : FVec Ideal S256x128 .f32)⟩,
        ⟨S256x128, (mulf (broadcastTo S256x128 (extractStridedSlice S256x1 ![0, 7] v27 slices_S256x16_o0_7_S256x1) broadcasts_S256x1_S256x128) v13 : FVec Ideal S256x128 .f32)⟩,
        ⟨S256x128, (mulf (broadcastTo S256x128 (extractStridedSlice S256x1 ![0, 8] v27 slices_S256x16_o0_8_S256x1) broadcasts_S256x1_S256x128) v13 : FVec Ideal S256x128 .f32)⟩,
        ⟨S256x128, (mulf (broadcastTo S256x128 (extractStridedSlice S256x1 ![0, 9] v27 slices_S256x16_o0_9_S256x1) broadcasts_S256x1_S256x128) v13 : FVec Ideal S256x128 .f32)⟩,
        ⟨S256x128, (mulf (broadcastTo S256x128 (extractStridedSlice S256x1 ![0, 10] v27 slices_S256x16_o0_10_S256x1) broadcasts_S256x1_S256x128) v13 : FVec Ideal S256x128 .f32)⟩,
        ⟨S256x128, (mulf (broadcastTo S256x128 (extractStridedSlice S256x1 ![0, 11] v27 slices_S256x16_o0_11_S256x1) broadcasts_S256x1_S256x128) v13 : FVec Ideal S256x128 .f32)⟩]
        concatenates_S256x128_S256x128_S256x128_S256x128_S256x128_S256x128_S256x128_S256x128_S256x128_S256x128_S256x128_S256x128_S256x1536_d1 (ValueIdx.ix2 k c) else 0 := by
  unfold k0_pay40
  refine (congrFun (shapeCast_self _ _) _).trans ?_
  exact onehot_at (truncf .bf16 _ bitsLt_bf16_f32) R j c

/-- The block's sums by slot at an index: column `128 t + e` of row `j` is the sum of task `t`'s weighted feature `e` over the nodes of slot `j`. -/
theorem cVal_at (i : grid0.Coords) (X : Vec Ideal S256x128 .f32) (A : Vec Ideal S128x16 .f32) (B : Vec Ideal S1x16 .f32) (R : Vec Ideal S1x1x256 .i32)
    (j : Fin 256) (t : Fin 12) (e : Fin 128) :
    cVal i X A B R (ValueIdx.ix2 j ⟨128 * t.val + e.val, by omega⟩)
      = ∑ k : Fin 256, if (R (ValueIdx.ix3 0 0 k)).toNat = j.val then
          (if 256 * (i 0).val + k.val < 100000 then
            Ideal.logistic ((∑ d : Fin 128, X (ValueIdx.ix2 k d) * A (ValueIdx.ix2 d ⟨t.val, by omega⟩)) + B (ValueIdx.ix2 0 ⟨t.val, by omega⟩)) * X (ValueIdx.ix2 k e)
          else 0) else 0 := by
  unfold cVal
  refine (pay40_at _ _ _ _ _ _ _ _ R j _).trans ?_
  refine Finset.sum_congr rfl fun k _ => ?_
  refine congrArg (fun z => if (R (ValueIdx.ix3 0 0 k)).toNat = j.val then z else 0) ?_
  refine (pieces_eq _ _ _ _ _ _ _ _ _ _ _ _ (weighted i X A B) (piece_eq i X A B 0 0 rfl _) (piece_eq i X A B 1 1 rfl _) (piece_eq i X A B 2 2 rfl _) (piece_eq i X A B 3 3 rfl _)
    (piece_eq i X A B 4 4 rfl _) (piece_eq i X A B 5 5 rfl slices_S256x16_o0_5_S256x1) (piece_eq i X A B 6 6 rfl _) (piece_eq i X A B 7 7 rfl _) (piece_eq i X A B 8 8 rfl _) (piece_eq i X A B 9 9 rfl _)
    (piece_eq i X A B 10 10 rfl _) (piece_eq i X A B 11 11 rfl _) k t e).trans ?_
  show k0_pay33 i X A B (ValueIdx.ix2 k ⟨t.val, _⟩) * k0_pay32 i X (ValueIdx.ix2 k e) = _
  rw [pay33_at, pay32_at]
  by_cases h : 256 * (i 0).val + k.val < 100000
  · rw [if_pos h, if_pos h, if_pos h]
  · rw [if_neg h, if_neg h, if_neg h, zero_mul]

end Cert.Proof.KernelIdeal

end
-- ==== Proof.AccIdeal.lean ====
/-
  The accumulator after every block at an index: the sums by graph of the nodes so far.
-/
module

public import proofs.«01_k».proof.Proof.SlotTablesIdeal
public import proofs.«01_k».proof.Proof.ParamsIdeal
public import proofs.«01_k».proof.Proof.BlocksIdeal
public import proofs.«01_k».proof.Proof.CValIdeal

@[expose] public section

noncomputable section

namespace Cert.Proof.KernelIdeal

open Cert.KernelIdeal Cert.KernelIdeal.Gen
open Idealize.ShloMosaic Idealize.ShloMosaic.TcCoe Idealize.ShloMosaic.Tactic

variable (m : (ℓ : Loc nD τ sig) → Buf (Elt Ideal) ℓ)

/-- The nodes' features, the gates' weights and the gates' biases. -/
abbrev argX : S100000x128.Idx → EReal := m (0, Proc.devRef .tc main_arg0)
abbrev argW : S12x128x1.Idx → EReal := m (0, Proc.devRef .tc main_arg3)
abbrev argB : S12x1.Idx → EReal := m (0, Proc.devRef .tc main_arg4)

/-- Node `n`'s feature `e`, weighted by task `t`'s gate; zero past the last node. -/
def feat (t : Fin 12) (e : Fin 128) (n : ℕ) : EReal :=
  if h : n < 100000 then
    Ideal.logistic ((∑ d : Fin 128, argX m (ValueIdx.ix2 ⟨n, h⟩ d)
        * argW m (ValueIdx.ix3 t d 0)) + argB m (ValueIdx.ix2 t 0))
      * argX m (ValueIdx.ix2 ⟨n, h⟩ e)
  else 0

/-- The block's sums by slot, from the nodes. -/
theorem cAt_at (h : InOrder m 0) (p : Fin grid0.N) (j : Fin 256) (t : Fin 12) (e : Fin 128) :
    cAt m 0 p (ValueIdx.ix2 j ⟨128 * t.val + e.val, by omega⟩)
      = ∑ k : Fin 256, if cnt (graph m 0) (256 * p.val + k.val + 1) - 1 - cnt (graph m 0) (256 * p.val) + shift (graph m 0) p.val = j.val
          then feat m t e (256 * p.val + k.val) else 0 := by
  have hp : p.val < 391 := lt_of_lt_of_eq p.isLt N_0
  unfold cAt
  refine (cVal_at _ _ _ _ _ j t e).trans (Finset.sum_congr rfl fun k _ => ?_)
  have hk := k.isLt
  have hR : ((blk m 0 1 p : S1x1x256.Idx → BitVec 32) (ValueIdx.ix3 0 0 k)).toNat
      = cnt (graph m 0) (256 * p.val + k.val + 1) - 1 - cnt (graph m 0) (256 * p.val) + shift (graph m 0) p.val := by
    refine (congrArg BitVec.toNat ((blk1_at m 0 p k).trans (v97_at m 0 h ⟨p.val, hp⟩ k))).trans ?_
    rw [BitVec.toNat_ofNat]
    refine Nat.mod_eq_of_lt ?_
    have h1 := slot_range (g := graph m 0) p.val k.val hk
    have h2 := cnt_small m 0 h (p.val + 1) (by omega)
    have h3 : shift (graph m 0) p.val < 8 := by unfold shift; split <;> omega
    show cnt (graph m 0) (256 * p.val + k.val + 1) - 1 - cnt (graph m 0) (256 * p.val) + shift (graph m 0) p.val < _
    omega
  refine if_congr (by rw [hR]) ?_ rfl
  rw [coord_val]
  unfold feat
  by_cases hn : 256 * p.val + k.val < 100000
  · rw [if_pos hn, dif_pos hn]
    have hx : ∀ d : Fin 128, (blk m 0 0 p : S256x128.Idx → EReal) (ValueIdx.ix2 k d) = argX m (ValueIdx.ix2 ⟨256 * p.val + k.val, hn⟩ d) :=
      fun d => (blk0_at m 0 p k d hn).trans (congrFun (V_arg0 m 0) _)
    have ha : ∀ d : Fin 128, (blk m 0 2 p : S128x16.Idx → EReal) (ValueIdx.ix2 d ⟨t.val, by omega⟩) = argW m (ValueIdx.ix3 t d 0) :=
      fun d => (congrFun (blk2_eq m 0 p) _).trans (v102_at m 0 d t)
    have hb : (blk m 0 3 p : S1x16.Idx → EReal) (ValueIdx.ix2 0 ⟨t.val, by omega⟩) = argB m (ValueIdx.ix2 t 0) :=
      (congrFun (blk3_eq m 0 p) _).trans (v108_at m 0 t)
    refine congrArg₂ (fun a b : EReal => a * b) (congrArg Ideal.logistic (congrArg₂ (fun a b : EReal => a + b) (Finset.sum_congr rfl fun d _ => ?_) hb)) (hx e)
    exact congrArg₂ (fun a b : EReal => a * b) (hx d) (ha d)
  · rw [if_neg hn, dif_neg hn]

/-- Rows of the block added to the accumulator, at an index. -/
theorem addRows_at (o k n : ℕ) (M : Vec Ideal S2024x1536 .f32) (C : Vec Ideal S256x1536 .f32) (d : Fin 2024) (q : Fin 1536) :
    addRows o k n M C (ValueIdx.ix2 d q) = M (ValueIdx.ix2 d q)
      + if o ≤ d.val ∧ d.val < o + n then C (ValueIdx.ix2 ⟨(k + (d.val - o)) % 256, Nat.mod_lt _ (by decide)⟩ q) else 0 := by
  by_cases hd : o ≤ d.val ∧ d.val < o + n
  · rw [if_pos hd]; exact if_pos hd
  · rw [if_neg hd, add_zero]; exact if_neg hd

/-- The loop's accumulator at an index: each slot's row added where the slot's graph is the row. -/
theorem slotRows_at (T : S2560.Idx → BitVec 32) (o : ℕ) (C : Vec Ideal S256x1536 .f32) (n : ℕ) (M : Vec Ideal S2024x1536 .f32) (d : Fin 2024) (q : Fin 1536) :
    slotRows T o C n M (ValueIdx.ix2 d q) = M (ValueIdx.ix2 d q)
      + ∑ j ∈ Finset.range n, if (T (ValueIdx.ix1 ⟨(o + j) % 2560, Nat.mod_lt _ (by decide)⟩)).toNat = d.val then C (ValueIdx.ix2 ⟨j % 256, Nat.mod_lt _ (by decide)⟩ q) else 0 := by
  induction n with
  | zero => rw [Finset.sum_range_zero, add_zero]; rfl
  | succ n ih =>
    rw [Finset.sum_range_succ, ← add_assoc, ← ih]
    refine (addRows_at _ _ _ _ _ d q).trans (congrArg _ ?_)
    by_cases hd : (T (ValueIdx.ix1 ⟨(o + n) % 2560, Nat.mod_lt _ (by decide)⟩)).toNat = d.val
    · rw [if_pos hd, if_pos ⟨by omega, by omega⟩]
      refine congrArg C (congrArg (fun z => ValueIdx.ix2 z q) (Fin.ext ?_))
      show (n + (d.val - _)) % 256 = n % 256
      rw [hd, Nat.sub_self, Nat.add_zero]
    · rw [if_neg hd, if_neg]
      rintro ⟨a, b⟩; exact hd (by omega)

/-- One step of the accumulator at an index: the block's nodes of the row's graph are added. -/
theorem step_at (h : InOrder m 0) (p : Fin grid0.N) (M : Vec Ideal S2024x1536 .f32) (d : Fin 2024) (t : Fin 12) (e : Fin 128) :
    stepMol (grid0.coords p) (tab1 m) (tab2 m) (tab3 m) (tab4 m) (cAt m 0 p) M (ValueIdx.ix2 d ⟨128 * t.val + e.val, by omega⟩)
      = cleared (grid0.coords p) M (ValueIdx.ix2 d ⟨128 * t.val + e.val, by omega⟩)
        + ∑ k : Fin 256, if graph m 0 (256 * p.val + k.val) = d.val then feat m t e (256 * p.val + k.val) else 0 := by
  have hp : p.val < 391 := lt_of_lt_of_eq p.isLt N_0
  have hy : ∀ k, 100000 ≤ 256 * p.val + k → feat m t e (256 * p.val + k) = 0 := fun k hk => dif_neg (by omega)
  have c0 := cnt_small m 0 h p.val (by omega)
  have c1 := cnt_small m 0 h (p.val + 1) (by omega)
  have ec : ∀ (T : S391.Idx → BitVec 32), at391 (grid0.coords p) T = T (ValueIdx.ix1 ⟨p.val, hp⟩) := fun T =>
    congrArg T (congrArg ValueIdx.ix1 (Fin.ext (coord_val p)))
  have e3 : at391 (grid0.coords p) (tab3 m) = if fast (graph m 0) p.val then 1#32 else 0#32 := (ec _).trans (v77_at m 0 h ⟨p.val, hp⟩)
  unfold stepMol slowMol fastMol
  by_cases hf : fast (graph m 0) p.val
  · rw [if_pos hf] at e3
    rw [e3, if_neg (by decide), if_pos rfl, addRows_at]
    refine congrArg _ ?_
    have hd := dst_lt m 0 h (cnt (graph m 0) (256 * p.val))
    have e4 : (at391 (grid0.coords p) (tab4 m)).toNat = dst (graph m 0) (cnt (graph m 0) (256 * p.val)) / 8 := by
      refine (congrArg BitVec.toNat ((ec _).trans (v93_at m 0 _ _ hd (v85_at m 0 h ⟨p.val, hp⟩)))).trans ?_
      rw [BitVec.toNat_ofNat]; omega
    rw [e4]
    refine Eq.trans ?_ (window_sum (g := graph m 0) p.val d.val (fun k => feat m t e (256 * p.val + k)) hy hf.2
      (fun j hj => good_between _ _ _ hf.1 _ (by omega) (by omega)))
    by_cases hw : 8 * (dst (graph m 0) (cnt (graph m 0) (256 * p.val)) / 8) ≤ d.val ∧ d.val < 8 * (dst (graph m 0) (cnt (graph m 0) (256 * p.val)) / 8) + 24
    · rw [if_pos hw, if_pos hw]
      refine (cAt_at m h p _ t e).trans (Finset.sum_congr rfl fun k _ => if_congr ?_ rfl rfl)
      rw [show shift (graph m 0) p.val = dst (graph m 0) (cnt (graph m 0) (256 * p.val)) % 8 from if_pos hf]
      show _ = (0 + (d.val - 8 * (dst (graph m 0) (cnt (graph m 0) (256 * p.val)) / 8))) % 256 ↔ _
      rw [Nat.zero_add, Nat.mod_eq_of_lt (show d.val - 8 * (dst (graph m 0) (cnt (graph m 0) (256 * p.val)) / 8) < 256 by omega)]
    · rw [if_neg hw, if_neg hw]
  · rw [if_neg hf] at e3
    rw [e3, if_pos rfl, if_neg (by decide), slotRows_at]
    refine congrArg _ ?_
    have elo : (lo (grid0.coords p) (tab1 m)).toNat = cnt (graph m 0) (256 * p.val) := by
      refine (congrArg BitVec.toNat ((congrArg (tab1 m) (congrArg ValueIdx.ix1 (Fin.ext (coord_val p)))).trans (v20_at m 0 ⟨p.val, by omega⟩))).trans ?_
      rw [BitVec.toNat_ofNat]
      exact Nat.mod_eq_of_lt (by show cnt (graph m 0) (256 * p.val) < _; omega)
    have ehi : (hi (grid0.coords p) (tab1 m)).toNat = cnt (graph m 0) (256 * (p.val + 1)) := by
      refine (congrArg BitVec.toNat ((congrArg (tab1 m) (congrArg ValueIdx.ix1 (Fin.ext (congrArg (· + 1) (coord_val p))))).trans (v20_at m 0 ⟨p.val + 1, by omega⟩))).trans ?_
      rw [BitVec.toNat_ofNat]
      exact Nat.mod_eq_of_lt (by show cnt (graph m 0) (256 * (p.val + 1)) < _; omega)
    rw [elo, ehi]
    have cw := cnt_add_le (g := graph m 0) (256 * p.val) 256
    refine Eq.trans (Finset.sum_congr rfl fun j hj => ?_) (slots_sum (g := graph m 0) p.val d.val (fun k => feat m t e (256 * p.val + k)) hy)
    have hj := Finset.mem_range.1 hj
    have hj2 : cnt (graph m 0) (256 * p.val) + j < 2560 := by omega
    have hj3 : j < 256 := by rw [show 256 * (p.val + 1) = 256 * p.val + 256 by omega] at hj; omega
    have hd := dst_lt m 0 h (cnt (graph m 0) (256 * p.val) + j)
    have eT : (tab2 m (ValueIdx.ix1 ⟨(cnt (graph m 0) (256 * p.val) + j) % 2560, Nat.mod_lt _ (by decide)⟩)).toNat = dst (graph m 0) (cnt (graph m 0) (256 * p.val) + j) := by
      refine (congrArg BitVec.toNat ((congrArg (tab2 m) (congrArg ValueIdx.ix1 (Fin.ext (Nat.mod_eq_of_lt hj2)))).trans (v41_at m 0 h ⟨_, hj2⟩))).trans ?_
      rw [BitVec.toNat_ofNat]
      exact Nat.mod_eq_of_lt (lt_trans hd (by decide))
    rw [eT]
    refine if_congr Iff.rfl ?_ rfl
    refine (congrArg (fun z => cAt m 0 p (ValueIdx.ix2 z ⟨128 * t.val + e.val, by omega⟩)) (Fin.ext (Nat.mod_eq_of_lt hj3) : _ = (⟨j, hj3⟩ : Fin 256))).trans ((cAt_at m h p _ t e).trans ?_)
    rw [show shift (graph m 0) p.val = 0 from if_neg hf]
    rfl

/-- The accumulator before point `n`: the sums by graph of the nodes of the blocks before. -/
theorem mol_at (h : InOrder m 0) (n : ℕ) (hn : n ≤ 391) (d : Fin 2024) (t : Fin 12) (e : Fin 128) :
    molAt m 0 n (ValueIdx.ix2 d ⟨128 * t.val + e.val, by omega⟩) = ∑ i ∈ Finset.range (256 * n), if graph m 0 i = d.val then feat m t e i else 0 := by
  induction n with
  | zero =>
    rw [Nat.mul_zero, Finset.sum_range_zero]
    show k0_pay30 (F := Ideal) _ = 0
    pointwise [k0_pay30]
  | succ n ih =>
    have hN : n < grid0.N := by rw [N_0]; omega
    rw [blocks_sum, ← ih (by omega)]
    have hm : molAt m 0 (n + 1) = stepMol (grid0.coords ⟨n, hN⟩) (tab1 m) (tab2 m) (tab3 m) (tab4 m) (cAt m 0 ⟨n, hN⟩) (molAt m 0 n) := by
      rw [molAt, dif_pos hN]
    rw [hm]
    refine (step_at m h ⟨n, hN⟩ _ d t e).trans (congrArg (· + _) ?_)
    unfold cleared
    rw [coord_val]
    by_cases h0 : n = 0
    · subst h0; rw [if_pos rfl]; rfl
    · rw [if_neg h0]

/-- The accumulator at the end: the sums by graph over all nodes. -/
theorem mol_final (h : InOrder m 0) (d : Fin 2000) (t : Fin 12) (e : Fin 128) :
    molAt m 0 391 (ValueIdx.ix2 ⟨d.val, by omega⟩ ⟨128 * t.val + e.val, by omega⟩)
      = ∑ n : Fin 100000, if ((m (0, Proc.devRef .tc main_arg2) : S100000.Idx → BitVec 32) (ValueIdx.ix1 n)).toNat = d.val then
          Ideal.logistic ((∑ a : Fin 128, argX m (ValueIdx.ix2 n a) * argW m (ValueIdx.ix3 t a 0)) + argB m (ValueIdx.ix2 t 0)) * argX m (ValueIdx.ix2 n e) else 0 := by
  refine (mol_at m h 391 le_rfl _ t e).trans ?_
  rw [show 256 * 391 = 100000 + 96 from rfl, Finset.sum_range_add, Finset.sum_range]
  rw [Finset.sum_eq_zero (s := Finset.range 96) (fun k _ => by
    rw [show feat m t e (100000 + k) = 0 from dif_neg (by omega), ite_self]), add_zero]
  refine Finset.sum_congr rfl fun n _ => ?_
  refine if_congr ?_ (dif_pos n.isLt) rfl
  unfold graph
  rw [dif_pos n.isLt]

end Cert.Proof.KernelIdeal

end
-- ==== Proof.HeadIdeal.lean ====
/-
  The kernel's heads at an index.
-/
module

public import proofs.«01_k».proof.Proof.HeadsIdeal
public import proofs.«01_k».proof.Proof.Spec
public import Idealize.ShloMosaic.Lib.Pointwise

@[expose] public section

noncomputable section

namespace Cert.Proof.KernelIdeal

open Cert.KernelIdeal Cert.KernelIdeal.Gen
open Idealize.ShloMosaic

/-- Task `t`'s prediction for graph `d` is the head of the accumulator's row `d`, columns `128 t …`. -/
theorem heads_at (M : Vec Ideal S2024x1536 .f32) (X9 : Vec Ideal S12x128x128 .f32) (X10 : Vec Ideal S12x128 .f32) (X11 : Vec Ideal S12x128x128 .f32)
    (X12 : Vec Ideal S12x128 .f32) (X13 : Vec Ideal S12x128x128 .f32) (X14 : Vec Ideal S12x128 .f32) (X15 : Vec Ideal S128x12 .f32) (X16 : Vec Ideal S1x12 .f32)
    (d : Fin 2000) (t : Fin 12) :
    headsOut M X9 X10 X11 X12 X13 X14 X15 X16 (ValueIdx.ix2 d t)
      = head (fun e => M (ValueIdx.ix2 ⟨d.val, by omega⟩ ⟨128 * t.val + e.val, by omega⟩)) (fun a b => X9 (ValueIdx.ix3 t a b)) (fun b => X10 (ValueIdx.ix2 t b))
          (fun a b => X11 (ValueIdx.ix3 t a b)) (fun b => X12 (ValueIdx.ix2 t b)) (fun a b => X13 (ValueIdx.ix3 t a b)) (fun b => X14 (ValueIdx.ix2 t b))
          (fun a => X15 (ValueIdx.ix2 a t)) (X16 (ValueIdx.ix2 0 t)) := by
  unfold headsOut headCol head dense
  pointwise [k0_pay3]

end Cert.Proof.KernelIdeal

end
-- ==== Proof.RefColIdeal.lean ====
/-
  The reference's result at an index.
-/
module

public import proofs.«01_k».proof.Proof.Gen.ReferenceIdeal
public import proofs.«01_k».proof.Proof.Spec
public import Idealize.ShloMosaic.Lib.Pointwise
public import Idealize.ShloMosaic.Lib.Routing.OpsPair
public import Idealize.ShloMosaic.Lib.ValueIdxCore

@[expose] public section

noncomputable section

namespace Cert.Proof.ReferenceIdeal

open Cert.ReferenceIdeal Cert.ReferenceIdeal.Gen
open Idealize.ShloMosaic

/-- The weighted features of one task, from the task's slices of the weights and the bias. -/
def refGated (X : FVec Ideal S100000x128 .f32) (a3 : FVec Ideal S1x128x1 .f32) (a4 : FVec Ideal S1x1 .f32) : FVec Ideal S100000x128 .f32 :=
  mulf (broadcastInDim S100000x128 ![0, 1] bcast_S100000x1_S100000x128_0_1 (Host.divf (broadcastInDim S100000x1 ![] bcast_S_S100000x1 (constant S_ .f32 0x3F800000#32)) (addf (broadcastInDim S100000x1 ![] bcast_S_S100000x1 (constant S_ .f32 0x3F800000#32)) (Host.exp (Host.negf (addf (Host.dotGeneral dot_S100000x128_S128x1_S100000x1_1_0_0_1_n_n none X (shapeCast _ a3 shapeCasts_S1x128x1_S128x1)) (broadcastInDim S100000x1 ![0, 1] bcast_S1x1_S100000x1_0_1 (broadcastInDim S1x1 ![1] bcast_S1_S1x1_1 (shapeCast _ a4 shapeCasts_S1x1_S1))))))))) X

/-- Their sums by graph. -/
def refSeg (G : IVec S100000 32) (U : FVec Ideal S100000x128 .f32) : FVec Ideal S2000x128 .f32 :=
  Host.scatterAdd scatter_S2000x128_S100000x1_S100000x128_1_0_0_1 (broadcastInDim S2000x128 ![] bcast_S_S2000x128 (constant S_ .f32 0x00000000#32)) (broadcastInDim S100000x1 ![0] bcast_S100000_S100000x1_0 G) U

/-- The layers and the output column of one task, from its slices. -/
def refHead (M : FVec Ideal S2000x128 .f32) (a5 : FVec Ideal S1x128x128 .f32) (a6 : FVec Ideal S1x128 .f32) (a7 : FVec Ideal S1x128x128 .f32) (a8 : FVec Ideal S1x128 .f32)
    (a9 : FVec Ideal S1x128x128 .f32) (a10 : FVec Ideal S1x128 .f32) (a11 : FVec Ideal S1x128x1 .f32) (a12 : FVec Ideal S1x1 .f32) : FVec Ideal S2000x1 .f32 :=
  addf (Host.dotGeneral dot_S2000x128_S128x1_S2000x1_1_0_0_1_n_n none (maximumf (addf (Host.dotGeneral dot_S2000x128_S128x128_S2000x128_1_0_0_1_n_n none (maximumf (addf (Host.dotGeneral dot_S2000x128_S128x128_S2000x128_1_0_0_1_n_n none (maximumf (addf (Host.dotGeneral dot_S2000x128_S128x128_S2000x128_1_0_0_1_n_n none M
    (shapeCast _ a5 shapeCasts_S1x128x128_S128x128)) (broadcastInDim S2000x128 ![0, 1] bcast_S1x128_S2000x128_0_1 (broadcastInDim S1x128 ![1] bcast_S128_S1x128_1 (shapeCast _ a6 shapeCasts_S1x128_S128)))) (broadcastInDim S2000x128 ![] bcast_S_S2000x128 (constant S_ .f32 0x00000000#32)))
    (shapeCast _ a7 shapeCasts_S1x128x128_S128x128)) (broadcastInDim S2000x128 ![0, 1] bcast_S1x128_S2000x128_0_1 (broadcastInDim S1x128 ![1] bcast_S128_S1x128_1 (shapeCast _ a8 shapeCasts_S1x128_S128)))) (broadcastInDim S2000x128 ![] bcast_S_S2000x128 (constant S_ .f32 0x00000000#32)))
    (shapeCast _ a9 shapeCasts_S1x128x128_S128x128)) (broadcastInDim S2000x128 ![0, 1] bcast_S1x128_S2000x128_0_1 (broadcastInDim S1x128 ![1] bcast_S128_S1x128_1 (shapeCast _ a10 shapeCasts_S1x128_S128)))) (broadcastInDim S2000x128 ![] bcast_S_S2000x128 (constant S_ .f32 0x00000000#32)))
    (shapeCast _ a11 shapeCasts_S1x128x1_S128x1)) (broadcastInDim S2000x1 ![0, 1] bcast_S1x1_S2000x1_0_1 (broadcastInDim S1x1 ![1] bcast_S1_S1x1_1 (shapeCast _ a12 shapeCasts_S1x1_S1)))

/-- A node's weighted feature. -/
theorem refGated_at (X : FVec Ideal S100000x128 .f32) (a3 : FVec Ideal S1x128x1 .f32) (a4 : FVec Ideal S1x1 .f32) (n : Fin 100000) (e : Fin 128) :
    refGated X a3 a4 (ValueIdx.ix2 n e)
      = Ideal.logistic ((∑ d : Fin 128, X (ValueIdx.ix2 n d) * a3 (ValueIdx.ix3 0 d 0)) + a4 (ValueIdx.ix2 0 0)) * X (ValueIdx.ix2 n e) := by
  unfold refGated
  pointwise
  rfl

/-- A row of the head. -/
theorem refHead_at (M : FVec Ideal S2000x128 .f32) (a5 : FVec Ideal S1x128x128 .f32) (a6 : FVec Ideal S1x128 .f32) (a7 : FVec Ideal S1x128x128 .f32) (a8 : FVec Ideal S1x128 .f32)
    (a9 : FVec Ideal S1x128x128 .f32) (a10 : FVec Ideal S1x128 .f32) (a11 : FVec Ideal S1x128x1 .f32) (a12 : FVec Ideal S1x1 .f32) (d : Fin 2000) :
    refHead M a5 a6 a7 a8 a9 a10 a11 a12 (ValueIdx.ix2 d 0)
      = head (fun e => M (ValueIdx.ix2 d e)) (fun a b => a5 (ValueIdx.ix3 0 a b)) (fun b => a6 (ValueIdx.ix2 0 b)) (fun a b => a7 (ValueIdx.ix3 0 a b)) (fun b => a8 (ValueIdx.ix2 0 b))
          (fun a b => a9 (ValueIdx.ix3 0 a b)) (fun b => a10 (ValueIdx.ix2 0 b)) (fun a => a11 (ValueIdx.ix3 0 a 0)) (a12 (ValueIdx.ix2 0 0)) := by
  unfold refHead head dense
  pointwise
  rfl

/-- An update lands at the row its index names, in its own column. -/
theorem lands (idx : IVec S100000x1 32) (n : Fin 100000) (e : Fin 128) (r : Fin 2000) (c : Fin 128) :
    (scatter_S2000x128_S100000x1_S100000x128_1_0_0_1).resultIdx? (ValueIdx.ix2 n e) idx = some (ValueIdx.ix2 r c)
      ↔ (idx (ValueIdx.ix2 n 0)).toInt = r.val ∧ e = c := by
  refine (Routing.resultIdx?_ix2 _ _ _ r c).trans ?_
  have h0 : (scatter_S2000x128_S100000x1_S100000x128_1_0_0_1).start (ValueIdx.ix2 n e) idx 0 = (idx (ValueIdx.ix2 n 0)).toInt := by
    unfold ScatterDims.start
    rw [dif_pos (by decide)]
    refine congrArg (fun z => (idx z).toInt) (funext fun b => ?_)
    match b with
    | ⟨0, _⟩ => rfl
    | ⟨1, _⟩ => rfl
  have h1 : (scatter_S2000x128_S100000x1_S100000x128_1_0_0_1).start (ValueIdx.ix2 n e) idx 1 = 0 := rfl
  have w0 : (scatter_S2000x128_S100000x1_S100000x128_1_0_0_1).window (ValueIdx.ix2 n e) 0 = 0 := rfl
  have w1 : (scatter_S2000x128_S100000x1_S100000x128_1_0_0_1).window (ValueIdx.ix2 n e) 1 = e.val := rfl
  rw [h0, h1, w0, w1]
  constructor
  · rintro ⟨a, b⟩; exact ⟨by omega, Fin.ext (by omega)⟩
  · rintro ⟨a, rfl⟩; exact ⟨by omega, by omega⟩

/-- The scatter is the sum over the nodes of the graph. -/
theorem refSeg_at (G : IVec S100000 32) (hG : ∀ n, (G (ValueIdx.ix1 n)).toNat < 2000) (U : FVec Ideal S100000x128 .f32) (g : ℕ → ℕ) (y : ℕ → EReal) (c : Fin 128)
    (hg : ∀ n : Fin 100000, (G (ValueIdx.ix1 n)).toNat = g n.val) (hy : ∀ n : Fin 100000, U (ValueIdx.ix2 n c) = y n.val) (r : Fin 2000) :
    refSeg G U (ValueIdx.ix2 r c) = segSum g 100000 r.val y := by
  show (Ideal.ofBits .f32 0x00000000#32 : EReal) + ∑ j ∈ Finset.univ.filter (fun j => (scatter_S2000x128_S100000x1_S100000x128_1_0_0_1).resultIdx? j
    (broadcastInDim S100000x1 ![0] bcast_S100000_S100000x1_0 G) = some (ValueIdx.ix2 r c)), U j = _
  rw [Ideal.ofBits_zero_f32, zero_add, Finset.sum_filter]
  refine (ValueIdx.sum_idx2 _).trans ?_
  unfold segSum
  rw [Finset.sum_range]
  refine Finset.sum_congr rfl fun n _ => ?_
  rw [Finset.sum_eq_single c]
  · have hb : broadcastInDim S100000x1 ![0] bcast_S100000_S100000x1_0 G (ValueIdx.ix2 n 0) = G (ValueIdx.ix1 n) := by pointwise; rfl
    have hl := hG n
    rw [← hy n, ← hg n]
    refine if_congr ((lands _ n c r c).trans ?_) rfl rfl
    rw [hb, BitVec.toInt_eq_toNat_of_lt (by omega)]
    constructor
    · rintro ⟨a, _⟩; omega
    · intro a; exact ⟨by omega, rfl⟩
  · intro e _ he
    exact if_neg fun h => he ((lands _ n e r c).1 h).2
  · intro h; exact absurd (Finset.mem_univ _) h

/-- Twelve columns side by side, at column `t`. -/
theorem columns_at (v0 v1 v2 v3 v4 v5 v6 v7 v8 v9 v10 v11 : FVec Ideal S2000x1 .f32) (f : Fin 12 → EReal) (d : Fin 2000)
    (h0 : v0 (ValueIdx.ix2 d 0) = f 0) (h1 : v1 (ValueIdx.ix2 d 0) = f 1) (h2 : v2 (ValueIdx.ix2 d 0) = f 2) (h3 : v3 (ValueIdx.ix2 d 0) = f 3)
    (h4 : v4 (ValueIdx.ix2 d 0) = f 4) (h5 : v5 (ValueIdx.ix2 d 0) = f 5) (h6 : v6 (ValueIdx.ix2 d 0) = f 6) (h7 : v7 (ValueIdx.ix2 d 0) = f 7)
    (h8 : v8 (ValueIdx.ix2 d 0) = f 8) (h9 : v9 (ValueIdx.ix2 d 0) = f 9) (h10 : v10 (ValueIdx.ix2 d 0) = f 10) (h11 : v11 (ValueIdx.ix2 d 0) = f 11) (t : Fin 12) :
    concatenate S2000x12 1 [⟨S2000x1, v0⟩, ⟨S2000x1, v1⟩, ⟨S2000x1, v2⟩, ⟨S2000x1, v3⟩, ⟨S2000x1, v4⟩, ⟨S2000x1, v5⟩, ⟨S2000x1, v6⟩, ⟨S2000x1, v7⟩, ⟨S2000x1, v8⟩,
      ⟨S2000x1, v9⟩, ⟨S2000x1, v10⟩, ⟨S2000x1, v11⟩]
      concatenates_S2000x1_S2000x1_S2000x1_S2000x1_S2000x1_S2000x1_S2000x1_S2000x1_S2000x1_S2000x1_S2000x1_S2000x1_S2000x12_d1 (ValueIdx.ix2 d t) = f t := by
  fin_cases t
  all_goals pointwise
  exacts [h0, h1, h2, h3, h4, h5, h6, h7, h8, h9, h10, h11]

/-- The reference's prediction of task `t` for graph `d`, from the arguments' contents. -/
def refAt (X : FVec Ideal S100000x128 .f32) (G : IVec S100000 32) (A3 : FVec Ideal S12x128x1 .f32) (A4 : FVec Ideal S12x1 .f32) (A5 : FVec Ideal S12x128x128 .f32)
    (A6 : FVec Ideal S12x128 .f32) (A7 : FVec Ideal S12x128x128 .f32) (A8 : FVec Ideal S12x128 .f32) (A9 : FVec Ideal S12x128x128 .f32) (A10 : FVec Ideal S12x128 .f32)
    (A11 : FVec Ideal S12x128x1 .f32) (A12 : FVec Ideal S12x1 .f32) (d : Fin 2000) (t : Fin 12) : EReal :=
  head (fun e => ∑ n : Fin 100000, if (G (ValueIdx.ix1 n)).toNat = d.val then
      Ideal.logistic ((∑ a : Fin 128, X (ValueIdx.ix2 n a) * A3 (ValueIdx.ix3 t a 0)) + A4 (ValueIdx.ix2 t 0)) * X (ValueIdx.ix2 n e) else 0)
    (fun a b => A5 (ValueIdx.ix3 t a b)) (fun b => A6 (ValueIdx.ix2 t b)) (fun a b => A7 (ValueIdx.ix3 t a b)) (fun b => A8 (ValueIdx.ix2 t b))
    (fun a b => A9 (ValueIdx.ix3 t a b)) (fun b => A10 (ValueIdx.ix2 t b)) (fun a => A11 (ValueIdx.ix3 t a 0)) (A12 (ValueIdx.ix2 t 0))

/-- One column of the reference's result. -/
theorem col_at (X : FVec Ideal S100000x128 .f32) (G : IVec S100000 32) (A3 : FVec Ideal S12x128x1 .f32) (A4 : FVec Ideal S12x1 .f32) (A5 : FVec Ideal S12x128x128 .f32)
    (A6 : FVec Ideal S12x128 .f32) (A7 : FVec Ideal S12x128x128 .f32) (A8 : FVec Ideal S12x128 .f32) (A9 : FVec Ideal S12x128x128 .f32) (A10 : FVec Ideal S12x128 .f32)
    (A11 : FVec Ideal S12x128x1 .f32) (A12 : FVec Ideal S12x1 .f32) (hG : ∀ n, (G (ValueIdx.ix1 n)).toNat < 2000) (t : Fin 12)
    (h3 : S12x128x1.Slices ![t.val, 0, 0] S1x128x1) (h2 : S12x1.Slices ![t.val, 0] S1x1) (h5 : S12x128x128.Slices ![t.val, 0, 0] S1x128x128)
    (h6 : S12x128.Slices ![t.val, 0] S1x128) (d : Fin 2000) :
    refHead (refSeg G (refGated X (extractStridedSlice S1x128x1 ![t.val, 0, 0] A3 h3) (extractStridedSlice S1x1 ![t.val, 0] A4 h2)))
      (extractStridedSlice S1x128x128 ![t.val, 0, 0] A5 h5) (extractStridedSlice S1x128 ![t.val, 0] A6 h6)
      (extractStridedSlice S1x128x128 ![t.val, 0, 0] A7 h5) (extractStridedSlice S1x128 ![t.val, 0] A8 h6)
      (extractStridedSlice S1x128x128 ![t.val, 0, 0] A9 h5) (extractStridedSlice S1x128 ![t.val, 0] A10 h6)
      (extractStridedSlice S1x128x1 ![t.val, 0, 0] A11 h3) (extractStridedSlice S1x1 ![t.val, 0] A12 h2) (ValueIdx.ix2 d 0)
      = refAt X G A3 A4 A5 A6 A7 A8 A9 A10 A11 A12 d t := by
  have s3 : ∀ (A : FVec Ideal S12x128x1 .f32) (a : Fin 128), extractStridedSlice S1x128x1 ![t.val, 0, 0] A h3 (ValueIdx.ix3 0 a 0) = A (ValueIdx.ix3 t a 0) := by
    intro A a
    refine congrArg A (funext fun b => Fin.ext ?_)
    match b with
    | ⟨0, _⟩ => rfl
    | ⟨1, _⟩ => exact Nat.zero_add _
    | ⟨2, _⟩ => rfl
  have s2 : ∀ (A : FVec Ideal S12x1 .f32), extractStridedSlice S1x1 ![t.val, 0] A h2 (ValueIdx.ix2 0 0) = A (ValueIdx.ix2 t 0) := by
    intro A
    refine congrArg A (funext fun b => Fin.ext ?_)
    match b with
    | ⟨0, _⟩ => rfl
    | ⟨1, _⟩ => rfl
  have s5 : ∀ (A : FVec Ideal S12x128x128 .f32) (a b : Fin 128), extractStridedSlice S1x128x128 ![t.val, 0, 0] A h5 (ValueIdx.ix3 0 a b) = A (ValueIdx.ix3 t a b) := by
    intro A a b
    refine congrArg A (funext fun c => Fin.ext ?_)
    match c with
    | ⟨0, _⟩ => rfl
    | ⟨1, _⟩ => exact Nat.zero_add _
    | ⟨2, _⟩ => exact Nat.zero_add _
  have s6 : ∀ (A : FVec Ideal S12x128 .f32) (a : Fin 128), extractStridedSlice S1x128 ![t.val, 0] A h6 (ValueIdx.ix2 0 a) = A (ValueIdx.ix2 t a) := by
    intro A a
    refine congrArg A (funext fun c => Fin.ext ?_)
    match c with
    | ⟨0, _⟩ => rfl
    | ⟨1, _⟩ => exact Nat.zero_add _
  refine (refHead_at _ _ _ _ _ _ _ _ _ d).trans ?_
  unfold refAt
  simp only [s3, s2, s5, s6]
  refine congrArg (fun s : Fin 128 → EReal => head s _ _ _ _ _ _ _ _) (funext fun e => ?_)
  refine (refSeg_at G hG _ (fun n => if h : n < 100000 then (G (ValueIdx.ix1 ⟨n, h⟩)).toNat else 0)
    (fun n => if h : n < 100000 then Ideal.logistic ((∑ a : Fin 128, X (ValueIdx.ix2 ⟨n, h⟩ a) * A3 (ValueIdx.ix3 t a 0)) + A4 (ValueIdx.ix2 t 0)) * X (ValueIdx.ix2 ⟨n, h⟩ e) else 0) e
    (fun n => by rw [dif_pos n.isLt]) (fun n => by
      refine (refGated_at _ _ _ n e).trans ?_
      rw [dif_pos n.isLt, s2]
      simp only [s3]) d).trans ?_
  unfold segSum
  rw [Finset.sum_range]
  refine Finset.sum_congr rfl fun n _ => ?_
  beta_reduce
  rw [dif_pos n.isLt, dif_pos n.isLt]

end Cert.Proof.ReferenceIdeal

end
-- ==== Proof.OutIdeal.lean ====
/-
  The result array: what the last point stores, and its entries.
-/
module

public import proofs.«01_k».proof.Proof.AccIdeal
public import proofs.«01_k».proof.Proof.HeadIdeal
public import proofs.«01_k».proof.Proof.RefColIdeal

@[expose] public section

noncomputable section

namespace Cert.Proof.KernelIdeal

open Cert.KernelIdeal Cert.KernelIdeal.Gen
open Idealize.ShloMosaic Idealize.ShloMosaic.TcCoe Idealize.ShloMosaic.Tactic

section Array

variable {F : FTy → Type} [FloatOps F]
variable (m : (ℓ : Loc nD τ sig) → Buf (Elt F) ℓ)

/-- The last point. -/
def lastPt : Fin grid0.N := ⟨390, by rw [N_0]; omega⟩

/-- The result's block is written back at the last point. -/
theorem flush_last : ((cfg m).win (12 : Fin 13)).flush lastPt = true := by
  have hN := N_0
  unfold Pipeline.Window.flush
  have h1 : lastPt.val + 1 = grid0.N := hN.symm
  have h0 : ((cfg m).win (12 : Fin 13)).isOut = true := rfl
  simp [h1, h0]

/-- What is written back is the last point's value. -/
theorem flushed_last (c : Dev nD) (t : Fin grid0.N) (ht : ((cfg m).win (12 : Fin 13)).flush t = true) :
    (dats m 0 c).flushed (12 : Fin 13) t = (((cfg m).win (12 : Fin 13)).blk t).view.read (Elt F) (outVal m c lastPt) := by
  have e : t = lastPt := Fin.ext (by
    by_contra hne
    exact absurd ht (by rw [flush_out m t hne]; decide))
  subst e
  show ((cfg m).win (12 : Fin 13)).cut (grid0.coords lastPt) ((dats m 0 c).after (12 : Fin 13) lastPt) = _
  rw [after_out]
  have hz : (fun a => ((cfg m).win (12 : Fin 13)).index lastPt a * ((cfg m).win (12 : Fin 13)).size a) = fun _ => 0 := by
    funext a; fin_cases a <;> rfl
  exact (Memref.read_access_unit_zero (Elt F) main_v113 hz (fun a => by rw [congrFun hz a]; simp) (outVal m c lastPt)).symm

/-- The result array ends at the last point's value. -/
theorem final_out (c : Dev nD) : (dats m 0 c).arrAt (12 : Fin 13) (cfg m).N = outVal m c lastPt := by
  refine (dats m 0 c).arrAt_eq_of_cover (12 : Fin 13) (outVal m c lastPt) (flushed_last m c) fun i => ⟨lastPt, flush_last m, ?_⟩
  show i ∈ ((View.whole main_v113).slice (((cfg m).win (12 : Fin 13)).rect lastPt)).set
  rw [View.set_slice_whole, Rect.mem_set_unit]
  intro a
  have hi := (i a).isLt
  fin_cases a
  · exact ⟨Nat.zero_le _, hi⟩
  · exact ⟨Nat.zero_le _, hi⟩

end Array

variable (m : (ℓ : Loc nD τ sig) → Buf (Elt Ideal) ℓ)

/-- An entry of the result: the head of the sums by graph. -/
theorem out_at (h : InOrder m 0) (d : Fin 2000) (t : Fin 12) :
    (outVal m 0 lastPt : S2000x12.Idx → EReal) (ValueIdx.ix2 d t)
      = Cert.Proof.ReferenceIdeal.refAt (m (0, Proc.devRef .tc main_arg0)) (m (0, Proc.devRef .tc main_arg2)) (m (0, Proc.devRef .tc main_arg3))
          (m (0, Proc.devRef .tc main_arg4)) (m (0, Proc.devRef .tc main_arg5)) (m (0, Proc.devRef .tc main_arg6)) (m (0, Proc.devRef .tc main_arg7))
          (m (0, Proc.devRef .tc main_arg8)) (m (0, Proc.devRef .tc main_arg9)) (m (0, Proc.devRef .tc main_arg10)) (m (0, Proc.devRef .tc main_arg11))
          (m (0, Proc.devRef .tc main_arg12)) d t := by
  unfold outVal
  rw [blk4_eq, blk5_eq, blk6_eq, blk7_eq, blk8_eq, blk9_eq, blk10_eq, blk11_eq, V_arg5, V_arg6, V_arg7, V_arg8, V_arg9, V_arg10]
  refine (heads_at _ _ _ _ _ _ _ _ _ d t).trans ?_
  rw [show (fun e : Fin 128 => molAt m 0 391 (ValueIdx.ix2 ⟨d.val, _⟩ ⟨128 * t.val + e.val, _⟩)) = _ from funext fun e => mol_final m h d t e,
    show (fun a : Fin 128 => (V m 0 main_v110 : S128x12.Idx → EReal) (ValueIdx.ix2 a t)) = _ from funext fun a => v110_at m 0 a t,
    v112_at]
  rfl

end Cert.Proof.KernelIdeal

end
-- ==== Proof.RefValIdeal.lean ====
/-
  The reference's composed term at an index.
-/
module

public import proofs.«01_k».proof.Proof.Gen.ReferenceIdeal.Run
public import proofs.«01_k».proof.Proof.RefColIdeal

@[expose] public section

noncomputable section

namespace Cert.Proof.ReferenceIdeal

open Cert.ReferenceIdeal Cert.ReferenceIdeal.Gen
open Idealize.ShloMosaic Idealize.ShloMosaic.TcCoe

set_option maxRecDepth 16384 in
set_option maxHeartbeats 4000000 in
/-- The reference's result at graph `d` and task `t`. -/
theorem res_at (W : Valuation τ sig (Elt Ideal)) (hG : ∀ n, ((W (Proc.devRef .tc main_arg2) : IVec S100000 32) (ValueIdx.ix1 n)).toNat < 2000) (d : Fin 2000) (t : Fin 12) :
    (Cert.ReferenceIdeal.Value.res_main_v648 (F := Ideal) W : FVec Ideal S2000x12 .f32) (ValueIdx.ix2 d t)
      = refAt (W (Proc.devRef .tc main_arg0)) (W (Proc.devRef .tc main_arg2)) (W (Proc.devRef .tc main_arg3)) (W (Proc.devRef .tc main_arg4)) (W (Proc.devRef .tc main_arg5))
          (W (Proc.devRef .tc main_arg6)) (W (Proc.devRef .tc main_arg7)) (W (Proc.devRef .tc main_arg8)) (W (Proc.devRef .tc main_arg9)) (W (Proc.devRef .tc main_arg10))
          (W (Proc.devRef .tc main_arg11)) (W (Proc.devRef .tc main_arg12)) d t := by
  have col := fun t h3 h2 h5 h6 => col_at (W (Proc.devRef .tc main_arg0)) (W (Proc.devRef .tc main_arg2)) (W (Proc.devRef .tc main_arg3)) (W (Proc.devRef .tc main_arg4)) (W (Proc.devRef .tc main_arg5))
          (W (Proc.devRef .tc main_arg6)) (W (Proc.devRef .tc main_arg7)) (W (Proc.devRef .tc main_arg8)) (W (Proc.devRef .tc main_arg9)) (W (Proc.devRef .tc main_arg10))
          (W (Proc.devRef .tc main_arg11)) (W (Proc.devRef .tc main_arg12)) hG t h3 h2 h5 h6 d
  unfold Cert.ReferenceIdeal.Value.res_main_v648
  exact columns_at _ _ _ _ _ _ _ _ _ _ _ _ _ d (col 0 _ _ _ _) (col 1 _ _ _ _) (col 2 _ _ _ _) (col 3 _ _ _ _) (col 4 _ _ _ _) (col 5 _ _ _ _)
    (col 6 _ _ _ _) (col 7 _ _ _ _) (col 8 _ _ _ _) (col 9 _ _ _ _) (col 10 _ _ _ _) (col 11 _ _ _ _) t

end Cert.Proof.ReferenceIdeal

end
-- ==== Proof.Same.lean ====
/-
  The two programs' values agree.
-/
module

public import proofs.«01_k».proof.Proof.OutIdeal
public import proofs.«01_k».proof.Proof.RefValIdeal
public import proofs.«01_k».proof.Proof.ArgsIdeal

@[expose] public section

noncomputable section

namespace Cert.Proof

open Idealize.ShloMosaic Idealize.ShloMosaic.TcCoe
open Cert.Proof.ReferenceIdeal

/-- Equal arguments have equal reference values. -/
theorem refAt_congr {X X' : FVec Ideal Cert.ReferenceIdeal.S100000x128 .f32} {G G' : IVec Cert.ReferenceIdeal.S100000 32}
    {A3 A3' : FVec Ideal Cert.ReferenceIdeal.S12x128x1 .f32} {A4 A4' : FVec Ideal Cert.ReferenceIdeal.S12x1 .f32}
    {A5 A5' : FVec Ideal Cert.ReferenceIdeal.S12x128x128 .f32} {A6 A6' : FVec Ideal Cert.ReferenceIdeal.S12x128 .f32}
    {A7 A7' : FVec Ideal Cert.ReferenceIdeal.S12x128x128 .f32} {A8 A8' : FVec Ideal Cert.ReferenceIdeal.S12x128 .f32}
    {A9 A9' : FVec Ideal Cert.ReferenceIdeal.S12x128x128 .f32} {A10 A10' : FVec Ideal Cert.ReferenceIdeal.S12x128 .f32}
    {A11 A11' : FVec Ideal Cert.ReferenceIdeal.S12x128x1 .f32} {A12 A12' : FVec Ideal Cert.ReferenceIdeal.S12x1 .f32} (d : Fin 2000) (t : Fin 12)
    (hX : X = X') (hG : G = G') (h3 : A3 = A3') (h4 : A4 = A4') (h5 : A5 = A5') (h6 : A6 = A6') (h7 : A7 = A7') (h8 : A8 = A8') (h9 : A9 = A9')
    (h10 : A10 = A10') (h11 : A11 = A11') (h12 : A12 = A12') :
    refAt X G A3 A4 A5 A6 A7 A8 A9 A10 A11 A12 d t = refAt X' G' A3' A4' A5' A6' A7' A8' A9' A10' A11' A12' d t := by
  rw [hX, hG, h3, h4, h5, h6, h7, h8, h9, h10, h11, h12]

/-- From graphs in order and equal arguments, the reference's result is the kernel's. -/
theorem same (m : (ℓ : Loc Cert.KernelIdeal.nD Cert.KernelIdeal.τ Cert.KernelIdeal.sig) → Buf (Elt Ideal) ℓ)
    (W : Valuation Cert.ReferenceIdeal.τ Cert.ReferenceIdeal.sig (Elt Ideal)) (h : Cert.Proof.KernelIdeal.InOrder m 0)
    (e0 : W (Proc.devRef .tc Cert.ReferenceIdeal.main_arg0) = m (0, Proc.devRef .tc Cert.KernelIdeal.main_arg0))
    (e2 : W (Proc.devRef .tc Cert.ReferenceIdeal.main_arg2) = m (0, Proc.devRef .tc Cert.KernelIdeal.main_arg2))
    (e3 : W (Proc.devRef .tc Cert.ReferenceIdeal.main_arg3) = m (0, Proc.devRef .tc Cert.KernelIdeal.main_arg3))
    (e4 : W (Proc.devRef .tc Cert.ReferenceIdeal.main_arg4) = m (0, Proc.devRef .tc Cert.KernelIdeal.main_arg4))
    (e5 : W (Proc.devRef .tc Cert.ReferenceIdeal.main_arg5) = m (0, Proc.devRef .tc Cert.KernelIdeal.main_arg5))
    (e6 : W (Proc.devRef .tc Cert.ReferenceIdeal.main_arg6) = m (0, Proc.devRef .tc Cert.KernelIdeal.main_arg6))
    (e7 : W (Proc.devRef .tc Cert.ReferenceIdeal.main_arg7) = m (0, Proc.devRef .tc Cert.KernelIdeal.main_arg7))
    (e8 : W (Proc.devRef .tc Cert.ReferenceIdeal.main_arg8) = m (0, Proc.devRef .tc Cert.KernelIdeal.main_arg8))
    (e9 : W (Proc.devRef .tc Cert.ReferenceIdeal.main_arg9) = m (0, Proc.devRef .tc Cert.KernelIdeal.main_arg9))
    (e10 : W (Proc.devRef .tc Cert.ReferenceIdeal.main_arg10) = m (0, Proc.devRef .tc Cert.KernelIdeal.main_arg10))
    (e11 : W (Proc.devRef .tc Cert.ReferenceIdeal.main_arg11) = m (0, Proc.devRef .tc Cert.KernelIdeal.main_arg11))
    (e12 : W (Proc.devRef .tc Cert.ReferenceIdeal.main_arg12) = m (0, Proc.devRef .tc Cert.KernelIdeal.main_arg12)) :
    (Cert.ReferenceIdeal.Value.res_main_v648 (F := Ideal) W : Cert.ReferenceIdeal.S2000x12.Idx → EReal)
      = (Cert.Proof.KernelIdeal.outVal m 0 Cert.Proof.KernelIdeal.lastPt : Cert.KernelIdeal.S2000x12.Idx → EReal) := by
  have hG : ∀ n, ((W (Proc.devRef .tc Cert.ReferenceIdeal.main_arg2) : IVec Cert.ReferenceIdeal.S100000 32) (ValueIdx.ix1 n)).toNat < 2000 := by
    intro n
    rw [e2]
    have hl := h.lt n.val n.isLt
    unfold Cert.Proof.KernelIdeal.graph at hl
    rw [dif_pos n.isLt] at hl
    exact hl
  funext x
  rw [ValueIdx.eq_ix2 x]
  exact (res_at W hG (x 0) (x 1)).trans ((refAt_congr (x 0) (x 1) e0 e2 e3 e4 e5 e6 e7 e8 e9 e10 e11 e12).trans
    (Cert.Proof.KernelIdeal.out_at m h (x 0) (x 1)).symm)

end Cert.Proof

end
-- ==== Proof.lean ====
/-
  The claim.
-/
module

public import proofs.«01_k».proof.Defs
public import proofs.«01_k».proof.Proof.Args
public import proofs.«01_k».proof.Proof.ArgsIdeal
public import proofs.«01_k».proof.Proof.OutIdeal
public import proofs.«01_k».proof.Proof.Same
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_graphs_in_order

@[expose] public section

noncomputable section

namespace Cert.Proof

open Idealize.ShloMosaic Idealize.ShloMosaic.TcCoe

/-- The kernel runs from graphs in order and leaves its arguments and the counters as they were. -/
theorem kernel_frame : Cert.quiescent_Kernel (hKernel := Cert.Kernel.Gen.facts) (hPre_graphs_in_order := Cert.Pre_graphs_in_order.Gen.facts) :=
  fun m ρ h => (θ_run _ _ _).mono (fun r hr => ⟨fun c => Kernel.args m r hr.1 c, hr.2⟩)
    (Kernel.runs m ρ (Kernel.inOrder_of_pre m 0 _ _ _ _ _ _ _ _ _ _ _ _ (h 0)))

/-- So does the idealized kernel. -/
theorem kernelIdeal_frame : Cert.quiescent_KernelIdeal (hKernelIdeal := Cert.KernelIdeal.Gen.facts) (hPre_graphs_in_order := Cert.Pre_graphs_in_order.Gen.facts) :=
  fun m ρ h => (θ_run _ _ _).mono (fun r hr => ⟨fun c => KernelIdeal.args m r hr.1 c, hr.2⟩)
    (KernelIdeal.runs m ρ (KernelIdeal.inOrder_of_pre m 0 _ _ _ _ _ _ _ _ _ _ _ _ (h 0)))

/-- The reference runs from every memory and leaves its arguments and the counters as they were. -/
theorem reference_frame : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- In particular it does so under the precondition. -/
theorem reference_frame_pre : Cert.quiescent_ReferenceIdeal_pre_graphs_in_order (hReferenceIdeal := Cert.ReferenceIdeal.Gen.facts)
    (hPre_graphs_in_order := Cert.Pre_graphs_in_order.Gen.facts) := fun m ρ _ => reference_frame m ρ trivial

/-- From graphs in order and equal arguments, the idealized kernel and the reference both run and end with the same result. -/
theorem kernel_reference : Cert.algebraic_KernelIdeal_ReferenceIdeal (hKernelIdeal := Cert.KernelIdeal.Gen.facts)
    (hReferenceIdeal := Cert.ReferenceIdeal.Gen.facts) (hPre_graphs_in_order := Cert.Pre_graphs_in_order.Gen.facts) := by
  intro m g m' g' hpre hag
  have hin : KernelIdeal.InOrder m 0 := KernelIdeal.inOrder_of_pre m 0 _ _ _ _ _ _ _ _ _ _ _ _ (hpre 0)
  refine ⟨fun c => KernelIdeal.outVal m c KernelIdeal.lastPt, ?_, ?_⟩
  · exact (θ_run _ _ _).mono (fun r hr c => ⟨((hr.1 c).1 (12 : Fin 13)).trans (KernelIdeal.final_out m c), KernelIdeal.args m r hr.1 c⟩)
      (KernelIdeal.runs m g hin)
  · refine (θ_run Cert.ReferenceIdeal.defs _ _).mono (fun r h c => ⟨(h c).1.trans ?_, (h c).2⟩) (Cert.ReferenceIdeal.Value.run (F := Ideal) m' g')
    have hc : c = (0 : Fin 1) := Subsingleton.elim (α := Fin 1) c 0
    subst hc
    obtain ⟨e0, _, e2, e3, e4, e5, e6, e7, e8, e9, e10, e11, e12⟩ := hag (0 : Fin 1)
    exact same m _ hin e0 e2 e3 e4 e5 e6 e7 e8 e9 e10 e11 e12

/-- The claim: the frames, that the idealized kernel is the kernel's own text, and that its result is the reference's. -/
theorem claim : Cert.Claim :=
  ⟨Cert.Kernel.Gen.facts, Cert.KernelIdeal.Gen.facts, Cert.ReferenceIdeal.Gen.facts, Cert.Pre_graphs_in_order.Gen.facts,
    kernel_frame, kernelIdeal_frame, reference_frame, reference_frame_pre, trivial, kernel_reference⟩

end Cert.Proof

end
